-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up [hPre_rank_in_range : Cert.Pre_rank_in_range.Facts] (m : (ℓ : Loc Cert.Up.nD Cert.Up.τ Cert.Up.sig) → Buf (Elt Bits) ℓ) : Prop :=
  ∀ c : Dev Cert.Up.nD,
    (Cert.Pre_rank_in_range.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5)) (m ((c.tc : Thread Cert.Up.nD Cert.Up.τ).loc Cert.Up.main_arg6))) = (fun _ => 1#1)

def Pre_UpIdeal [hPre_rank_in_range : Cert.Pre_rank_in_range.Facts] (m : (ℓ : Loc Cert.UpIdeal.nD Cert.UpIdeal.τ Cert.UpIdeal.sig) → Buf (Elt Ideal) ℓ) : Prop :=
  ∀ c : Dev Cert.UpIdeal.nD,
    (Cert.Pre_rank_in_range.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_rank_in_range [hPre_rank_in_range : Cert.Pre_rank_in_range.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_rank_in_range.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6))) = (fun _ => 1#1)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Up [hUp : Cert.Up.Facts] [hPre_rank_in_range : Cert.Pre_rank_in_range.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6))
      ∧ r.2.sem = fun _ => 0)

def quiescent_UpIdeal [hUpIdeal : Cert.UpIdeal.Facts] [hPre_rank_in_range : Cert.Pre_rank_in_range.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0)

def quiescent_UpRefIdeal_pre_rank_in_range [hUpRefIdeal : Cert.UpRefIdeal.Facts] [hPre_rank_in_range : Cert.Pre_rank_in_range.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_rank_in_range m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0_0) = v0 c
          ∧ r.2.mem ((c.tc : Thread Cert.DownRefIdeal.nD Cert.DownRefIdeal.τ).loc Cert.DownRefIdeal.main_v0_1) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Up_UpIdeal : Prop :=
  True

def algebraic_UpIdeal_UpRefIdeal [hUpIdeal : Cert.UpIdeal.Facts] [hUpRefIdeal : Cert.UpRefIdeal.Facts] [hPre_rank_in_range : Cert.Pre_rank_in_range.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)
      ∧ m' ((c.tc : Thread Cert.UpRefIdeal.nD Cert.UpRefIdeal.τ).loc Cert.UpRefIdeal.main_arg6) = m ((c.tc : Thread Cert.UpIdeal.nD Cert.UpIdeal.τ).loc Cert.UpIdeal.main_arg6)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)) (v3 : (c : Dev Cert.UpIdeal.nD) → Buf (Elt Ideal) ((c.tc : Thread Cert.UpIdeal.nD Cert.UpIdeal.τ).loc Cert.UpIdeal.main_v0_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_v0_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v0_0) = v0 c
          ∧ r.2.mem ((c.tc : Thread Cert.UpRefIdeal.nD Cert.UpRefIdeal.τ).loc Cert.UpRefIdeal.main_v0_1) = v1 c
          ∧ r.2.mem ((c.tc : Thread Cert.UpRefIdeal.nD Cert.UpRefIdeal.τ).loc Cert.UpRefIdeal.main_v0_2) = v2 c
          ∧ r.2.mem ((c.tc : Thread Cert.UpRefIdeal.nD Cert.UpRefIdeal.τ).loc Cert.UpRefIdeal.main_v0_3) = v3 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5)
          ∧ r.2.mem ((c.tc : Thread Cert.UpRefIdeal.nD Cert.UpRefIdeal.τ).loc Cert.UpRefIdeal.main_arg6) = m' ((c.tc : Thread Cert.UpRefIdeal.nD Cert.UpRefIdeal.τ).loc Cert.UpRefIdeal.main_arg6))

def Claim : Prop :=
  ∃ (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hPre_rank_in_range : Cert.Pre_rank_in_range.Facts),
    quiescent_Down (hDown := hDown)
    ∧ quiescent_DownIdeal (hDownIdeal := hDownIdeal)
    ∧ quiescent_DownRefIdeal (hDownRefIdeal := hDownRefIdeal)
    ∧ quiescent_Up (hUp := hUp) (hPre_rank_in_range := hPre_rank_in_range)
    ∧ quiescent_UpIdeal (hUpIdeal := hUpIdeal) (hPre_rank_in_range := hPre_rank_in_range)
    ∧ quiescent_UpRefIdeal (hUpRefIdeal := hUpRefIdeal)
    ∧ quiescent_UpRefIdeal_pre_rank_in_range (hUpRefIdeal := hUpRefIdeal) (hPre_rank_in_range := hPre_rank_in_range)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal) (hPre_rank_in_range := hPre_rank_in_range)
-- ==== Pre_rank_in_range.lean ====
abbrev S1 : Shape := ⟨1, ![1]⟩
abbrev S1024x8192 : Shape := ⟨2, ![1024, 8192]⟩
abbrev S1024x64 : Shape := ⟨2, ![1024, 64]⟩
abbrev S7x1024x8192 : Shape := ⟨3, ![7, 1024, 8192]⟩
abbrev S7x1024x64 : Shape := ⟨3, ![7, 1024, 64]⟩
abbrev S8192x7168 : Shape := ⟨2, ![8192, 7168]⟩
abbrev S64x56 : Shape := ⟨2, ![64, 56]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S1024x8192 .fp8e4m3) (main_arg2 : FVec F S1024x64 .f32) (main_arg3 : FVec F S7x1024x8192 .fp8e4m3) (main_arg4 : FVec F S7x1024x64 .f32) (main_arg5 : FVec F S8192x7168 .fp8e4m3) (main_arg6 : FVec F S64x56 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Down.lean ====
abbrev S8192x3584 : Shape := ⟨2, ![8192, 3584]⟩
abbrev S8192x28 : Shape := ⟨2, ![8192, 28]⟩
abbrev S3584x8192 : Shape := ⟨2, ![3584, 8192]⟩
abbrev S28x64 : Shape := ⟨2, ![28, 64]⟩
abbrev S8192x8192 : Shape := ⟨2, ![8192, 8192]⟩
abbrev S8192x64 : Shape := ⟨2, ![8192, 64]⟩
abbrev S1024x3584 : Shape := ⟨2, ![1024, 3584]⟩
abbrev S1024x28 : Shape := ⟨2, ![1024, 28]⟩
abbrev S3584x512 : Shape := ⟨2, ![3584, 512]⟩
abbrev S1024x512 : Shape := ⟨2, ![1024, 512]⟩
abbrev S1024x64 : Shape := ⟨2, ![1024, 64]⟩
abbrev S1024 : Shape := ⟨1, ![1024]⟩
abbrev S1024x1 : Shape := ⟨2, ![1024, 1]⟩
abbrev S1024x128 : Shape := ⟨2, ![1024, 128]⟩
abbrev S1x1 : Shape := ⟨2, ![1, 1]⟩
abbrev S128x128 : Shape := ⟨2, ![128, 128]⟩

abbrev nBuf : Space → Nat
  | .hbm => 6
  | .vmem => 12
  | .smem => 1
  | _ => 0

abbrev bufTy : (tb : Table) → Fin (tcTables nBuf tb) → BufTy
  | .hbm, ⟨0, _⟩ => ⟨S8192x3584, .fp8e4m3⟩
  | .hbm, ⟨1, _⟩ => ⟨S8192x28, .f32⟩
  | .hbm, ⟨2, _⟩ => ⟨S3584x8192, .fp8e4m3⟩
  | .hbm, ⟨3, _⟩ => ⟨S28x64, .f32⟩
  | .hbm, ⟨4, _⟩ => ⟨S8192x8192, .fp8e4m3⟩
  | .hbm, ⟨5, _⟩ => ⟨S8192x64, .f32⟩
  | .local _ .vmem, ⟨0, _⟩ => ⟨S1024x3584, .fp8e4m3⟩
  | .local _ .vmem, ⟨1, _⟩ => ⟨S1024x3584, .fp8e4m3⟩
  | .local _ .vmem, ⟨2, _⟩ => ⟨S1024x28, .f32⟩
  | .local _ .vmem, ⟨3, _⟩ => ⟨S1024x28, .f32⟩
  | .local _ .vmem, ⟨4, _⟩ => ⟨S3584x512, .fp8e4m3⟩
  | .local _ .vmem, ⟨5, _⟩ => ⟨S3584x512, .fp8e4m3⟩
  | .local _ .vmem, ⟨6, _⟩ => ⟨S1024x512, .fp8e4m3⟩
  | .local _ .vmem, ⟨7, _⟩ => ⟨S1024x512, .fp8e4m3⟩
  | .local _ .vmem, ⟨8, _⟩ => ⟨S1024x64, .f32⟩
  | .local _ .vmem, ⟨9, _⟩ => ⟨S1024x64, .f32⟩
  | .local _ .vmem, ⟨10, _⟩ => ⟨S1024x3584, .bf16⟩
  | .local _ .vmem, ⟨11, _⟩ => ⟨S3584x512, .bf16⟩
  | .local _ .smem, ⟨0, _⟩ => ⟨S28x64, .f32⟩
  | _, _ => ⟨S8192x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_97 : BitVec 32 := 0#32
  let c28_i32_98 : BitVec 32 := 28#32
  let v324 : BitVec 32 := Scalar.addi c0_i32_97 c28_i32_98
  let c1_i32_99 : BitVec 32 := 1#32
  ⟨c0_i32_97, v324, c1_i32_99⟩
def k0_mult1 (k0_t1 : Fin k0_t1_loop.trips) : BitVec 32 :=
  let c0_i32_97 : BitVec 32 := 0#32
  let c1_i32_99 : BitVec 32 := 1#32
  let arg10 : BitVec 32 := Scf.iv c0_i32_97 c1_i32_99 k0_t1
  let c128_i32 : BitVec 32 := 128#32
  let v327 : BitVec 32 := Scalar.muli arg10 c128_i32
  v327
def k0_off1 (k0_t1 : Fin k0_t1_loop.trips) : Fin 2 → Nat :=
  let c0_108 : Index := 0#32
  let c0_i32_97 : BitVec 32 := 0#32
  let c1_i32_99 : BitVec 32 := 1#32
  let arg10 : BitVec 32 := Scf.iv c0_i32_97 c1_i32_99 k0_t1
  let c128_i32 : BitVec 32 := 128#32
  let v327 : BitVec 32 := Scalar.muli arg10 c128_i32
  let v328 : BitVec 32 := v327
  let v340 : Index := Scalar.indexCast v328
  ![0, v340.toNat]
@[reducible] def k0_t2_loop : Scf.Loop 32 :=
  let c0_i32_1 : BitVec 32 := 0#32
  let c28_i32 : BitVec 32 := 28#32
  let v3 : BitVec 32 := Scalar.addi c0_i32_1 c28_i32
  let c1_i32 : BitVec 32 := 1#32
  ⟨c0_i32_1, v3, c1_i32⟩
def k0_mult2 (k0_t2 : Fin k0_t2_loop.trips) : BitVec 32 :=
  let c0_i32_1 : BitVec 32 := 0#32
  let c1_i32 : BitVec 32 := 1#32
  let arg10 : BitVec 32 := Scf.iv c0_i32_1 c1_i32 k0_t2
  let c128_i32 : BitVec 32 := 128#32
  let v324 : BitVec 32 := Scalar.muli arg10 c128_i32
  v324
def k0_off2 (i : grid0.Coords) (k0_t2 : Fin k0_t2_loop.trips) (c0_i32_98 : BitVec 32) : Fin 2 → Nat :=
  let c0_i32_1 : BitVec 32 := 0#32
  let c1_i32 : BitVec 32 := 1#32
  let arg10 : BitVec 32 := Scf.iv c0_i32_1 c1_i32 k0_t2
  let v328 : Index := Scalar.indexCast arg10
  let arg1 : BitVec 32 := BitVec.ofNat 32 (i 1).val
  let c4_i32_97 : BitVec 32 := 4#32
  let v326 : BitVec 32 := Scalar.muli arg1 c4_i32_97
  let v327 : BitVec 32 := Scalar.addi v326 c0_i32_98
  let v329 : Index := Scalar.indexCast v327
  ![v328.toNat, v329.toNat]
def k0_off3 (k0_t2 : Fin k0_t2_loop.trips) : Fin 2 → Nat :=
  let c0_i32_1 : BitVec 32 := 0#32
  let c1_i32 : BitVec 32 := 1#32
  let arg10 : BitVec 32 := Scf.iv c0_i32_1 c1_i32 k0_t2
  let c128_i32 : BitVec 32 := 128#32
  let v324 : BitVec 32 := Scalar.muli arg10 c128_i32
  let v325 : BitVec 32 := v324
  let v333 : Index := Scalar.indexCast v325
  let c0_99 : Index := 0#32
  ![v333.toNat, 0]
def k0_off4 (k0_t2 : Fin k0_t2_loop.trips) : Fin 2 → Nat :=
  let c0_i32_1 : BitVec 32 := 0#32
  let c1_i32 : BitVec 32 := 1#32
  let arg10 : BitVec 32 := Scf.iv c0_i32_1 c1_i32 k0_t2
  let c128_i32 : BitVec 32 := 128#32
  let v324 : BitVec 32 := Scalar.muli arg10 c128_i32
  let v325 : BitVec 32 := v324
  let v348 : Index := Scalar.indexCast v325
  let c128_103 : Index := 128#32
  ![v348.toNat, 128]
def k0_off5 (k0_t2 : Fin k0_t2_loop.trips) : Fin 2 → Nat :=
  let c0_i32_1 : BitVec 32 := 0#32
  let c1_i32 : BitVec 32 := 1#32
  let arg10 : BitVec 32 := Scf.iv c0_i32_1 c1_i32 k0_t2
  let c128_i32 : BitVec 32 := 128#32
  let v324 : BitVec 32 := Scalar.muli arg10 c128_i32
  let v325 : BitVec 32 := v324
  let v363 : Index := Scalar.indexCast v325
  let c256_107 : Index := 256#32
  ![v363.toNat, 256]
def k0_off6 (k0_t2 : Fin k0_t2_loop.trips) : Fin 2 → Nat :=
  let c0_i32_1 : BitVec 32 := 0#32
  let c1_i32 : BitVec 32 := 1#32
  let arg10 : BitVec 32 := Scf.iv c0_i32_1 c1_i32 k0_t2
  let c128_i32 : BitVec 32 := 128#32
  let v324 : BitVec 32 := Scalar.muli arg10 c128_i32
  let v325 : BitVec 32 := v324
  let v378 : Index := Scalar.indexCast v325
  let c384_111 : Index := 384#32
  ![v378.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .smem S28x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DownRefIdeal.lean ====
abbrev S8192x3584 : Shape := ⟨2, ![8192, 3584]⟩
abbrev S8192x28 : Shape := ⟨2, ![8192, 28]⟩
abbrev S3584x8192 : Shape := ⟨2, ![3584, 8192]⟩
abbrev S28x64 : Shape := ⟨2, ![28, 64]⟩
abbrev S8192x8192 : Shape := ⟨2, ![8192, 8192]⟩
abbrev S8192x64 : Shape := ⟨2, ![8192, 64]⟩
abbrev S8192x28x128 : Shape := ⟨3, ![8192, 28, 128]⟩
abbrev S8192x28x1 : Shape := ⟨3, ![8192, 28, 1]⟩
abbrev S28x128x64x128 : Shape := ⟨4, ![28, 128, 64, 128]⟩
abbrev S28x1x64x1 : Shape := ⟨4, ![28, 1, 64, 1]⟩
abbrev S8192x64x128 : Shape := ⟨3, ![8192, 64, 128]⟩
abbrev S8192x64x1 : Shape := ⟨3, ![8192, 64, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x3584, .fp8e4m3⟩
  | .hbm, ⟨1, _⟩ => ⟨S8192x28, .f32⟩
  | .hbm, ⟨2, _⟩ => ⟨S3584x8192, .fp8e4m3⟩
  | .hbm, ⟨3, _⟩ => ⟨S28x64, .f32⟩
  | .hbm, ⟨4, _⟩ => ⟨S8192x8192, .fp8e4m3⟩
  | .hbm, ⟨5, _⟩ => ⟨S8192x64, .f32⟩
  | .local _ .vmem, ⟨0, _⟩ => ⟨S8192x3584, .fp8e4m3⟩
  | .local _ .vmem, ⟨1, _⟩ => ⟨S8192x28, .f32⟩
  | .local _ .vmem, ⟨2, _⟩ => ⟨S3584x8192, .fp8e4m3⟩
  | .local _ .vmem, ⟨3, _⟩ => ⟨S28x64, .f32⟩
  | .local _ .vmem, ⟨4, _⟩ => ⟨S8192x8192, .fp8e4m3⟩
  | .local _ .vmem, ⟨5, _⟩ => ⟨S8192x64, .f32⟩
  | _, _ => ⟨S8192x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c_m126_i32 : BitVec 32 := 4294967170#32
  let c252_i32 : BitVec 32 := 252#32
  let v25 : BitVec 32 := Scalar.addi c_m126_i32 c252_i32
  let c1_i32 : BitVec 32 := 1#32
  ⟨c_m126_i32, v25, c1_i32⟩
abbrev stage0_0 : Fin 1 → Memref sig .tc .vmem S8192x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S28x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Up.lean ====
abbrev S1 : Shape := ⟨1, ![1]⟩
abbrev S1024x8192 : Shape := ⟨2, ![1024, 8192]⟩
abbrev S1024x64 : Shape := ⟨2, ![1024, 64]⟩
abbrev S7x1024x8192 : Shape := ⟨3, ![7, 1024, 8192]⟩
abbrev S7x1024x64 : Shape := ⟨3, ![7, 1024, 64]⟩
abbrev S8192x7168 : Shape := ⟨2, ![8192, 7168]⟩
abbrev S64x56 : Shape := ⟨2, ![64, 56]⟩
abbrev S8192x3584 : Shape := ⟨2, ![8192, 3584]⟩
abbrev S8192x28 : Shape := ⟨2, ![8192, 28]⟩
abbrev S8x8x3584 : Shape := ⟨3, ![8, 8, 3584]⟩
abbrev S8192x256 : Shape := ⟨2, ![8192, 256]⟩
abbrev S1024x256 : Shape := ⟨2, ![1024, 256]⟩
abbrev S1024x28 : Shape := ⟨2, ![1024, 28]⟩
abbrev S1x8x256 : Shape := ⟨3, ![1, 8, 256]⟩
abbrev S8192x512 : Shape := ⟨2, ![8192, 512]⟩
abbrev S2 : Shape := ⟨1, ![2]⟩
abbrev S_ : Shape := ⟨0, ![]⟩
abbrev S1x1024x8192 : Shape := ⟨3, ![1, 1024, 8192]⟩
abbrev S1x1024x64 : Shape := ⟨3, ![1, 1024, 64]⟩
abbrev S1024 : Shape := ⟨1, ![1024]⟩
abbrev S1024x1 : Shape := ⟨2, ![1024, 1]⟩
abbrev S1024x128 : Shape := ⟨2, ![1024, 128]⟩
abbrev S1x1 : Shape := ⟨2, ![1, 1]⟩
abbrev S128x128 : Shape := ⟨2, ![128, 128]⟩
abbrev S128x256 : Shape := ⟨2, ![128, 256]⟩
abbrev S256 : Shape := ⟨1, ![256]⟩
abbrev S1x256 : Shape := ⟨2, ![1, 256]⟩
abbrev S1x1x256 : Shape := ⟨3, ![1, 1, 256]⟩

abbrev nBuf : Space → Nat
  | .hbm => 11
  | .vmem => 16
  | .smem => 2
  | _ => 0

abbrev bufTy : (tb : Table) → Fin (tcTables nBuf tb) → BufTy
  | .hbm, ⟨0, _⟩ => ⟨S1, .i32⟩
  | .hbm, ⟨1, _⟩ => ⟨S1024x8192, .fp8e4m3⟩
  | .hbm, ⟨2, _⟩ => ⟨S1024x64, .f32⟩
  | .hbm, ⟨3, _⟩ => ⟨S7x1024x8192, .fp8e4m3⟩
  | .hbm, ⟨4, _⟩ => ⟨S7x1024x64, .f32⟩
  | .hbm, ⟨5, _⟩ => ⟨S8192x7168, .fp8e4m3⟩
  | .hbm, ⟨6, _⟩ => ⟨S64x56, .f32⟩
  | .hbm, ⟨7, _⟩ => ⟨S8192x3584, .fp8e4m3⟩
  | .hbm, ⟨8, _⟩ => ⟨S8192x28, .f32⟩
  | .hbm, ⟨9, _⟩ => ⟨S8192x3584, .fp8e4m3⟩
  | .hbm, ⟨10, _⟩ => ⟨S8x8x3584, .f32⟩
  | .local _ .vmem, ⟨0, _⟩ => ⟨S8192x256, .fp8e4m3⟩
  | .local _ .vmem, ⟨1, _⟩ => ⟨S8192x256, .fp8e4m3⟩
  | .local _ .vmem, ⟨2, _⟩ => ⟨S8192x256, .fp8e4m3⟩
  | .local _ .vmem, ⟨3, _⟩ => ⟨S8192x256, .fp8e4m3⟩
  | .local _ .vmem, ⟨4, _⟩ => ⟨S1024x256, .fp8e4m3⟩
  | .local _ .vmem, ⟨5, _⟩ => ⟨S1024x256, .fp8e4m3⟩
  | .local _ .vmem, ⟨6, _⟩ => ⟨S1024x28, .f32⟩
  | .local _ .vmem, ⟨7, _⟩ => ⟨S1024x28, .f32⟩
  | .local _ .vmem, ⟨8, _⟩ => ⟨S1024x256, .fp8e4m3⟩
  | .local _ .vmem, ⟨9, _⟩ => ⟨S1024x256, .fp8e4m3⟩
  | .local _ .vmem, ⟨10, _⟩ => ⟨S1x8x256, .f32⟩
  | .local _ .vmem, ⟨11, _⟩ => ⟨S1x8x256, .f32⟩
  | .local _ .vmem, ⟨12, _⟩ => ⟨S1024x8192, .fp8e4m3⟩
  | .local _ .vmem, ⟨13, _⟩ => ⟨S1024x64, .f32⟩
  | .local _ .vmem, ⟨14, _⟩ => ⟨S1024x8192, .bf16⟩
  | .local _ .vmem, ⟨15, _⟩ => ⟨S8192x512, .bf16⟩
  | .local _ .smem, ⟨0, _⟩ => ⟨S1, .i32⟩
  | .local _ .smem, ⟨1, _⟩ => ⟨S64x56, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 14], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (v763 : BitVec 32) : Fin 3 → Nat :=
  let arg0 : BitVec 32 := BitVec.ofNat 32 (i 0).val
  let v764 : BitVec 1 := Scalar.cmpi .slt arg0 v763
  let c1_i32_245 : BitVec 32 := 1#32
  let v765 : BitVec 32 := Scalar.subi arg0 c1_i32_245
  let v766 : BitVec 32 := Scalar.select v764 arg0 v765
  let c0_i32_247 : BitVec 32 := 0#32
  let c0_i32_248 : BitVec 32 := 0#32
  ![v766.toNat, 0, 0]
def k0_cond3 (i : grid0.Coords) (v752 : BitVec 32) : BitVec 1 :=
  let arg0 : BitVec 32 := BitVec.ofNat 32 (i 0).val
  let v753 : BitVec 1 := Scalar.cmpi .ne arg0 v752
  let v754 : BitVec 32 := Scalar.extui v753
  let c0_i32_234 : BitVec 32 := 0#32
  let v755 : BitVec 1 := Scalar.cmpi .ne v754 c0_i32_234
  v755

def k0_off2 (i : grid0.Coords) (v763 : BitVec 32) : Fin 3 → Nat :=
  let arg0 : BitVec 32 := BitVec.ofNat 32 (i 0).val
  let v764 : BitVec 1 := Scalar.cmpi .slt arg0 v763
  let c1_i32_245 : BitVec 32 := 1#32
  let v765 : BitVec 32 := Scalar.subi arg0 c1_i32_245
  let v766 : BitVec 32 := Scalar.select v764 arg0 v765
  let c0_i32_250 : BitVec 32 := 0#32
  let c0_i32_251 : BitVec 32 := 0#32
  ![v766.toNat, 0, 0]

def k0_chk1 (i : grid0.Coords) (v752 : BitVec 32) (v763 : BitVec 32) : Prop :=
  (∀ (k0_h1 : k0_cond1 i = 1#1), ∀ (k0_h3 : k0_cond3 i v752 = 1#1), ∀ a, (k0_off1 i v763) a + S1x1024x8192.size a ≤ S7x1024x8192.size a) ∧
  (∀ (k0_h1 : k0_cond1 i = 1#1), ∀ (k0_h3 : k0_cond3 i v752 = 1#1), ∀ (hinb : ∀ a, (k0_off1 i v763) a + S1x1024x8192.size a ≤ S7x1024x8192.size a), (Rect.unit (s := S7x1024x8192) (k0_off1 i v763) S1x1024x8192.size hinb).WholeWords (EltTy.packing .fp8e4m3)) ∧
  (∀ (k0_h1 : k0_cond1 i = 1#1), ∀ (k0_h3 : k0_cond3 i v752 = 1#1), ∀ a, (k0_off2 i v763) a + S1x1024x64.size a ≤ S7x1024x64.size a)
theorem k0_off1_inb : ∀ (i : grid0.Coords) (v752 : BitVec 32) (v763 : BitVec 32) (k0_hw1 : k0_chk1 i v752 v763), ∀ (k0_h1 : k0_cond1 i = 1#1), ∀ (k0_h3 : k0_cond3 i v752 = 1#1), ∀ a, (k0_off1 i v763) a + S1x1024x8192.size a ≤ S7x1024x8192.size a := fun i v752 v763 k0_hw1 k0_h1 k0_h3 => k0_hw1.1 k0_h1 k0_h3
theorem k0_off1_wordsfp8e4m3 : ∀ (i : grid0.Coords) (v752 : BitVec 32) (v763 : BitVec 32) (k0_hw1 : k0_chk1 i v752 v763), ∀ (k0_h1 : k0_cond1 i = 1#1), ∀ (k0_h3 : k0_cond3 i v752 = 1#1), (Rect.unit (s := S7x1024x8192) (k0_off1 i v763) S1x1024x8192.size (k0_off1_inb i v752 v763 k0_hw1 k0_h1 k0_h3)).WholeWords (EltTy.packing .fp8e4m3) := fun i v752 v763 k0_hw1 k0_h1 k0_h3 => k0_hw1.2.1 k0_h1 k0_h3 (k0_off1_inb i v752 v763 k0_hw1 k0_h1 k0_h3)
theorem k0_off2_inb : ∀ (i : grid0.Coords) (v752 : BitVec 32) (v763 : BitVec 32) (k0_hw1 : k0_chk1 i v752 v763), ∀ (k0_h1 : k0_cond1 i = 1#1), ∀ (k0_h3 : k0_cond3 i v752 = 1#1), ∀ a, (k0_off2 i v763) a + S1x1024x64.size a ≤ S7x1024x64.size a := fun i v752 v763 k0_hw1 k0_h1 k0_h3 => k0_hw1.2.2 k0_h1 k0_h3

@[reducible] def k0_t1_loop : Scf.Loop 32 :=
  let c0_i32_237 : BitVec 32 := 0#32
  let c64_i32_238 : BitVec 32 := 64#32
  let v760 : BitVec 32 := Scalar.addi c0_i32_237 c64_i32_238
  let c1_i32_239 : BitVec 32 := 1#32
  ⟨c0_i32_237, v760, c1_i32_239⟩
def k0_mult1 (k0_t1 : Fin k0_t1_loop.trips) : BitVec 32 :=
  let c0_i32_237 : BitVec 32 := 0#32
  let c1_i32_239 : BitVec 32 := 1#32
  let arg19 : BitVec 32 := Scf.iv c0_i32_237 c1_i32_239 k0_t1
  let c128_i32 : BitVec 32 := 128#32
  let v763 : BitVec 32 := Scalar.muli arg19 c128_i32
  v763
def k0_off3 (k0_t1 : Fin k0_t1_loop.trips) : Fin 2 → Nat :=
  let c0_248 : Index := 0#32
  let c0_i32_237 : BitVec 32 := 0#32
  let c1_i32_239 : BitVec 32 := 1#32
  let arg19 : BitVec 32 := Scf.iv c0_i32_237 c1_i32_239 k0_t1
  let c128_i32 : BitVec 32 := 128#32
  let v763 : BitVec 32 := Scalar.muli arg19 c128_i32
  let v764 : BitVec 32 := v763
  let v776 : Index := Scalar.indexCast v764
  ![0, v776.toNat]
@[reducible] def k0_t2_loop : Scf.Loop 32 :=
  let c0_i32_1 : BitVec 32 := 0#32
  let c64_i32 : BitVec 32 := 64#32
  let v3 : BitVec 32 := Scalar.addi c0_i32_1 c64_i32
  let c1_i32 : BitVec 32 := 1#32
  ⟨c0_i32_1, v3, c1_i32⟩
def k0_mult2 (k0_t2 : Fin k0_t2_loop.trips) : BitVec 32 :=
  let c0_i32_1 : BitVec 32 := 0#32
  let c1_i32 : BitVec 32 := 1#32
  let arg19 : BitVec 32 := Scf.iv c0_i32_1 c1_i32 k0_t2
  let c128_i32 : BitVec 32 := 128#32
  let v748 : BitVec 32 := Scalar.muli arg19 c128_i32
  v748
def k0_off4 (i : grid0.Coords) (k0_t2 : Fin k0_t2_loop.trips) (c0_i32_232 : BitVec 32) (c0_i32_233 : BitVec 32) : Fin 2 → Nat :=
  let c0_i32_1 : BitVec 32 := 0#32
  let c1_i32 : BitVec 32 := 1#32
  let arg19 : BitVec 32 := Scf.iv c0_i32_1 c1_i32 k0_t2
  let v753 : Index := Scalar.indexCast arg19
  let arg1 : BitVec 32 := BitVec.ofNat 32 (i 1).val
  let c2_i32_231 : BitVec 32 := 2#32
  let v750 : BitVec 32 := Scalar.muli arg1 c2_i32_231
  let v751 : BitVec 32 := Scalar.addi v750 c0_i32_232
  let v752 : BitVec 32 := Scalar.addi v751 c0_i32_233
  let v754 : Index := Scalar.indexCast v752
  ![v753.toNat, v754.toNat]
def k0_off5 (k0_t2 : Fin k0_t2_loop.trips) : Fin 2 → Nat :=
  let c0_i32_1 : BitVec 32 := 0#32
  let c1_i32 : BitVec 32 := 1#32
  let arg19 : BitVec 32 := Scf.iv c0_i32_1 c1_i32 k0_t2
  let c128_i32 : BitVec 32 := 128#32
  let v748 : BitVec 32 := Scalar.muli arg19 c128_i32
  let v749 : BitVec 32 := v748
  let v758 : Index := Scalar.indexCast v749
  let c0_234 : Index := 0#32
  ![v758.toNat, 0]
def k0_off6 (k0_t2 : Fin k0_t2_loop.trips) : Fin 2 → Nat :=
  let c0_i32_1 : BitVec 32 := 0#32
  let c1_i32 : BitVec 32 := 1#32
  let arg19 : BitVec 32 := Scf.iv c0_i32_1 c1_i32 k0_t2
  let c128_i32 : BitVec 32 := 128#32
  let v748 : BitVec 32 := Scalar.muli arg19 c128_i32
  let v749 : BitVec 32 := v748
  let v762 : Index := Scalar.indexCast v749
  let c0_235 : Index := 0#32
  ![v762.toNat, 0]
def k0_off7 (k0_t2 : Fin k0_t2_loop.trips) : Fin 2 → Nat :=
  let c0_i32_1 : BitVec 32 := 0#32
  let c1_i32 : BitVec 32 := 1#32
  let arg19 : BitVec 32 := Scf.iv c0_i32_1 c1_i32 k0_t2
  let c128_i32 : BitVec 32 := 128#32
  let v748 : BitVec 32 := Scalar.muli arg19 c128_i32
  let v749 : BitVec 32 := v748
  let v774 : Index := Scalar.indexCast v749
  let c128_239 : Index := 128#32
  ![v774.toNat, 128]
def k0_off8 (k0_t2 : Fin k0_t2_loop.trips) : Fin 2 → Nat :=
  let c0_i32_1 : BitVec 32 := 0#32
  let c1_i32 : BitVec 32 := 1#32
  let arg19 : BitVec 32 := Scf.iv c0_i32_1 c1_i32 k0_t2
  let c128_i32 : BitVec 32 := 128#32
  let v748 : BitVec 32 := Scalar.muli arg19 c128_i32
  let v749 : BitVec 32 := v748
  let v778 : Index := Scalar.indexCast v749
  let c128_240 : Index := 128#32
  ![v778.toNat, 128]
def k0_off9 (k0_t2 : Fin k0_t2_loop.trips) : Fin 2 → Nat :=
  let c0_i32_1 : BitVec 32 := 0#32
  let c1_i32 : BitVec 32 := 1#32
  let arg19 : BitVec 32 := Scf.iv c0_i32_1 c1_i32 k0_t2
  let c128_i32 : BitVec 32 := 128#32
  let v748 : BitVec 32 := Scalar.muli arg19 c128_i32
  let v749 : BitVec 32 := v748
  let v794 : Index := Scalar.indexCast v749
  let c256_244 : Index := 256#32
  ![v794.toNat, 256]
def k0_off10 (k0_t2 : Fin k0_t2_loop.trips) : Fin 2 → Nat :=
  let c0_i32_1 : BitVec 32 := 0#32
  let c1_i32 : BitVec 32 := 1#32
  let arg19 : BitVec 32 := Scf.iv c0_i32_1 c1_i32 k0_t2
  let c128_i32 : BitVec 32 := 128#32
  let v748 : BitVec 32 := Scalar.muli arg19 c128_i32
  let v749 : BitVec 32 := v748
  let v810 : Index := Scalar.indexCast v749
  let c384_249 : Index := 384#32
  ![v810.toNat, 384]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi arg1 c14_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8192x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8192x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .smem S64x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x28 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpRefIdeal.lean ====
abbrev S1 : Shape := ⟨1, ![1]⟩
abbrev S1024x8192 : Shape := ⟨2, ![1024, 8192]⟩
abbrev S1024x64 : Shape := ⟨2, ![1024, 64]⟩
abbrev S7x1024x8192 : Shape := ⟨3, ![7, 1024, 8192]⟩
abbrev S7x1024x64 : Shape := ⟨3, ![7, 1024, 64]⟩
abbrev S8192x7168 : Shape := ⟨2, ![8192, 7168]⟩
abbrev S64x56 : Shape := ⟨2, ![64, 56]⟩
abbrev S8192x3584 : Shape := ⟨2, ![8192, 3584]⟩
abbrev S8192x28 : Shape := ⟨2, ![8192, 28]⟩
abbrev S8x8x3584 : Shape := ⟨3, ![8, 8, 3584]⟩
abbrev S8x1024x8192 : Shape := ⟨3, ![8, 1024, 8192]⟩
abbrev S1x1024x8192 : Shape := ⟨3, ![1, 1024, 8192]⟩
abbrev S8x1024x64 : Shape := ⟨3, ![8, 1024, 64]⟩
abbrev S1x1024x64 : Shape := ⟨3, ![1, 1024, 64]⟩
abbrev S8192x8192 : Shape := ⟨2, ![8192, 8192]⟩
abbrev S8192x64 : Shape := ⟨2, ![8192, 64]⟩
abbrev S8192x64x128 : Shape := ⟨3, ![8192, 64, 128]⟩
abbrev S8192x64x1 : Shape := ⟨3, ![8192, 64, 1]⟩
abbrev S64x128x56x128 : Shape := ⟨4, ![64, 128, 56, 128]⟩
abbrev S64x1x56x1 : Shape := ⟨4, ![64, 1, 56, 1]⟩
abbrev S8192x28x128 : Shape := ⟨3, ![8192, 28, 128]⟩
abbrev S8192x28x1 : Shape := ⟨3, ![8192, 28, 1]⟩
abbrev S64x128x3584 : Shape := ⟨3, ![64, 128, 3584]⟩
abbrev S64x3584 : Shape := ⟨2, ![64, 3584]⟩
abbrev S64x1x3584 : Shape := ⟨3, ![64, 1, 3584]⟩

abbrev nBuf : Space → Nat
  | .hbm => 11
  | .vmem => 10
  | .smem => 1
  | _ => 0

abbrev bufTy : (tb : Table) → Fin (tcTables nBuf tb) → BufTy
  | .hbm, ⟨0, _⟩ => ⟨S1, .i32⟩
  | .hbm, ⟨1, _⟩ => ⟨S1024x8192, .fp8e4m3⟩
  | .hbm, ⟨2, _⟩ => ⟨S1024x64, .f32⟩
  | .hbm, ⟨3, _⟩ => ⟨S7x1024x8192, .fp8e4m3⟩
  | .hbm, ⟨4, _⟩ => ⟨S7x1024x64, .f32⟩
  | .hbm, ⟨5, _⟩ => ⟨S8192x7168, .fp8e4m3⟩
  | .hbm, ⟨6, _⟩ => ⟨S64x56, .f32⟩
  | .hbm, ⟨7, _⟩ => ⟨S8192x3584, .fp8e4m3⟩
  | .hbm, ⟨8, _⟩ => ⟨S8192x28, .f32⟩
  | .hbm, ⟨9, _⟩ => ⟨S8192x3584, .fp8e4m3⟩
  | .hbm, ⟨10, _⟩ => ⟨S8x8x3584, .f32⟩
  | .local _ .vmem, ⟨0, _⟩ => ⟨S1024x8192, .fp8e4m3⟩
  | .local _ .vmem, ⟨1, _⟩ => ⟨S1024x64, .f32⟩
  | .local _ .vmem, ⟨2, _⟩ => ⟨S7x1024x8192, .fp8e4m3⟩
  | .local _ .vmem, ⟨3, _⟩ => ⟨S7x1024x64, .f32⟩
  | .local _ .vmem, ⟨4, _⟩ => ⟨S8192x7168, .fp8e4m3⟩
  | .local _ .vmem, ⟨5, _⟩ => ⟨S64x56, .f32⟩
  | .local _ .vmem, ⟨6, _⟩ => ⟨S8192x3584, .fp8e4m3⟩
  | .local _ .vmem, ⟨7, _⟩ => ⟨S8192x28, .f32⟩
  | .local _ .vmem, ⟨8, _⟩ => ⟨S8192x3584, .fp8e4m3⟩
  | .local _ .vmem, ⟨9, _⟩ => ⟨S8x8x3584, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

@[reducible] def k0_t1_loop : Scf.Loop 32 :=
  let c_m126_i32 : BitVec 32 := 4294967170#32
  let c252_i32 : BitVec 32 := 252#32
  let v65 : BitVec 32 := Scalar.addi c_m126_i32 c252_i32
  let c1_i32 : BitVec 32 := 1#32
  ⟨c_m126_i32, v65, c1_i32⟩
@[reducible] def k0_t2_loop : Scf.Loop 32 :=
  let c_m126_i32_28 : BitVec 32 := 4294967170#32
  let c252_i32_29 : BitVec 32 := 252#32
  let v90 : BitVec 32 := Scalar.addi c_m126_i32_28 c252_i32_29
  let c1_i32_30 : BitVec 32 := 1#32
  ⟨c_m126_i32_28, v90, c1_i32_30⟩
abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7x1024x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7x1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x56 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x28 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x3584 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x8x3584 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Scale.lean ====
module

public import Idealize.ShloMosaic.PureOps.Ideal
public import Idealize.ShloMosaic.Lib.Exec
public import Idealize.ShloMosaic.Lib.Pointwise
public import Mathlib.Analysis.SpecialFunctions.Pow.Real

/-! # The power-of-two scale of a block, computed in two ways

The kernel looks for the exponent field of `t` by a binary search over float words whose fraction is
zero; the reference counts the powers of two that do not exceed `t`. Both end at the same power of two,
for every extended real `t`. -/

@[expose] public section

set_option maxRecDepth 16384

noncomputable section

namespace Cert.Quant

open Idealize.ShloMosaic

/-- The value of the float word with exponent field `n` and fraction zero. -/
def pw (n : ℕ) : EReal := Ideal.ofBits .f32 (BitVec.ofNat 32 (n * 8388608))

/-- The fields of such a word: sign clear, exponent `n`, fraction zero. -/
theorem fields : ∀ n : Fin 256,
    (((BitVec.ofNat 32 (n.val * 8388608)).extractLsb' 31 1 == 1#1) = false)
    ∧ ((BitVec.ofNat 32 (n.val * 8388608)).extractLsb' 23 8).toNat = n.val
    ∧ ((BitVec.ofNat 32 (n.val * 8388608)).extractLsb' 0 23).toNat = 0 := by decide +kernel

/-- For a normal exponent field the word is a power of two. -/
theorem pw_eq (n : ℕ) (h1 : 1 ≤ n) (h2 : n ≤ 254) : pw n = (((2 : ℝ) ^ ((n : ℤ) - 127) : ℝ) : EReal) := by
  obtain ⟨hs, he, hf⟩ := fields ⟨n, by omega⟩
  simp only at hs he hf
  unfold pw Ideal.ofBits Ideal.ieee
  simp only [show 8 + 23 = 31 from rfl, hs, he, hf]
  rw [if_neg (by omega), if_neg (by omega)]
  congr 1
  have : (2 : ℝ) ^ ((n : ℤ) - 127) = (2 : ℝ) ^ (23 : ℕ) * (2 : ℝ) ^ ((n : ℤ) - 127 - 23) := by
    rw [← zpow_natCast, ← zpow_add₀ (by norm_num)]; congr 1; push_cast; ring
  rw [this]
  norm_num

/-- Larger exponent fields give larger words. -/
theorem pw_mono (a b : ℕ) (h1 : 1 ≤ a) (hab : a ≤ b) (h2 : b ≤ 254) : pw a ≤ pw b := by
  rw [pw_eq a h1 (by omega), pw_eq b (by omega) h2, EReal.coe_le_coe_iff]
  exact zpow_le_zpow_right₀ (by norm_num) (by omega)

/-- One step of the kernel's search: the larger word when its value is at most `t`. -/
def step (c : BitVec 32) (t : EReal) (e : BitVec 32) : BitVec 32 :=
  if Ideal.ofBits .f32 (IntOp.addi e c) ≤ t then IntOp.addi e c else e

/-- The kernel's exponent field of `t`. -/
def search (t : EReal) : BitVec 32 :=
  IntOp.minsi (step 8388608#32 t (step 16777216#32 t (step 33554432#32 t (step 67108864#32 t
    (step 134217728#32 t (step 268435456#32 t (step 536870912#32 t (step 1073741824#32 t 0#32))))))))
    2113929216#32

/-- One step on exponent fields. -/
theorem step_word (t : EReal) (n k : ℕ) :
    step (BitVec.ofNat 32 (k * 8388608)) t (BitVec.ofNat 32 (n * 8388608))
      = BitVec.ofNat 32 ((open Classical in if pw (n + k) ≤ t then n + k else n) * 8388608) := by
  have h : IntOp.addi (BitVec.ofNat 32 (n * 8388608)) (BitVec.ofNat 32 (k * 8388608))
      = BitVec.ofNat 32 ((n + k) * 8388608) := by
    rw [add_mul, BitVec.ofNat_add]; rfl
  unfold step
  rw [h]
  show (if pw (n + k) ≤ t then _ else _) = _
  split <;> rfl

/-- What a search of the remaining `k` fields knows of the field `n` reached. -/
def Known (t : EReal) (k n : ℕ) : Prop :=
  n + k ≤ 256 ∧ (n = 0 ∨ pw n ≤ t) ∧ (n + k = 256 ∨ ¬ pw (n + k) ≤ t)

open Classical in
/-- A step halves the fields that remain. -/
theorem known_step (t : EReal) (k n : ℕ) (h : Known t (k + k) n) :
    Known t k (if pw (n + k) ≤ t then n + k else n) := by
  obtain ⟨h1, h2, h3⟩ := h
  by_cases hc : pw (n + k) ≤ t
  · rw [if_pos hc]
    exact ⟨by omega, .inr hc, by rw [show n + k + k = n + (k + k) from by omega]; exact h3⟩
  · rw [if_neg hc]
    exact ⟨by omega, h2, .inr hc⟩

/-- The search ends at the last field whose word is at most `t`, cut at 252. -/
theorem search_spec (t : EReal) : ∃ q : ℕ, Known t 1 q ∧ search t = BitVec.ofNat 32 (min q 252 * 8388608) := by
  classical
  have k0 : Known t (128 + 128) 0 := ⟨by omega, .inl rfl, .inl rfl⟩
  have k1 := known_step t 128 _ k0
  have k2 := known_step t 64 _ k1
  have k3 := known_step t 32 _ k2
  have k4 := known_step t 16 _ k3
  have k5 := known_step t 8 _ k4
  have k6 := known_step t 4 _ k5
  have k7 := known_step t 2 _ k6
  have k8 := known_step t 1 _ k7
  refine ⟨_, k8, ?_⟩
  unfold search
  rw [show (0#32 : BitVec 32) = BitVec.ofNat 32 (0 * 8388608) from rfl,
    show (1073741824#32 : BitVec 32) = BitVec.ofNat 32 (128 * 8388608) from rfl, step_word,
    show (536870912#32 : BitVec 32) = BitVec.ofNat 32 (64 * 8388608) from rfl, step_word,
    show (268435456#32 : BitVec 32) = BitVec.ofNat 32 (32 * 8388608) from rfl, step_word,
    show (134217728#32 : BitVec 32) = BitVec.ofNat 32 (16 * 8388608) from rfl, step_word,
    show (67108864#32 : BitVec 32) = BitVec.ofNat 32 (8 * 8388608) from rfl, step_word,
    show (33554432#32 : BitVec 32) = BitVec.ofNat 32 (4 * 8388608) from rfl, step_word,
    show (16777216#32 : BitVec 32) = BitVec.ofNat 32 (2 * 8388608) from rfl, step_word,
    show (8388608#32 : BitVec 32) = BitVec.ofNat 32 (1 * 8388608) from rfl, step_word]
  have hq := k8.1
  revert hq
  generalize (if pw (_ + 1) ≤ t then _ else _ : ℕ) = q
  intro hq
  have cut : ∀ q : Fin 256, IntOp.minsi (BitVec.ofNat 32 (q.val * 8388608)) 2113929216#32
      = BitVec.ofNat 32 (min q.val 252 * 8388608) := by decide +kernel
  exact cut ⟨q, by omega⟩

/-- The kernel's scale: the word one exponent above the field found (one where the field is zero). -/
def kScale (t : EReal) : EReal :=
  Ideal.ofBits .f32 (Scalar.select (IntOp.cmpi .eq (search t) 0#32) 1065353216#32 (IntOp.addi (search t) 8388608#32))

/-- The kernel's inverse scale. -/
def kInv (t : EReal) : EReal :=
  Ideal.ofBits .f32 (Scalar.select (IntOp.cmpi .eq (search t) 0#32) 1065353216#32 (IntOp.subi 2122317824#32 (search t)))

/-- One trip of the reference's count. -/
def rStep (t : EReal) (k : ℕ) (e : BitVec 32) : BitVec 32 :=
  Scalar.select (if Ideal.exp2 (((Scf.iv 4294967170#32 1#32 k).toInt : ℝ) : EReal) ≤ t then 1#1 else 0#1)
    (IntOp.addi (Scf.iv 4294967170#32 1#32 k) 1#32) e

/-- The reference's exponent of `t` after `n` trips. -/
def rCount (t : EReal) : ℕ → BitVec 32
  | 0 => 0#32
  | n + 1 => rStep t n (rCount t n)

/-- The reference's scale. -/
def rScale (t : EReal) : EReal := Ideal.exp2 (((rCount t 252).toInt : ℝ) : EReal)

/-- The reference's inverse scale. -/
def rInv (t : EReal) : EReal := Ideal.exp2 (0 - (((rCount t 252).toInt : ℝ) : EReal))

/-- The exponent the field `p` stands for. -/
def expo (p : ℕ) : ℤ := if p = 0 then 0 else (p : ℤ) - 126

theorem exp2_int (z : ℤ) : Ideal.exp2 (((z : ℤ) : ℝ) : EReal) = (((2 : ℝ) ^ z : ℝ) : EReal) := by
  show ((Real.rpow 2 z : ℝ) : EReal) = _
  rw [show Real.rpow 2 (z : ℝ) = (2 : ℝ) ^ (z : ℝ) from rfl, Real.rpow_intCast]

theorem iv_int : ∀ k : Fin 252, (Scf.iv 4294967170#32 1#32 k.val).toInt = (k.val : ℤ) - 126
    ∧ IntOp.addi (Scf.iv 4294967170#32 1#32 k.val) 1#32 = BitVec.ofInt 32 ((k.val : ℤ) - 125) := by decide +kernel

/-- The reference's count after `n` trips is the exponent of the field found, cut at `n`. -/
theorem rCount_eq (t : EReal) (q : ℕ) (hq : Known t 1 q) (n : ℕ) (hn : n ≤ 252) :
    rCount t n = BitVec.ofInt 32 (expo (min q n)) := by
  induction n with
  | zero => simp [rCount, expo]
  | succ n ih =>
    obtain ⟨i1, i2⟩ := iv_int ⟨n, by omega⟩
    simp only at i1 i2
    have hp : Ideal.exp2 (((Scf.iv 4294967170#32 1#32 n).toInt : ℝ) : EReal) = pw (n + 1) := by
      rw [exp2_int, i1, pw_eq (n + 1) (by omega) (by omega)]
      congr 2; push_cast; ring
    show rStep t n (rCount t n) = _
    unfold rStep
    rw [hp, i2, ih (by omega)]
    obtain ⟨h1, h2, h3⟩ := hq
    by_cases hc : n + 1 ≤ q
    · have hle : pw (n + 1) ≤ t := by
        rcases h2 with h2 | h2
        · omega
        · by_cases hq254 : q ≤ 254
          · exact le_trans (pw_mono _ _ (by omega) hc hq254) h2
          · have hq255 : q = 255 := by omega
            have ht : pw q = ⊤ := by subst hq255; unfold pw; simp [Ideal.ofBits, Ideal.ieee]
            rw [ht, top_le_iff] at h2
            rw [h2]; exact le_top
      rw [if_pos hle, show min q (n + 1) = n + 1 from by omega]
      show BitVec.ofInt 32 _ = _
      congr 1; unfold expo; rw [if_neg (by omega)]; push_cast; ring
    · have hle : ¬ pw (n + 1) ≤ t := by
        intro hle
        rcases h3 with h3 | h3
        · omega
        · exact h3 (le_trans (pw_mono _ _ (by omega) (by omega) (by omega)) hle)
      rw [if_neg hle, show min q (n + 1) = min q n from by omega]
      rfl

theorem toInt_expo : ∀ p : Fin 253, (BitVec.ofInt 32 (expo p.val)).toInt = expo p.val := by decide +kernel

/-- The words the kernel makes of the field `p`. -/
theorem words : ∀ p : Fin 253,
    Scalar.select (IntOp.cmpi .eq (BitVec.ofNat 32 (p.val * 8388608)) 0#32) 1065353216#32
        (IntOp.addi (BitVec.ofNat 32 (p.val * 8388608)) 8388608#32)
      = BitVec.ofNat 32 ((expo p.val + 127).toNat * 8388608)
    ∧ Scalar.select (IntOp.cmpi .eq (BitVec.ofNat 32 (p.val * 8388608)) 0#32) 1065353216#32
        (IntOp.subi 2122317824#32 (BitVec.ofNat 32 (p.val * 8388608)))
      = BitVec.ofNat 32 ((127 - expo p.val).toNat * 8388608)
    ∧ 1 ≤ (expo p.val + 127).toNat ∧ (expo p.val + 127).toNat ≤ 254
    ∧ 1 ≤ (127 - expo p.val).toNat ∧ (127 - expo p.val).toNat ≤ 254
    ∧ -126 ≤ expo p.val ∧ expo p.val ≤ 126 := by decide +kernel

/-- The two scales agree. -/
theorem kScale_eq (t : EReal) : kScale t = rScale t := by
  obtain ⟨q, hq, hs⟩ := search_spec t
  obtain ⟨w1, -, b1, b2, -, -, r1, r2⟩ := words ⟨min q 252, by omega⟩
  have ht := toInt_expo ⟨min q 252, by omega⟩
  simp only at w1 b1 b2 r1 r2 ht
  unfold kScale rScale
  rw [hs, w1, rCount_eq t q hq 252 le_rfl, ht, exp2_int]
  refine (pw_eq _ b1 b2).trans ?_
  congr 2; omega

/-- The two inverse scales agree. -/
theorem kInv_eq (t : EReal) : kInv t = rInv t := by
  obtain ⟨q, hq, hs⟩ := search_spec t
  obtain ⟨-, w1, -, -, b1, b2, r1, r2⟩ := words ⟨min q 252, by omega⟩
  have ht := toInt_expo ⟨min q 252, by omega⟩
  simp only at w1 b1 b2 r1 r2 ht
  unfold kInv rInv
  rw [hs, w1, rCount_eq t q hq 252 le_rfl, ht, zero_sub, ← EReal.coe_neg, ← Int.cast_neg, exp2_int]
  refine (pw_eq _ b1 b2).trans ?_
  congr 2; omega

end Cert.Quant

end
end
-- ==== Proof.Quant.lean ====
/-
The row quantiser as operations on vectors, and what each of them holds at one index.

`searchV` is the eight-step search for the exponent field, `scaleV` the power of two it gives and
`invV` that power's inverse, each applied to every entry of a vector; the lemmas say that an entry of
the result is the scalar function of `Scale.lean` at the entry of the argument.  `tRow` and `code` are
the two scalar formulas of the quantiser: a row's greatest magnitude divided by 448, and one
quantised entry.
-/
module

public import proofs.«01_k».proof.Proof.Scale

@[expose] public section

noncomputable section

namespace Cert.Quant

open Idealize.ShloMosaic Idealize.SL.Sem

section Vectors
variable {F : FTy → Type} [FloatOps F]

/-- One step of the search: keep `e + c` where the power of two it encodes is at most `t`. -/
def stepV {S : Shape} (c : BitVec 32) (t : FVec F S .f32) (e : IVec S 32) : IVec S 32 :=
  select (cmpf .ole (bitcastToFloat .f32 (addi e (broadcast S c))) t) (addi e (broadcast S c)) e

/-- The eight steps of the search, and the clamp of its result. -/
def searchV {S : Shape} (t : FVec F S .f32) : IVec S 32 :=
  minsi (stepV 8388608#32 t (stepV 16777216#32 t (stepV 33554432#32 t (stepV 67108864#32 t
    (stepV 134217728#32 t (stepV 268435456#32 t (stepV 536870912#32 t
      (stepV 1073741824#32 t (broadcast S 0#32))))))))) (broadcast S 2113929216#32)

/-- The scale of every entry. -/
def scaleV {S : Shape} (t : FVec F S .f32) : FVec F S .f32 :=
  bitcastToFloat .f32 (select (cmpi .eq (searchV t) (broadcast S 0#32)) (broadcast S 1065353216#32)
    (addi (searchV t) (broadcast S 8388608#32)))

/-- The inverse scale of every entry. -/
def invV {S : Shape} (t : FVec F S .f32) : FVec F S .f32 :=
  bitcastToFloat .f32 (select (cmpi .eq (searchV t) (broadcast S 0#32)) (broadcast S 1065353216#32)
    (subi (broadcast S 2122317824#32) (searchV t)))

end Vectors

theorem stepV_apply {S : Shape} (c : BitVec 32) (t : FVec Ideal S .f32) (e : IVec S 32) (j : S.Idx) :
    stepV c t e j = step c (t j) (e j) := by
  show (if BitVec.ofBool (decide (Ideal.ofBits .f32 (IntOp.addi (e j) c) ≤ t j)) = 1 then
    IntOp.addi (e j) c else e j) = _
  unfold step
  by_cases h : Ideal.ofBits .f32 (IntOp.addi (e j) c) ≤ t j
  · rw [if_pos h, decide_eq_true h]; rfl
  · rw [if_neg h, decide_eq_false h]; rfl

theorem searchV_apply {S : Shape} (t : FVec Ideal S .f32) (j : S.Idx) : searchV t j = search (t j) := by
  unfold searchV search
  show IntOp.minsi _ _ = _
  simp only [stepV_apply]
  rfl

theorem scaleV_apply {S : Shape} (t : FVec Ideal S .f32) (j : S.Idx) : scaleV t j = kScale (t j) := by
  unfold scaleV kScale
  rw [← searchV_apply]; rfl

theorem invV_apply {S : Shape} (t : FVec Ideal S .f32) (j : S.Idx) : invV t j = kInv (t j) := by
  unfold invV kInv
  rw [← searchV_apply]; rfl

theorem select_eq {α : Type} {w : ℕ} (a b : BitVec w) (x y : α) :
    Scalar.select (IntOp.cmpi .eq a b) x y = if a = b then x else y := by
  show (if BitVec.ofBool (a == b) = 1 then x else y) = _
  by_cases h : a = b
  · subst h; rw [if_pos rfl, beq_self_eq_true]; rfl
  · rw [if_neg h, beq_eq_false_iff_ne.mpr h]; rfl

/-- The loop counter as a word. -/
theorem iv_eq (k : ℕ) : Scf.iv 0#32 1#32 k = BitVec.ofNat 32 k := by
  show 0#32 + BitVec.ofNat 32 k * 1#32 = _
  rw [BitVec.zero_add, BitVec.mul_one]

/-- Small numbers are equal when their words are. -/
theorem ofNat_eq_iff (a b : ℕ) (ha : a < 4294967296) (hb : b < 4294967296) :
    BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

/-- Picking one entry of a row by comparing lane numbers, and adding up what is left, gives that entry. -/
theorem sum_pick {n : ℕ} (hn : n < 4294967296) (f : Fin n → EReal) (k : ℕ) (k' : Fin n) (hk : k'.val = k) :
    ∑ x : Fin n, Scalar.select (IntOp.cmpi .eq (BitVec.ofNat 32 x.val) (Scf.iv 0#32 1#32 k)) (f x) 0 = f k' := by
  rw [Finset.sum_eq_single k']
  · rw [select_eq, iv_eq, if_pos (by rw [hk])]
  · intro x _ hx
    rw [select_eq, iv_eq, if_neg]
    rw [ofNat_eq_iff _ _ (by omega) (by omega)]
    intro e; exact hx (Fin.ext (by omega))
  · intro h; exact absurd (Finset.mem_univ _) h

/-- The greatest magnitude of 128 entries times the constant 1/448. -/
def tRow (f : Fin 128 → EReal) : EReal :=
  Finset.univ.fold max (Ideal.ofBits .f32 4286578688#32) (fun x => FloatOps.absf (F := Ideal) (f x))
    * Ideal.ofBits .f32 991054117#32

/-- One code: the entry times the inverse scale, clipped to the format's range. -/
def code (x i : EReal) : EReal :=
  min (Ideal.ofBits .f32 1138753536#32) (max (Ideal.ofBits .f32 3286237184#32) (x * i))

end Cert.Quant

end

end
-- ==== Proof.DownPay.lean ====
/-
What one grid point of the down kernel stores, as the quantiser of `Quant.lean` applied to the four
128-column slabs of the product.

The printed body repeats the quantiser four times over differently cut values; the first lemmas say
that each copy is `codesV` and `storeV` of its slab (by unfolding), the last ones what an entry of
those is.
-/
module

public import proofs.«01_k».proof.Proof.Gen.DownIdeal.Skeleton
public import proofs.«01_k».proof.Proof.Quant
public import Idealize.ShloMosaic.Lib.Pointwise
public import Idealize.ShloMosaic.Lib.Pipeline.ValueKit

@[expose] public section

set_option maxRecDepth 16384

noncomputable section

namespace Cert.DownIdeal.Block

open Idealize.ShloMosaic Idealize.SL.Sem Cert.DownIdeal Cert.DownIdeal.Gen Cert.Quant

section Vectors
variable {F : FTy → Type} [FloatOps F]

/-- Every row's greatest magnitude times 1/448. -/
def absmaxV (x : FVec F S1024x128 .f32) : FVec F S1024x1 .f32 :=
  mulf (shapeCast S1024x1 (multiReduction .maximumf [1] S1024 (absf x) 0xFF800000#32
    reduces_S1024x128_S1024 (.inl rfl) rfl) shapeCasts_S1024_S1024x1)
    (broadcast S1024x1 (Scalar.ofBits .f32 0x3B124925#32))

/-- The codes of a slab. -/
def codesV (x : FVec F S1024x128 .f32) : FVec F S1024x128 .fp8e4m3 :=
  truncf .fp8e4m3 (minimumf (broadcast S1024x128 (Scalar.ofBits .f32 0x43E00000#32))
    (maximumf (broadcast S1024x128 (Scalar.ofBits .f32 0xC3E00000#32))
      (mulf x (broadcastTo S1024x128 (invV (absmaxV x)) broadcasts_S1024x1_S1024x128)))) bitsLt_fp8e4m3_f32

/-- The scales' buffer after the scales of a slab were put into column `w`. -/
def storeV (w : BitVec 32) (x : FVec F S1024x128 .f32) (old : Vec F S1024x64 .f32) : FVec F S1024x64 .f32 :=
  select (cmpi .eq (iota .tc S1024x64 32 [1] iota_S1024x64_d1_w32) (broadcast S1024x64 w))
    (broadcastTo S1024x64 (shapeCast S1024x1 (scaleV (absmaxV x)) shapeCasts_S1024x1_S1024x1) broadcasts_S1024x1_S1024x64)
    (shapeCast S1024x64 old shapeCasts_S1024x64_S1024x64)

theorem codes0 (a8 : Vec F S1024x3584 .bf16) (a9 : Vec F S3584x512 .bf16) :
    k0_pay18 (k0_pay11 a8 a9) (k0_pay12 a8 a9) (k0_pay13 a8 a9) (k0_pay14 a8 a9) = codesV (k0_pay11 a8 a9) := rfl
theorem codes1 (v6 : FVec F S1024x512 .f32) :
    k0_pay27 (k0_pay21 v6) (k0_pay22 v6) (k0_pay23 v6) (k0_pay24 v6) = codesV (k0_pay21 v6) := rfl
theorem codes2 (v : FVec F S1024x128 .f32) : k0_pay32 v (k0_pay30 v) = codesV v := rfl
theorem codes3 (v6 : FVec F S1024x512 .f32) :
    k0_pay1 (k0_pay34 v6) (k0_pay39 (k0_pay35 v6) k0_pay36 k0_pay37) (k0_pay41 (k0_pay35 v6) k0_pay36 k0_pay37)
      = codesV (k0_pay34 v6) := rfl

theorem store0 (w : BitVec 32) (a8 : Vec F S1024x3584 .bf16) (a9 : Vec F S3584x512 .bf16) (old : Vec F S1024x64 .f32) :
    k0_pay20 (k0_pay17 (k0_pay12 a8 a9) (k0_pay13 a8 a9) (k0_pay14 a8 a9))
      (k0_pay19 w (iota .tc S1024x64 32 [1] iota_S1024x64_d1_w32)) old
      = storeV (Scalar.addi (Scalar.muli w 4#32) 0#32) (k0_pay11 a8 a9) old := rfl
theorem store1 (w : BitVec 32) (v6 : FVec F S1024x512 .f32) (old : Vec F S1024x64 .f32) :
    k0_pay28 w (iota .tc S1024x64 32 [1] iota_S1024x64_d1_w32) (k0_pay22 v6) (k0_pay23 v6) (k0_pay24 v6) old
      = storeV (Scalar.addi (Scalar.muli w 4#32) 1#32) (k0_pay21 v6) old := rfl
theorem store2 (w : BitVec 32) (v : FVec F S1024x128 .f32) (old : Vec F S1024x64 .f32) :
    k0_pay33 w (iota .tc S1024x64 32 [1] iota_S1024x64_d1_w32) (k0_pay30 v) old
      = storeV (Scalar.addi (Scalar.muli w 4#32) 2#32) v old := rfl
theorem store3 (w : BitVec 32) (v6 : FVec F S1024x512 .f32) (old : Vec F S1024x64 .f32) :
    k0_pay2 w (iota .tc S1024x64 32 [1] iota_S1024x64_d1_w32) (k0_pay40 (k0_pay35 v6) k0_pay36 k0_pay37) old
      = storeV (Scalar.addi (Scalar.muli w 4#32) 3#32) (k0_pay34 v6) old := rfl

end Vectors

theorem absmaxV_apply (x : FVec Ideal S1024x128 .f32) (r : Fin 1024) :
    absmaxV x (ix2 r 0) = tRow fun l => x (ix2 r l) := by
  pointwise [absmaxV]
  rfl

theorem codesV_apply (x : FVec Ideal S1024x128 .f32) (r : Fin 1024) (l : Fin 128) :
    codesV x (ix2 r l) = code (x (ix2 r l)) (kInv (tRow fun l => x (ix2 r l))) := by
  have h := invV_apply (absmaxV x) (ix2 r 0)
  rw [absmaxV_apply] at h
  rw [← h]
  pointwise [codesV]
  rfl

theorem storeV_apply (w : BitVec 32) (x : FVec Ideal S1024x128 .f32) (old : Vec Ideal S1024x64 .f32) (r : Fin 1024) (b : Fin 64) :
    storeV w x old (ix2 r b) = if BitVec.ofNat 32 b.val = w then kScale (tRow fun l => x (ix2 r l)) else old (ix2 r b) := by
  have h := scaleV_apply (absmaxV x) (ix2 r 0)
  rw [absmaxV_apply] at h
  rw [← h]
  pointwise [storeV]
  exact select_eq _ _ _ _

theorem slab0 (a8 : Vec Ideal S1024x3584 .bf16) (a9 : Vec Ideal S3584x512 .bf16) (r : Fin 1024) (l : Fin 128) :
    k0_pay11 a8 a9 (ix2 r l) = ∑ k : Fin 3584, a8 (ix2 r k) * a9 (ix2 k ⟨l.val, by omega⟩) := by
  pointwise [k0_pay11, k0_pay10]
theorem slab1 (a8 : Vec Ideal S1024x3584 .bf16) (a9 : Vec Ideal S3584x512 .bf16) (r : Fin 1024) (l : Fin 128) :
    k0_pay21 (k0_pay10 a8 a9) (ix2 r l) = ∑ k : Fin 3584, a8 (ix2 r k) * a9 (ix2 k ⟨128 + l.val, by omega⟩) := by
  pointwise [k0_pay21, k0_pay10]
theorem slab2 (a8 : Vec Ideal S1024x3584 .bf16) (a9 : Vec Ideal S3584x512 .bf16) (r : Fin 1024) (l : Fin 128) :
    k0_pay29 (k0_pay10 a8 a9) (ix2 r l) = ∑ k : Fin 3584, a8 (ix2 r k) * a9 (ix2 k ⟨256 + l.val, by omega⟩) := by
  pointwise [k0_pay29, k0_pay10]
theorem slab3 (a8 : Vec Ideal S1024x3584 .bf16) (a9 : Vec Ideal S3584x512 .bf16) (r : Fin 1024) (l : Fin 128) :
    k0_pay34 (k0_pay10 a8 a9) (ix2 r l) = ∑ k : Fin 3584, a8 (ix2 r k) * a9 (ix2 k ⟨384 + l.val, by omega⟩) := by
  pointwise [k0_pay34, k0_pay10]

theorem zeros_apply (r : Fin 1024) (b : Fin 64) : (k0_pay7 (F := Ideal)) (ix2 r b) = Ideal.ofBits .f32 0#32 := rfl

/-- One trip of the activations' loop stores codes times the row scales of its block. -/
theorem widen_apply (k : Fin k0_t1_loop.trips) (s : Vec Ideal S1024x28 .f32) (x : Vec Ideal S1024x128 .fp8e4m3)
    (r : Fin 1024) (l : Fin 128) (k' : Fin 28) (hk : k'.val = k.val) :
    k0_pay6 k s x (ix2 r l) = x (ix2 r l) * s (ix2 r k') := by
  pointwise [k0_pay6]
  rw [sum_pick (by decide) (fun x => s (ix2 r x)) k.val k' hk]

theorem w3 (s : Elt Ideal .f32) (x : Vec Ideal S128x128 .fp8e4m3) (i j : Fin 128) : k0_pay3 s x (ix2 i j) = x (ix2 i j) * s := by
  pointwise [k0_pay3]
theorem w4 (s : Elt Ideal .f32) (x : Vec Ideal S128x128 .fp8e4m3) (i j : Fin 128) : k0_pay4 s x (ix2 i j) = x (ix2 i j) * s := by
  pointwise [k0_pay4]
theorem w5 (s : Elt Ideal .f32) (x : Vec Ideal S128x128 .fp8e4m3) (i j : Fin 128) : k0_pay8 (k0_pay5 s x) (ix2 i j) = x (ix2 i j) * s := by
  pointwise [k0_pay8, k0_pay5]
theorem w9 (s : Elt Ideal .f32) (x : Vec Ideal S128x128 .fp8e4m3) (i j : Fin 128) : k0_pay9 s x (ix2 i j) = x (ix2 i j) * s := by
  pointwise [k0_pay9]

end Cert.DownIdeal.Block

end

end
-- ==== Proof.Pieces.lean ====
/-
A buffer filled by a loop, trip by trip: when every trip's stores restrict one function of the
buffer's index and every index is stored by some trip, the buffer holds that function afterwards.
Also where a rectangle of a two-dimensional buffer sits.
-/
module

public import Idealize.ShloMosaic.PureOps.Ideal
public import Idealize.ShloMosaic.Lib.Pointwise
public import Idealize.ShloMosaic.Lib.Pipeline.ValueKit

@[expose] public section

noncomputable section

namespace Cert.Pieces

open Idealize.ShloMosaic Idealize.SL.Sem

/-- What a loop whose trip `k` stores the pieces `tr k` leaves. -/
theorem canon_of_trips {Val : EltTy → Type} {S : Shape} {e : EltTy} [∀ e, Nonempty (Val e)] (n : ℕ)
    (pb : ℕ → List (View.Piece Val S e)) (tr : Fin n → List (View.Piece Val S e)) (h0 : pb 0 = [])
    (hs : ∀ k : Fin n, pb (k.val + 1) = tr k ++ pb k.val) (G : S.Idx → Val e)
    (hG : ∀ k, ∀ p ∈ tr k, ∀ x : p.1.shape.Idx, p.2 x = G (p.1.emb x))
    (hc : ∀ y, ∃ k, ∃ p ∈ tr k, y ∈ p.1.set) : View.canon (pb n) = G := by
  have agree : ∀ m, m ≤ n → ∀ p ∈ pb m, ∀ x : p.1.shape.Idx, p.2 x = G (p.1.emb x) := by
    intro m
    induction m with
    | zero => intro _ p hp; rw [h0] at hp; exact absurd hp List.not_mem_nil
    | succ m ih =>
      intro hm p hp
      rw [hs ⟨m, hm⟩] at hp
      rcases List.mem_append.mp hp with h | h
      · exact hG _ p h
      · exact ih (by omega) p h
  have cover : ∀ m, m ≤ n → ∀ k : Fin n, k.val < m → ∀ p ∈ tr k, p ∈ pb m := by
    intro m
    induction m with
    | zero => intro _ k hk; omega
    | succ m ih =>
      intro hm k hk p hp
      rw [hs ⟨m, hm⟩]
      by_cases e : k.val = m
      · obtain rfl : k = ⟨m, hm⟩ := Fin.ext e
        exact List.mem_append_left _ hp
      · exact List.mem_append_right _ (ih (by omega) k (by omega) p hp)
  funext y
  refine View.canon_apply_of_pieces G _ (agree n (le_refl n)) y ?_
  obtain ⟨k, p, hp, hy⟩ := hc y
  exact ⟨p, cover n (le_refl n) k k.isLt p hp, hy⟩

/-- Where entry `(i, j)` of a rectangle at `(a, b)` sits. -/
theorem emb2 {n0 n1 s0 s1 : ℕ} {off : Fin 2 → ℕ} {inb} (a b : ℕ) (h : off = ![a, b]) (i : Fin s0) (j : Fin s1)
    (y0 : Fin n0) (y1 : Fin n1) (h0 : y0.val = a + i.val) (h1 : y1.val = b + j.val) :
    (Rect.unit (s := (⟨2, ![n0, n1]⟩ : Shape)) off ![s0, s1] inb).emb (ix2 i j) = ix2 y0 y1 := by
  subst h
  funext d
  refine Fin.ext ?_
  match d with
  | 0 => show a + 1 * i.val = y0.val; omega
  | 1 => show b + 1 * j.val = y1.val; omega

/-- Which indices a rectangle at `(a, b)` holds. -/
theorem mem2 {n0 n1 s0 s1 : ℕ} {off : Fin 2 → ℕ} {inb} (a b : ℕ) (h : off = ![a, b])
    (y0 : Fin n0) (y1 : Fin n1) (h0 : a ≤ y0.val ∧ y0.val < a + s0) (h1 : b ≤ y1.val ∧ y1.val < b + s1) :
    (ix2 y0 y1 : (⟨2, ![n0, n1]⟩ : Shape).Idx) ∈ (Rect.unit (s := (⟨2, ![n0, n1]⟩ : Shape)) off ![s0, s1] inb).set := by
  subst h
  rw [Rect.mem_set_unit]
  intro d
  match d with
  | 0 => exact h0
  | 1 => exact h1

/-- An index of a two-dimensional shape is a pair. -/
theorem pair2 {n0 n1 : ℕ} (y : (⟨2, ![n0, n1]⟩ : Shape).Idx) : ∃ (a : Fin n0) (b : Fin n1), y = ix2 a b :=
  ⟨y 0, y 1, by funext d; match d with | 0 => rfl | 1 => rfl⟩

end Cert.Pieces

end

end
-- ==== Proof.DownTrips.lean ====
/-
What the two loops of the down kernel leave in the buffers they fill: the activations' buffer holds
codes times row-block scales, the weights' buffer codes times block scales.
-/
module

public import proofs.«01_k».proof.Proof.Gen.DownIdeal.Frame
public import proofs.«01_k».proof.Proof.DownPay
public import proofs.«01_k».proof.Proof.Pieces

@[expose] public section

set_option maxRecDepth 16384

noncomputable section

namespace Cert.DownIdeal.Block

open Idealize.ShloMosaic Idealize.ShloMosaic.TcCoe Idealize.SL.Sem Cert.DownIdeal Cert.DownIdeal.Gen Cert.Quant Cert.Pieces

section Loops
variable (c : Dev nD) (i : grid0.Coords)
  (arg2 : Memref sig .tc .vmem S1024x3584 .fp8e4m3) (harg2 : arg2.IsWhole)
  (arg3 : Memref sig .tc .vmem S1024x28 .f32) (harg3 : arg3.IsWhole)
  (arg4 : Memref sig .tc .vmem S3584x512 .fp8e4m3) (harg4 : arg4.IsWhole)
  (arg5 : Memref sig .tc .smem S28x64 .f32) (harg5 : arg5.IsWhole)
  (arg6 : Memref sig .tc .vmem S1024x512 .fp8e4m3) (harg6 : arg6.IsWhole)
  (arg7 : Memref sig .tc .vmem S1024x64 .f32) (harg7 : arg7.IsWhole)
  (arg8 : Memref sig .tc .vmem S1024x3584 .bf16) (harg8 : arg8.IsWhole)
  (arg9 : Memref sig .tc .vmem S3584x512 .bf16) (harg9 : arg9.IsWhole)

/-- Codes times the row's scale of the block of 128 columns. -/
def act (x : Vec Ideal S1024x3584 .fp8e4m3) (s : Vec Ideal S1024x28 .f32) : Vec Ideal S1024x3584 .bf16 :=
  fun y => x y * s (ix2 (y 0) ⟨(y 1).val / 128, by have : (y 1).val < 3584 := (y 1).isLt; show _ < 28; omega⟩)

/-- Weight codes times the scale of the block of 128 rows and 128 columns; `n` counts groups of four blocks. -/
def wgt (n : Fin 16) (w : Vec Ideal S3584x512 .fp8e4m3) (s : Vec Ideal S28x64 .f32) : Vec Ideal S3584x512 .bf16 :=
  fun y => w y * s (ix2 ⟨(y 0).val / 128, by have : (y 0).val < 3584 := (y 0).isLt; show _ < 28; omega⟩
    ⟨4 * n.val + (y 1).val / 128, by have : (y 1).val < 512 := (y 1).isLt; show _ < 64; omega⟩)

theorem act_canon (h1 : k0_cond1 i = 1#1) (x0 : BufTy.Contents (Elt Ideal) arg2.view.ty) (x1 : BufTy.Contents (Elt Ideal) arg3.view.ty) :
    View.canon (pb_k0_t1 (F := Ideal) Variants.none c none i arg2 harg2 arg3 harg3 arg4 harg4 arg5 harg5 arg6 harg6 arg7 harg7 arg8 harg8 arg9 harg9 h1 x0 x1
      (Scf.trips (0#32) (Scalar.addi 0#32 28#32) 1#32)) = act (arg2.view.read (Elt Ideal) x0) (arg3.view.read (Elt Ideal) x1) := by
  have hlt : ∀ k : Fin k0_t1_loop.trips, k.val < 28 := fun k => Nat.lt_of_lt_of_le k.isLt k0_t1_abs.2.1
  refine canon_of_trips k0_t1_loop.trips _ (fun k => tripL_k0_t1 (F := Ideal) Variants.none c none i arg2 harg2 arg3 harg3 arg4 harg4 arg5 harg5 arg6 harg6 arg7 harg7 arg8 harg8 arg9 harg9 h1 x0 x1 k)
    rfl (fun k => pb_k0_t1_succ ..) _ ?_ ?_
  · intro k p hp
    unfold tripL_k0_t1 trip_k0_t1 at hp
    dsimp only at hp
    rw [List.mem_singleton] at hp
    subst hp
    intro x
    obtain ⟨r, l, rfl⟩ := pair2 (n0 := 1024) (n1 := 128) x
    dsimp only
    have hk := hlt k
    refine (widen_apply k _ _ r l ⟨k.val, hk⟩ rfl).trans ?_
    have e := emb2 (n0 := 1024) (n1 := 3584) (inb := k0_off1_inb i k h1) 0 (128 * k.val) (k0_off1_eq k) r l r ⟨128 * k.val + l.val, by omega⟩ (by omega) rfl
    have e2 : (⟨(128 * k.val + l.val) / 128, by omega⟩ : Fin 28) = ⟨k.val, hk⟩ := Fin.ext (by show (128 * k.val + l.val) / 128 = k.val; omega)
    have e3 := emb2 (n0 := 1024) (n1 := 28) (inb := inb_S1024x28_S1024x28_0_0) 0 0 rfl r (⟨k.val, hk⟩ : Fin 28) r ⟨k.val, hk⟩ (by omega) (by simp)
    refine Eq.trans ?_ (congrArg (act (arg2.view.read (Elt Ideal) x0) (arg3.view.read (Elt Ideal) x1)) e).symm
    exact congrArg₂ (fun a b : EReal => a * b) (congrArg (arg2.view.read (Elt Ideal) x0) e)
      (congrArg (arg3.view.read (Elt Ideal) x1) (e3.trans (congrArg (ix2 r) e2.symm)))
  · intro y
    obtain ⟨r, l, rfl⟩ := pair2 (n0 := 1024) (n1 := 3584) y
    have ht : k0_t1_loop.trips = 28 := by decide +kernel
    refine ⟨⟨l.val / 128, by omega⟩, ?_⟩
    unfold tripL_k0_t1 trip_k0_t1
    dsimp only
    refine ⟨_, List.mem_singleton.mpr rfl, ?_⟩
    refine mem2 (n0 := 1024) (n1 := 3584) (s0 := 1024) (s1 := 128) (inb := k0_off1_inb i ⟨l.val / 128, by omega⟩ h1) 0 (128 * (l.val / 128)) (k0_off1_eq ⟨l.val / 128, by omega⟩) r l ⟨by omega, by omega⟩ ⟨by omega, by omega⟩

/-- The scale word that trip `k` loads for its block `j`. -/
theorem word_eq (n : Fin 16) (hn : (i 1).val = n.val) (x3 : BufTy.Contents (Elt Ideal) arg5.view.ty) (k : Fin k0_t2_loop.trips)
    (j : Fin 4) (hk : k.val < 28) (inb)
    (h0 : 0 < (Rect.unit (s := S28x64) (k0_off2 i k (BitVec.ofNat 32 j.val)) S1x1.size inb).shape.numel) :
    arg5.view.readAt (Elt Ideal) (Rect.unit (s := S28x64) (k0_off2 i k (BitVec.ofNat 32 j.val)) S1x1.size inb).toLoadRect x3 (Shape.Idx.first h0)
      = arg5.view.read (Elt Ideal) x3 (ix2 ⟨k.val, hk⟩ ⟨4 * n.val + j.val, by omega⟩) := by
  have e := emb2 (n0 := 28) (n1 := 64) (s0 := 1) (s1 := 1) (inb := inb) k.val (4 * n.val + j.val) ((k0_off2_eq i k j).trans (by rw [hn]))
    0 0 ⟨k.val, hk⟩ ⟨4 * n.val + j.val, by omega⟩ (by simp) (by simp)
  refine Eq.trans ?_ (congrArg (arg5.view.read (Elt Ideal) x3) e)
  have e0 : (Shape.Idx.first h0 : S1x1.Idx) = ix2 0 0 := by
    obtain ⟨a, b, h⟩ := pair2 (n0 := 1) (n1 := 1) (Shape.Idx.first h0 : S1x1.Idx)
    rw [h]; congr 1 <;> exact Subsingleton.elim _ _
  exact congrArg (fun y => arg5.view.readAt (Elt Ideal) (Rect.unit (s := S28x64) (k0_off2 i k (BitVec.ofNat 32 j.val)) S1x1.size inb).toLoadRect x3 y) e0

/-- A stored block that holds codes times its scale word is a block of the widened weights. -/
theorem block_eq (n : Fin 16) (x2 : BufTy.Contents (Elt Ideal) arg4.view.ty) (x3 : BufTy.Contents (Elt Ideal) arg5.view.ty)
    (k : ℕ) (hk : k < 28) (j : Fin 4) (off : Fin 2 → ℕ) (hoff : off = ![128 * k, 128 * j.val]) (inb)
    (s : EReal) (hs : s = arg5.view.read (Elt Ideal) x3 (ix2 ⟨k, hk⟩ ⟨4 * n.val + j.val, by omega⟩))
    (pay : Vec Ideal S128x128 .bf16)
    (hp : ∀ a l : Fin 128, pay (ix2 a l) = arg4.view.readAt (Elt Ideal) (Rect.unit (s := S3584x512) off ![128, 128] inb).toLoadRect x2 (ix2 a l) * s)
    (x : S128x128.Idx) :
    pay x = wgt n (arg4.view.read (Elt Ideal) x2) (arg5.view.read (Elt Ideal) x3) ((Rect.unit (s := S3584x512) off ![128, 128] inb).emb x) := by
  obtain ⟨r, l, rfl⟩ := pair2 (n0 := 128) (n1 := 128) x
  rw [hp, hs]
  have e := emb2 (n0 := 3584) (n1 := 512) (inb := inb) (128 * k) (128 * j.val) hoff r l ⟨128 * k + r.val, by omega⟩ ⟨128 * j.val + l.val, by omega⟩ rfl rfl
  have e2 : (⟨(128 * k + r.val) / 128, by omega⟩ : Fin 28) = ⟨k, hk⟩ := Fin.ext (by show (128 * k + r.val) / 128 = k; omega)
  have e3 : (⟨4 * n.val + (128 * j.val + l.val) / 128, by omega⟩ : Fin 64) = ⟨4 * n.val + j.val, by omega⟩ :=
    Fin.ext (by show 4 * n.val + (128 * j.val + l.val) / 128 = 4 * n.val + j.val; omega)
  refine Eq.trans ?_ (congrArg (wgt n (arg4.view.read (Elt Ideal) x2) (arg5.view.read (Elt Ideal) x3)) e).symm
  exact congrArg₂ (fun a b : EReal => a * b) (congrArg (arg4.view.read (Elt Ideal) x2) e)
    (congrArg (arg5.view.read (Elt Ideal) x3) (congrArg₂ ix2 e2.symm e3.symm))

theorem wgt_canon (n : Fin 16) (hn : (i 1).val = n.val) (x2 : BufTy.Contents (Elt Ideal) arg4.view.ty) (x3 : BufTy.Contents (Elt Ideal) arg5.view.ty) :
    View.canon (pb_k0_t2 (F := Ideal) Variants.none c none i arg2 harg2 arg3 harg3 arg4 harg4 arg5 harg5 arg6 harg6 arg7 harg7 arg8 harg8 arg9 harg9 (BitVec.ofNat 32 (i 1).val) x2 x3
      (Scf.trips (0#32) (Scalar.addi 0#32 28#32) 1#32)) = wgt n (arg4.view.read (Elt Ideal) x2) (arg5.view.read (Elt Ideal) x3) := by
  have hlt : ∀ k : Fin k0_t2_loop.trips, k.val < 28 := fun k => Nat.lt_of_lt_of_le k.isLt k0_t2_abs.2.1
  refine canon_of_trips k0_t2_loop.trips _ (fun k => tripL_k0_t2 (F := Ideal) Variants.none c none i arg2 harg2 arg3 harg3 arg4 harg4 arg5 harg5 arg6 harg6 arg7 harg7 arg8 harg8 arg9 harg9 (BitVec.ofNat 32 (i 1).val) x2 x3 k)
    rfl (fun k => pb_k0_t2_succ ..) _ ?_ ?_
  · intro k p hp
    have hk := hlt k
    unfold tripL_k0_t2 trip_k0_t2 at hp
    dsimp only at hp
    unfold trip_k0_t2.sl.r_4 trip_k0_t2.sl.r_3 trip_k0_t2.sl.r_1 trip_k0_t2.sl.r trip_k0_t2.sl.r_2 at hp
    simp only [List.mem_cons, List.not_mem_nil, or_false] at hp
    rcases hp with rfl | rfl | rfl | rfl
    · exact block_eq arg4 arg5 n x2 x3 k.val hk 3 _ (k0_off6_eq k) _ _ (word_eq i arg5 n hn x3 k 3 hk _ _) _ (fun a l => w9 _ _ a l)
    · exact block_eq arg4 arg5 n x2 x3 k.val hk 2 _ (k0_off5_eq k) _ _ (word_eq i arg5 n hn x3 k 2 hk _ _) _ (fun a l => w5 _ _ a l)
    · exact block_eq arg4 arg5 n x2 x3 k.val hk 1 _ (k0_off4_eq k) _ _ (word_eq i arg5 n hn x3 k 1 hk _ _) _ (fun a l => w4 _ _ a l)
    · exact block_eq arg4 arg5 n x2 x3 k.val hk 0 _ (k0_off3_eq k) _ _ (word_eq i arg5 n hn x3 k 0 hk _ _) _ (fun a l => w3 _ _ a l)
  · intro y
    obtain ⟨r, l, rfl⟩ := pair2 (n0 := 3584) (n1 := 512) y
    have ht : k0_t2_loop.trips = 28 := by decide +kernel
    refine ⟨⟨r.val / 128, by omega⟩, ?_⟩
    unfold tripL_k0_t2 trip_k0_t2
    dsimp only
    by_cases c3 : 384 ≤ l.val
    · exact ⟨_, List.mem_cons_self, mem2 (n0 := 3584) (n1 := 512) (s0 := 128) (s1 := 128) (inb := k0_off6_inb ⟨r.val / 128, by omega⟩) _ _ (k0_off6_eq ⟨r.val / 128, by omega⟩) r l ⟨by dsimp only; omega, by dsimp only; omega⟩ ⟨by omega, by omega⟩⟩
    by_cases c2 : 256 ≤ l.val
    · exact ⟨_, List.mem_cons_of_mem _ List.mem_cons_self, mem2 (n0 := 3584) (n1 := 512) (s0 := 128) (s1 := 128) (inb := k0_off5_inb ⟨r.val / 128, by omega⟩) _ _ (k0_off5_eq ⟨r.val / 128, by omega⟩) r l ⟨by dsimp only; omega, by dsimp only; omega⟩ ⟨by omega, by omega⟩⟩
    by_cases c1 : 128 ≤ l.val
    · exact ⟨_, List.mem_cons_of_mem _ (List.mem_cons_of_mem _ List.mem_cons_self), mem2 (n0 := 3584) (n1 := 512) (s0 := 128) (s1 := 128) (inb := k0_off4_inb ⟨r.val / 128, by omega⟩) _ _ (k0_off4_eq ⟨r.val / 128, by omega⟩) r l ⟨by dsimp only; omega, by dsimp only; omega⟩ ⟨by omega, by omega⟩⟩
    · exact ⟨_, List.mem_cons_of_mem _ (List.mem_cons_of_mem _ (List.mem_cons_of_mem _ List.mem_cons_self)), mem2 (n0 := 3584) (n1 := 512) (s0 := 128) (s1 := 128) (inb := k0_off3_inb ⟨r.val / 128, by omega⟩) _ _ (k0_off3_eq ⟨r.val / 128, by omega⟩) r l ⟨by dsimp only; omega, by dsimp only; omega⟩ ⟨by omega, by omega⟩⟩

end Loops

end Cert.DownIdeal.Block

end

end
-- ==== Proof.DownSpec.lean ====
/-
The mathematics of the down projection, as functions on extended reals, independent of any program:
dequantise the activations (one scale per row and 128 columns) and the weights (one scale per block of
128 by 128), multiply, and quantise every row of the product 128 columns at a time.
-/
module

public import proofs.«01_k».proof.Proof.Quant

@[expose] public section

noncomputable section

namespace Cert.DownSpec

open Idealize.ShloMosaic Cert.Quant

variable (hc : (⟨2, ![8192, 3584]⟩ : Shape).Idx → EReal) (hs : (⟨2, ![8192, 28]⟩ : Shape).Idx → EReal)
  (wc : (⟨2, ![3584, 8192]⟩ : Shape).Idx → EReal) (ws : (⟨2, ![28, 64]⟩ : Shape).Idx → EReal)

/-- One entry of the product of the dequantised activations and weights. -/
def out (r : Fin 8192) (c : Fin 8192) : EReal :=
  ∑ k : Fin 3584, (hc (ix2 r k) * hs (ix2 r ⟨k.val / 128, by omega⟩))
    * (wc (ix2 k c) * ws (ix2 ⟨k.val / 128, by omega⟩ ⟨c.val / 128, by omega⟩))

/-- The row quantiser's `t` of block `b` of row `r`. -/
def top (r : Fin 8192) (b : Fin 64) : EReal :=
  tRow fun l : Fin 128 => out hc hs wc ws r ⟨128 * b.val + l.val, by omega⟩

/-- The codes of the product. -/
def codes : (⟨2, ![8192, 8192]⟩ : Shape).Idx → EReal := fun i =>
  code (out hc hs wc ws (i 0) (i 1))
    (kInv (top hc hs wc ws (i 0) ⟨(i 1).val / 128, by have : (i 1).val < 8192 := (i 1).isLt; show _ < 64; omega⟩))

/-- The scales of the product. -/
def scales : (⟨2, ![8192, 64]⟩ : Shape).Idx → EReal := fun i => kScale (top hc hs wc ws (i 0) (i 1))

end Cert.DownSpec

end

end
-- ==== Proof.DownBlocks.lean ====
/-
What each grid point of the down kernel leaves in its two output blocks and in the activations'
buffer, and so what the two result arrays hold.
-/
module

public import proofs.«01_k».proof.Proof.Gen.DownIdeal.Value
public import proofs.«01_k».proof.Proof.DownTrips
public import proofs.«01_k».proof.Proof.DownSpec

@[expose] public section

set_option maxRecDepth 16384

noncomputable section

namespace Cert.DownIdeal.Block

open Idealize.ShloMosaic Idealize.ShloMosaic.TcCoe Idealize.SL.Sem Cert.DownIdeal Cert.DownIdeal.Gen Cert.Quant Cert.Pieces

variable (m : (ℓ : Loc nD τ sig) → Buf (Elt Ideal) ℓ) (c : Dev nD)

theorem idx : ∀ t : Fin cfg0.N, win0_0.index t = ![t.val / 16, 0] ∧ win0_1.index t = ![t.val / 16, 0] ∧ win0_2.index t = ![0, t.val % 16]
    ∧ win0_3.index t = ![0, 0] ∧ win0_4.index t = ![t.val / 16, t.val % 16] ∧ win0_5.index t = ![t.val / 16, 0] :=
  (by decide +kernel : ∀ t : Fin grid0.N, _)

theorem coords1 : ∀ t : Fin cfg0.N, (grid0.coords t 1).val = t.val % 16 := (by decide +kernel : ∀ t : Fin grid0.N, _)

/-- The arguments. -/
abbrev HC : Vec Ideal S8192x3584 .fp8e4m3 := m ((c : Thread nD τ).loc main_arg0)
abbrev HS : Vec Ideal S8192x28 .f32 := m ((c : Thread nD τ).loc main_arg1)
abbrev WC : Vec Ideal S3584x8192 .fp8e4m3 := m ((c : Thread nD τ).loc main_arg2)
abbrev WS : Vec Ideal S28x64 .f32 := m ((c : Thread nD τ).loc main_arg3)

/-- The activations' buffer at a point. -/
def A8 (t : Fin cfg0.N) : Vec Ideal S1024x3584 .bf16 := act (iblk m c 0 t) (iblk m c 1 t)
/-- The weights' buffer at a point. -/
def A9 (t : Fin cfg0.N) : Vec Ideal S3584x512 .bf16 := wgt ⟨t.val % 16, by omega⟩ (iblk m c 2 t) (iblk m c 3 t)

theorem A8_apply (t : Fin cfg0.N) (r : Fin 1024) (k : Fin 3584) (q : Fin 8192) (hq : q.val = 1024 * (t.val / 16) + r.val) :
    A8 m c t (ix2 r k) = HC m c (ix2 q k) * HS m c (ix2 q ⟨k.val / 128, by omega⟩) := by
  unfold A8 act
  blk_point [iblk, V, idx t]

theorem A9_apply (t : Fin cfg0.N) (k : Fin 3584) (l : Fin 512) (q : Fin 8192) (hq : q.val = 512 * (t.val % 16) + l.val) :
    A9 m c t (ix2 k l) = WC m c (ix2 k q) * WS m c (ix2 ⟨k.val / 128, by omega⟩ ⟨q.val / 128, by omega⟩) := by
  unfold A9 wgt
  blk_point [iblk, V, idx t]

/-- The activations' buffer does not change inside a row of sixteen points. -/
theorem A8_prev (t : Fin cfg0.N) (h0 : ¬ t.val % 16 = 0) (hl : t.val - 1 < cfg0.N) : A8 m c ⟨t.val - 1, hl⟩ = A8 m c t := by
  funext y
  obtain ⟨r, k, rfl⟩ := pair2 (n0 := 1024) (n1 := 3584) y
  have hN : t.val < 128 := lt_of_lt_of_eq t.isLt N_0
  rw [A8_apply m c t r k ⟨1024 * (t.val / 16) + r.val, by omega⟩ rfl,
    A8_apply m c ⟨t.val - 1, hl⟩ r k ⟨1024 * (t.val / 16) + r.val, by omega⟩ (by show 1024 * (t.val / 16) + r.val = 1024 * ((t.val - 1) / 16) + r.val; omega)]

theorem act_buf (t : Fin cfg0.N) (h) :
    View.canon (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h
      ((hs0_0 t).unread (iblk m c 0 t)) ((hs0_1 t).unread (iblk m c 1 t)) (Scf.trips (0#32) (Scalar.addi 0#32 28#32) 1#32)) = A8 m c t := by
  rw [act_canon]
  simp only [(hs0_0 t).read_unread, (hs0_1 t).read_unread]
  rfl

theorem wgt_buf (t : Fin cfg0.N) :
    View.canon (pb_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (BitVec.ofNat 32 (grid0.coords t 1).val)
      ((hs0_2 t).unread (iblk m c 2 t)) ((hs0_3 t).unread (iblk m c 3 t)) (Scf.trips (0#32) (Scalar.addi 0#32 28#32) 1#32)) = A9 m c t := by
  rw [wgt_canon _ _ _ _ _ _ _ _ _ _ _ _ _ _ _ _ _ _ ⟨t.val % 16, by omega⟩ (coords1 t)]
  simp only [(hs0_2 t).read_unread, (hs0_3 t).read_unread]
  rfl

theorem scratch (n : ℕ) : ∀ (hn : n < cfg0.N), (outsAt0 m c n hn).2.2 = A8 m c ⟨n, hn⟩ := by
  induction n with
  | zero =>
    intro hn
    rw [outsAt0_A m c ⟨0, hn⟩ rfl]
    dsimp only
    frame_out
    exact act_buf m c _ _
  | succ n ih =>
    intro hn
    by_cases h0 : (n + 1) % 16 = 0
    · rw [outsAt0_A m c ⟨n + 1, hn⟩ h0]
      dsimp only
      frame_out
      exact act_buf m c _ _
    · rw [outsAt0_B m c ⟨n + 1, hn⟩ h0]
      dsimp only
      exact (ih _).trans (A8_prev m c ⟨n + 1, hn⟩ h0 (by omega))

/-- Loading a whole buffer reads its contents. -/
theorem load_whole {n0 n1 : ℕ} {e : EltTy} (X : (⟨2, ![n0, n1]⟩ : Shape).Idx → Elt Ideal e) (inb) :
    (fun j => X ((Rect.unit (s := (⟨2, ![n0, n1]⟩ : Shape)) ![0, 0] ![n0, n1] inb).toLoadRect.idx j)) = X := by
  funext j
  obtain ⟨a, b, rfl⟩ := pair2 (n0 := n0) (n1 := n1) j
  exact congrArg X (emb2 (inb := inb) 0 0 rfl a b a b (by omega) (by omega))

theorem load_act (t : Fin cfg0.N) (h) (inb) :
    (View.whole cc0_scratch0).readCov (Val := Elt Ideal) (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) h
      ((hs0_0 t).unread (iblk m c 0 t)) ((hs0_1 t).unread (iblk m c 1 t)) (Scf.trips (0#32) (Scalar.addi 0#32 28#32) 1#32))
      (Rect.unit (s := S1024x3584) ![0, 0] ![1024, 3584] inb).toLoadRect = A8 m c t := by
  refine (View.readCov_eq_canon' _ _ _).trans ?_
  rw [act_buf]
  exact load_whole (A8 m c t) inb

theorem load_wgt (t : Fin cfg0.N) (inb) :
    (View.whole cc0_scratch1).readCov (Val := Elt Ideal) (pb_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (BitVec.ofNat 32 (grid0.coords t 1).val)
      ((hs0_2 t).unread (iblk m c 2 t)) ((hs0_3 t).unread (iblk m c 3 t)) (Scf.trips (0#32) (Scalar.addi 0#32 28#32) 1#32))
      (Rect.unit (s := S3584x512) ![0, 0] ![3584, 512] inb).toLoadRect = A9 m c t := by
  refine (View.readCov_eq_canon' _ _ _).trans ?_
  rw [wgt_buf]
  exact load_whole (A9 m c t) inb

/-- Four slabs stored side by side. -/
theorem canon4 (G : S1024x512.Idx → Elt Ideal .fp8e4m3) (x0 x1 x2 x3 : Vec Ideal S1024x128 .fp8e4m3) (i0) (i1) (i2) (i3)
    (h0 : ∀ (r : Fin 1024) (l : Fin 128), x0 (ix2 r l) = G (ix2 r ⟨l.val, by omega⟩))
    (h1 : ∀ (r : Fin 1024) (l : Fin 128), x1 (ix2 r l) = G (ix2 r ⟨128 + l.val, by omega⟩))
    (h2 : ∀ (r : Fin 1024) (l : Fin 128), x2 (ix2 r l) = G (ix2 r ⟨256 + l.val, by omega⟩))
    (h3 : ∀ (r : Fin 1024) (l : Fin 128), x3 (ix2 r l) = G (ix2 r ⟨384 + l.val, by omega⟩)) :
    View.canon (Val := Elt Ideal) (s := S1024x512) (e := .fp8e4m3) [⟨Rect.unit ![0, 384] ![1024, 128] i3, x3⟩, ⟨Rect.unit ![0, 256] ![1024, 128] i2, x2⟩,
      ⟨Rect.unit ![0, 128] ![1024, 128] i1, x1⟩, ⟨Rect.unit ![0, 0] ![1024, 128] i0, x0⟩] = G := by
  funext y
  refine View.canon_apply_of_pieces G _ ?_ y ?_
  · intro p hp x
    simp only [List.mem_cons, List.not_mem_nil, or_false] at hp
    rcases hp with rfl | rfl | rfl | rfl <;> obtain ⟨r, l, rfl⟩ := pair2 (n0 := 1024) (n1 := 128) x
    · exact (h3 r l).trans (congrArg G (emb2 (inb := i3) 0 384 rfl r l r ⟨384 + l.val, by omega⟩ (by omega) rfl).symm)
    · exact (h2 r l).trans (congrArg G (emb2 (inb := i2) 0 256 rfl r l r ⟨256 + l.val, by omega⟩ (by omega) rfl).symm)
    · exact (h1 r l).trans (congrArg G (emb2 (inb := i1) 0 128 rfl r l r ⟨128 + l.val, by omega⟩ (by omega) rfl).symm)
    · exact (h0 r l).trans (congrArg G (emb2 (inb := i0) 0 0 rfl r l r ⟨l.val, by omega⟩ (by omega) (by simp)).symm)
  · obtain ⟨r, l, rfl⟩ := pair2 (n0 := 1024) (n1 := 512) y
    by_cases c3 : 384 ≤ l.val
    · exact ⟨_, List.mem_cons_self, mem2 (n0 := 1024) (n1 := 512) (s0 := 1024) (s1 := 128) (inb := i3) 0 384 rfl r l ⟨by omega, by omega⟩ ⟨by omega, by omega⟩⟩
    by_cases c2 : 256 ≤ l.val
    · exact ⟨_, List.mem_cons_of_mem _ List.mem_cons_self, mem2 (n0 := 1024) (n1 := 512) (s0 := 1024) (s1 := 128) (inb := i2) 0 256 rfl r l ⟨by omega, by omega⟩ ⟨by omega, by omega⟩⟩
    by_cases c1 : 128 ≤ l.val
    · exact ⟨_, List.mem_cons_of_mem _ (List.mem_cons_of_mem _ List.mem_cons_self), mem2 (n0 := 1024) (n1 := 512) (s0 := 1024) (s1 := 128) (inb := i1) 0 128 rfl r l ⟨by omega, by omega⟩ ⟨by omega, by omega⟩⟩
    · exact ⟨_, List.mem_cons_of_mem _ (List.mem_cons_of_mem _ (List.mem_cons_of_mem _ List.mem_cons_self)), mem2 (n0 := 1024) (n1 := 512) (s0 := 1024) (s1 := 128) (inb := i0) 0 0 rfl r l ⟨by omega, by omega⟩ ⟨by omega, by omega⟩⟩

/-- One entry of a point's product. -/
def P (a8 : Vec Ideal S1024x3584 .bf16) (a9 : Vec Ideal S3584x512 .bf16) (r : Fin 1024) (l : Fin 512) : EReal :=
  ∑ k : Fin 3584, a8 (ix2 r k) * a9 (ix2 k l)

/-- A point's block of codes. -/
def blkCodes (a8 : Vec Ideal S1024x3584 .bf16) (a9 : Vec Ideal S3584x512 .bf16) : S1024x512.Idx → EReal := fun y =>
  code (P a8 a9 (y 0) (y 1)) (kInv (tRow fun l : Fin 128 => P a8 a9 (y 0) ⟨128 * ((y 1).val / 128) + l.val, by
    have : (y 1).val < 512 := (y 1).isLt; show _ < 512; omega⟩))

theorem slab_codes (a8 : Vec Ideal S1024x3584 .bf16) (a9 : Vec Ideal S3584x512 .bf16) (b : Fin 4) (x : FVec Ideal S1024x128 .f32)
    (hx : ∀ (r : Fin 1024) (l : Fin 128), x (ix2 r l) = P a8 a9 r ⟨128 * b.val + l.val, by omega⟩) (r : Fin 1024) (l : Fin 128) (q : Fin 512)
    (hq : q.val = 128 * b.val + l.val) : codesV x (ix2 r l) = blkCodes a8 a9 (ix2 r q) := by
  obtain ⟨q, hlt⟩ := q
  obtain rfl : q = 128 * b.val + l.val := hq
  rw [codesV_apply, hx]
  unfold blkCodes
  show code (P a8 a9 r _) (kInv (tRow fun l => x (ix2 r l))) = code (P a8 a9 r _) _
  congr 3
  funext l'
  rw [hx]
  congr 1
  exact Fin.ext (by show 128 * b.val + l'.val = 128 * ((128 * b.val + l.val) / 128) + l'.val; omega)

theorem blk4 (t : Fin cfg0.N) : (outsAt0 m c t.val t.isLt).1 = blkCodes (A8 m c t) (A9 m c t) := by
  by_cases h0 : t.val % 16 = 0
  · rw [outsAt0_A m c t h0]
    dsimp only
    frame_out
    rw [load_act, load_wgt, codes0, codes1, codes2, codes3]
    refine canon4 _ _ _ _ _ _ _ _ _ ?_ ?_ ?_ ?_
    · exact fun r l => slab_codes _ _ 0 _ (fun r l => (slab0 _ _ r l).trans (by unfold P; simp)) r l _ (by simp)
    · exact fun r l => slab_codes _ _ 1 _ (fun r l => slab1 _ _ r l) r l _ rfl
    · exact fun r l => slab_codes _ _ 2 _ (fun r l => slab2 _ _ r l) r l _ rfl
    · exact fun r l => slab_codes _ _ 3 _ (fun r l => slab3 _ _ r l) r l _ rfl
  · rw [outsAt0_B m c t h0]
    dsimp only
    frame_out
    rw [(Memref.isWhole_whole cc0_scratch0).read_unread, scratch m c _ _, A8_prev m c t h0, load_wgt, codes0, codes1, codes2, codes3]
    refine canon4 _ _ _ _ _ _ _ _ _ ?_ ?_ ?_ ?_
    · exact fun r l => slab_codes _ _ 0 _ (fun r l => (slab0 _ _ r l).trans (by unfold P; simp)) r l _ (by simp)
    · exact fun r l => slab_codes _ _ 1 _ (fun r l => slab1 _ _ r l) r l _ rfl
    · exact fun r l => slab_codes _ _ 2 _ (fun r l => slab2 _ _ r l) r l _ rfl
    · exact fun r l => slab_codes _ _ 3 _ (fun r l => slab3 _ _ r l) r l _ rfl

end Cert.DownIdeal.Block

end

end
-- ==== Proof.DownArrays.lean ====
/-
The scales the down kernel collects over the 16 points of a row of blocks, and the two result arrays.
-/
module

public import proofs.«01_k».proof.Proof.DownBlocks

@[expose] public section

set_option maxRecDepth 16384

noncomputable section

namespace Cert.DownIdeal.Block

open Idealize.ShloMosaic Idealize.ShloMosaic.TcCoe Idealize.SL.Sem Cert.DownIdeal Cert.DownIdeal.Gen Cert.Quant Cert.Pieces

variable (m : (ℓ : Loc nD τ sig) → Buf (Elt Ideal) ℓ) (c : Dev nD)

/-- The column a store of scales names. -/
theorem column (n j : ℕ) : Scalar.addi (Scalar.muli (BitVec.ofNat 32 n) 4#32) (BitVec.ofNat 32 j) = BitVec.ofNat 32 (4 * n + j) := by
  show BitVec.ofNat 32 n * BitVec.ofNat 32 4 + BitVec.ofNat 32 j = _
  rw [← BitVec.ofNat_mul, ← BitVec.ofNat_add, Nat.mul_comm]

theorem store_at (n j : ℕ) (hn : n < 16) (hj : j < 4) (x : FVec Ideal S1024x128 .f32) (old : Vec Ideal S1024x64 .f32) (r : Fin 1024) (b : Fin 64) :
    storeV (Scalar.addi (Scalar.muli (BitVec.ofNat 32 n) 4#32) (BitVec.ofNat 32 j)) x old (ix2 r b)
      = if b.val = 4 * n + j then kScale (tRow fun l => x (ix2 r l)) else old (ix2 r b) := by
  rw [storeV_apply, column]
  exact if_congr (ofNat_eq_iff _ _ (by omega) (by omega)) rfl rfl

/-- The scale of one of the four slabs of a point. -/
def blkScale (a8 : Vec Ideal S1024x3584 .bf16) (a9 : Vec Ideal S3584x512 .bf16) (r : Fin 1024) (j : Fin 4) : EReal :=
  kScale (tRow fun l : Fin 128 => P a8 a9 r ⟨128 * j.val + l.val, by omega⟩)

/-- A point's four stores of scales. -/
theorem stores (n : ℕ) (hn : n < 16) (a8 : Vec Ideal S1024x3584 .bf16) (a9 : Vec Ideal S3584x512 .bf16) (old : Vec Ideal S1024x64 .f32)
    (r : Fin 1024) (b : Fin 64) :
    storeV (Scalar.addi (Scalar.muli (BitVec.ofNat 32 n) 4#32) 3#32) (k0_pay34 (k0_pay10 a8 a9))
      (storeV (Scalar.addi (Scalar.muli (BitVec.ofNat 32 n) 4#32) 2#32) (k0_pay29 (k0_pay10 a8 a9))
        (storeV (Scalar.addi (Scalar.muli (BitVec.ofNat 32 n) 4#32) 1#32) (k0_pay21 (k0_pay10 a8 a9))
          (storeV (Scalar.addi (Scalar.muli (BitVec.ofNat 32 n) 4#32) 0#32) (k0_pay11 a8 a9) old))) (ix2 r b)
      = if b.val / 4 = n then blkScale a8 a9 r ⟨b.val % 4, Nat.mod_lt _ (by decide)⟩ else old (ix2 r b) := by
  rw [store_at n 3 hn (by decide), store_at n 2 hn (by decide), store_at n 1 hn (by decide), store_at n 0 hn (by decide)]
  simp only [slab0, slab1, slab2, slab3]
  unfold blkScale P
  by_cases hb : b.val / 4 = n
  · rw [if_pos hb]
    have hm : b.val % 4 = 0 ∨ b.val % 4 = 1 ∨ b.val % 4 = 2 ∨ b.val % 4 = 3 := by omega
    rcases hm with h | h | h | h
    · rw [if_neg (by omega), if_neg (by omega), if_neg (by omega), if_pos (by omega)]; simp only [h]; simp
    · rw [if_neg (by omega), if_neg (by omega), if_pos (by omega)]; simp only [h]
    · rw [if_neg (by omega), if_pos (by omega)]; simp only [h]
    · rw [if_pos (by omega)]; simp only [h]
  · rw [if_neg hb, if_neg (by omega), if_neg (by omega), if_neg (by omega), if_neg (by omega)]

/-- A point's product is a block of the whole product. -/
theorem P_eq (t : Fin cfg0.N) (r : Fin 1024) (l : Fin 512) (q q' : Fin 8192) (hq : q.val = 1024 * (t.val / 16) + r.val)
    (hq' : q'.val = 512 * (t.val % 16) + l.val) :
    P (A8 m c t) (A9 m c t) r l = Cert.DownSpec.out (HC m c) (HS m c) (WC m c) (WS m c) q q' := by
  unfold P Cert.DownSpec.out
  exact Finset.sum_congr rfl fun k _ => by rw [A8_apply m c t r k q hq, A9_apply m c t k l q' hq']

theorem blkScale_eq (t : Fin cfg0.N) (r : Fin 1024) (j : Fin 4) (q : Fin 8192) (b : Fin 64) (hq : q.val = 1024 * (t.val / 16) + r.val)
    (hb : b.val = 4 * (t.val % 16) + j.val) :
    blkScale (A8 m c t) (A9 m c t) r j = kScale (Cert.DownSpec.top (HC m c) (HS m c) (WC m c) (WS m c) q b) := by
  unfold blkScale Cert.DownSpec.top
  congr 2
  funext l
  exact P_eq m c t r _ q _ hq (by show 128 * b.val + l.val = 512 * (t.val % 16) + (128 * j.val + l.val); omega)

/-- One point's effect on the block of scales. -/
theorem scales_A (t : Fin cfg0.N) (h0 : t.val % 16 = 0) (r : Fin 1024) (b : Fin 64) :
    (outsAt0 m c t.val t.isLt).2.1 (ix2 r b)
      = if b.val / 4 = t.val % 16 then blkScale (A8 m c t) (A9 m c t) r ⟨b.val % 4, Nat.mod_lt _ (by decide)⟩
        else (k0_pay7 (F := Ideal)) (ix2 r b) := by
  rw [outsAt0_A m c t h0]
  dsimp only
  frame_out
  rw [load_act, load_wgt, store3, store2, store1, store0, coords1]
  exact stores _ (Nat.mod_lt _ (by decide)) _ _ _ r b

theorem scales_B (t : Fin cfg0.N) (h0 : ¬ t.val % 16 = 0) (r : Fin 1024) (b : Fin 64) :
    (outsAt0 m c t.val t.isLt).2.1 (ix2 r b)
      = if b.val / 4 = t.val % 16 then blkScale (A8 m c t) (A9 m c t) r ⟨b.val % 4, Nat.mod_lt _ (by decide)⟩
        else (outsAt0 m c (t.val - 1) (Nat.lt_of_le_of_lt (Nat.sub_le _ _) t.isLt)).2.1 (ix2 r b) := by
  rw [outsAt0_B m c t h0]
  dsimp only
  frame_out
  rw [(Memref.isWhole_whole cc0_scratch0).read_unread, scratch m c _ _, A8_prev m c t h0, load_wgt, store3, store2, store1, store0, coords1]
  exact stores _ (Nat.mod_lt _ (by decide)) _ _ _ r b

/-- The scales collected so far. -/
theorem collected (n : ℕ) : ∀ (hn : n < cfg0.N) (r : Fin 1024) (b : Fin 64) (q : Fin 8192) (_ : q.val = 1024 * (n / 16) + r.val)
    (_ : b.val / 4 ≤ n % 16), (outsAt0 m c n hn).2.1 (ix2 r b)
      = kScale (Cert.DownSpec.top (HC m c) (HS m c) (WC m c) (WS m c) q b) := by
  induction n with
  | zero =>
    intro hn r b q hq hb
    refine (scales_A m c ⟨0, hn⟩ rfl r b).trans ?_
    rw [if_pos (by show b.val / 4 = 0 % 16; omega)]
    exact blkScale_eq m c ⟨0, hn⟩ r _ q b hq (by show b.val = 4 * (0 % 16) + b.val % 4; omega)
  | succ n ih =>
    intro hn r b q hq hb
    by_cases hb' : b.val / 4 = (n + 1) % 16
    · have h : blkScale (A8 m c ⟨n + 1, hn⟩) (A9 m c ⟨n + 1, hn⟩) r ⟨b.val % 4, Nat.mod_lt _ (by decide)⟩
          = kScale (Cert.DownSpec.top (HC m c) (HS m c) (WC m c) (WS m c) q b) :=
        blkScale_eq m c ⟨n + 1, hn⟩ r _ q b hq (by show b.val = 4 * ((n + 1) % 16) + b.val % 4; omega)
      by_cases h0 : (n + 1) % 16 = 0
      · exact (scales_A m c ⟨n + 1, hn⟩ h0 r b).trans ((if_pos hb').trans h)
      · exact (scales_B m c ⟨n + 1, hn⟩ h0 r b).trans ((if_pos hb').trans h)
    · have h0 : ¬ (n + 1) % 16 = 0 := by omega
      exact (scales_B m c ⟨n + 1, hn⟩ h0 r b).trans ((if_neg hb').trans (ih (by omega) r b q (by omega) (by omega)))

theorem emb4 (t : Fin cfg0.N) (r : Fin 1024) (l : Fin 512) (h0 h1) :
    (win0_4.blk t).view.emb (ix2 r l) = ix2 ⟨1024 * (t.val / 16) + r.val, h0⟩ ⟨512 * (t.val % 16) + l.val, h1⟩ := by
  blk_ext! [idx t]

theorem emb5 (t : Fin cfg0.N) (r : Fin 1024) (b : Fin 64) (h0) :
    (win0_5.blk t).view.emb (ix2 r b) = ix2 ⟨1024 * (t.val / 16) + r.val, h0⟩ b := by
  blk_ext! [idx t]

/-- The array of codes. -/
theorem arr4 : (dats m 0 c).arrAt 4 cfg0.N = Cert.DownSpec.codes (HC m c) (HS m c) (WC m c) (WS m c) := by
  refine Pipeline.Dat.arrAt_eq_of_covers (dats m 0 c) 4 _ (by decide +kernel) fun t hf y => ?_
  blk_simp
  rw [after0_4, blk4]
  have hN : t.val < 128 := lt_of_lt_of_eq t.isLt N_0
  obtain ⟨r, l, hy⟩ := pair2 (n0 := 1024) (n1 := 512) y
  rw [hy, emb4 t r l (by omega) (by omega)]
  unfold blkCodes Cert.DownSpec.codes Cert.DownSpec.top
  refine congrArg₂ code (P_eq m c t r l _ _ rfl rfl) (congrArg kInv (congrArg tRow (funext fun x => P_eq m c t r _ _ _ rfl ?_)))
  show 128 * ((512 * (t.val % 16) + l.val) / 128) + x.val = 512 * (t.val % 16) + (128 * (l.val / 128) + x.val)
  omega

/-- The array of scales. -/
theorem arr5 : (dats m 0 c).arrAt 5 cfg0.N = Cert.DownSpec.scales (HC m c) (HS m c) (WC m c) (WS m c) := by
  refine Pipeline.Dat.arrAt_eq_of_covers (dats m 0 c) 5 _ (by decide +kernel) fun t hf y => ?_
  blk_simp
  rw [after0_5]
  have hN : t.val < 128 := lt_of_lt_of_eq t.isLt N_0
  have h15 : t.val % 16 = 15 := (by decide +kernel : ∀ t : Fin cfg0.N, (cfg0.win 5).flush t = true → t.val % 16 = 15) t hf
  obtain ⟨r, b, hy⟩ := pair2 (n0 := 1024) (n1 := 64) y
  rw [hy, emb5 t r b (by omega)]
  exact collected m c t.val t.isLt r b _ rfl (by omega)

end Cert.DownIdeal.Block

end

end
-- ==== Proof.DownRef.lean ====
/-
What the reference of the down projection computes: the codes and scales of `DownSpec`.
-/
module

public import proofs.«01_k».proof.Proof.Gen.DownRefIdeal.Value
public import proofs.«01_k».proof.Proof.DownSpec
public import proofs.«01_k».proof.Proof.Pieces

@[expose] public section

set_option maxRecDepth 16384

noncomputable section

namespace Cert.DownRefIdeal.Block

open Idealize.ShloMosaic Idealize.ShloMosaic.TcCoe Idealize.SL.Sem Cert.DownRefIdeal Cert.DownRefIdeal.Gen Cert.Quant Cert.Pieces

section
variable (x0 : Vec Ideal S8192x3584 .fp8e4m3) (x1 : Vec Ideal S8192x28 .f32) (x9 : Vec Ideal S3584x8192 .fp8e4m3) (x10 : Vec Ideal S28x64 .f32)

/-- The product, in blocks of 128 columns. -/
theorem product (r : Fin 8192) (b : Fin 64) (l : Fin 128) :
    k0_pay2 x0 x1 x9 x10 (ix3 r b l) = Cert.DownSpec.out x0 x1 x9 x10 r ⟨128 * b.val + l.val, by omega⟩ := by
  pointwise [k0_pay2, Cert.DownSpec.out]
  refine Finset.sum_congr rfl fun k _ => ?_
  congr 3
  · exact congrArg (fun q => ix2 k q) (Fin.ext (by show b.val * 128 + l.val = 128 * b.val + l.val; omega))
  · exact congrArg (fun q => ix2 _ q) (Fin.ext (by show b.val = (128 * b.val + l.val) / 128; omega))

/-- The greatest magnitude of every block. -/
def greatest (x : FVec Ideal S8192x64x128 .f32) : FVec Ideal S8192x64 .f32 :=
  multiReduction .maximumf [2] S8192x64 (absf x) 0xFF800000#32 reduces_S8192x64x128_S8192x64 (.inl rfl) rfl

/-- The greatest magnitude of every block, over 448. -/
def tops (x : FVec Ideal S8192x64x128 .f32) : FVec Ideal S8192x64 .f32 :=
  mulf (greatest x) (broadcast S8192x64 (Scalar.ofBits .f32 0x3B124925#32))

theorem greatest_apply (x : FVec Ideal S8192x64x128 .f32) (r : Fin 8192) (b : Fin 64) :
    greatest x (ix2 r b) = Finset.univ.fold max (Ideal.ofBits .f32 4286578688#32) (fun l : Fin 128 => FloatOps.absf (F := Ideal) (x (ix3 r b l))) := by
  have hl : ∀ l : Fin 128, reduces_S8192x64x128_S8192x64.lift (ix2 r b) l = ix3 r b l := fun l => by
    funext a
    fin_cases a <;> rfl
  unfold greatest
  rw [Ideal.multiReduction_maximumf_single (φ := .f32) (absf x) 0xFF800000#32 reduces_S8192x64x128_S8192x64 (.inl rfl) rfl (ix2 r b)]
  refine Finset.fold_congr fun l _ => ?_
  exact congrArg (absf x) (hl l)

theorem tops_apply (x : FVec Ideal S8192x64x128 .f32) (r : Fin 8192) (b : Fin 64) :
    tops x (ix2 r b) = tRow fun l => x (ix3 r b l) := by
  have h : ∀ y : FVec Ideal S8192x64 .f32, mulf y (broadcast S8192x64 (Scalar.ofBits .f32 0x3B124925#32)) (ix2 r b)
      = FloatOps.mulf (F := Ideal) (φ := .f32) (y (ix2 r b)) (Scalar.ofBits .f32 0x3B124925#32) := fun y => rfl
  unfold tops
  rw [h, greatest_apply]
  rfl

/-- One trip of the count, on all blocks. -/
theorem trip_vec (k : Fin k0_t1_loop.trips) (e : IVec S8192x64 32) :
    k0_pay4 x0 x1 x9 x10 k e = select (cmpf .ole (exp2 (sitofp .f32 (broadcast S8192x64 (Scf.iv 4294967170#32 1#32 k.val)))) (tops (k0_pay2 x0 x1 x9 x10)))
      (broadcast S8192x64 (Scalar.addi (Scf.iv 4294967170#32 1#32 k.val) 1#32)) e := by
  unfold k0_pay4 tops greatest
  rfl

/-- One trip of the count. -/
theorem step_at (t : FVec Ideal S8192x64 .f32) (k : ℕ) (e : IVec S8192x64 32) (j : S8192x64.Idx) :
    select (cmpf .ole (exp2 (sitofp .f32 (broadcast S8192x64 (Scf.iv 4294967170#32 1#32 k)))) t)
      (broadcast S8192x64 (Scalar.addi (Scf.iv 4294967170#32 1#32 k) 1#32)) e j = rStep (t j) k (e j) := by
  show Scalar.select (BitVec.ofBool (decide (Ideal.exp2 (((Scf.iv 4294967170#32 1#32 k).toInt : ℝ) : EReal) ≤ t j))) _ _ = _
  unfold rStep
  by_cases h : Ideal.exp2 (((Scf.iv 4294967170#32 1#32 k).toInt : ℝ) : EReal) ≤ t j
  · rw [if_pos h, decide_eq_true h]; rfl
  · rw [if_neg h, decide_eq_false h]; rfl

theorem trip (k : Fin k0_t1_loop.trips) (e : IVec S8192x64 32) (r : Fin 8192) (b : Fin 64) :
    k0_pay4 x0 x1 x9 x10 k e (ix2 r b) = rStep (Cert.DownSpec.top x0 x1 x9 x10 r b) k.val (e (ix2 r b)) := by
  have ht : tops (k0_pay2 x0 x1 x9 x10) (ix2 r b) = Cert.DownSpec.top x0 x1 x9 x10 r b :=
    (tops_apply _ r b).trans (congrArg tRow (funext fun l => product x0 x1 x9 x10 r b l))
  rw [← ht, trip_vec]
  exact step_at _ _ _ _

theorem scale_at (e : IVec S8192x64 32) (r : Fin 8192) (b : Fin 64) (t : EReal) (h : e (ix2 r b) = rCount t 252) :
    k0_pay5 (F := Ideal) e (ix2 r b) = kScale t := by
  rw [kScale_eq]
  unfold rScale
  rw [← h]
  rfl

theorem code_at (e : IVec S8192x64 32) (r : Fin 8192) (b : Fin 64) (l : Fin 128) (t : EReal) (h : e (ix2 r b) = rCount t 252) :
    k0_pay6 x0 x1 x9 x10 e (ix3 r b l) = code (Cert.DownSpec.out x0 x1 x9 x10 r ⟨128 * b.val + l.val, by omega⟩) (kInv t) := by
  rw [kInv_eq, ← product]
  unfold rInv
  rw [← h]
  pointwise [k0_pay6]
  rfl

/-- A fold whose every step is a step of the count is the count. -/
theorem fold_count (t : EReal) (j : S8192x64.Idx) (n : ℕ) : ∀ (g : Fin n → IVec S8192x64 32 → IVec S8192x64 32)
    (_ : ∀ k e, g k e j = rStep t k.val (e j)) (e0 : IVec S8192x64 32) (_ : e0 j = 0#32),
    (List.finRange n).foldl (fun acc k => g k acc) e0 j = rCount t n := by
  induction n with
  | zero => intro g _ e0 h0; exact h0
  | succ n ih =>
    intro g hg e0 h0
    rw [List.finRange_succ_last, List.foldl_append, List.foldl_map]
    show g (Fin.last n) _ j = rStep t n (rCount t n)
    rw [hg, ← ih (fun k => g k.castSucc) (fun k e => hg k.castSucc e) e0 h0]
    rfl

theorem trips : k0_t1_loop.trips = 252 := by decide +kernel

/-- All trips of the count. -/
theorem count (r : Fin 8192) (b : Fin 64) :
    Scf.fold (fun (k : Fin k0_t1_loop.trips) e => k0_pay4 x0 x1 x9 x10 k e) k0_pay3 (ix2 r b)
      = rCount (Cert.DownSpec.top x0 x1 x9 x10 r b) 252 := by
  rw [Scf.fold_eq, fold_count (Cert.DownSpec.top x0 x1 x9 x10 r b) (ix2 r b) _ _ (fun k e => trip x0 x1 x9 x10 k e r b) _ rfl, trips]

/-- The codes, given the count. -/
theorem codes_of (e : IVec S8192x64 32) (h : ∀ (r : Fin 8192) (b : Fin 64), e (ix2 r b) = rCount (Cert.DownSpec.top x0 x1 x9 x10 r b) 252) :
    k0_pay1 (k0_pay6 x0 x1 x9 x10 e) = Cert.DownSpec.codes x0 x1 x9 x10 := by
  funext y
  obtain ⟨r, q, rfl⟩ := pair2 (n0 := 8192) (n1 := 8192) y
  pointwise [k0_pay1]
  refine (code_at x0 x1 x9 x10 e r _ _ _ (h _ _)).trans ?_
  unfold Cert.DownSpec.codes
  refine congrArg₂ code (congrArg _ (Fin.ext ?_)) rfl
  show 128 * (q.val / 128) + q.val % 128 = q.val
  omega

/-- The scales, given the count. -/
theorem scales_of (e : IVec S8192x64 32) (h : ∀ (r : Fin 8192) (b : Fin 64), e (ix2 r b) = rCount (Cert.DownSpec.top x0 x1 x9 x10 r b) 252) :
    k0_pay5 (F := Ideal) e = Cert.DownSpec.scales x0 x1 x9 x10 := by
  funext y
  obtain ⟨r, b, rfl⟩ := pair2 (n0 := 8192) (n1 := 64) y
  exact scale_at e r b _ (h r b)

end

variable (m : (ℓ : Loc nD τ sig) → Buf (Elt Ideal) ℓ) (c : Dev nD)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

abbrev HC : S8192x3584.Idx → EReal := m ((c : Thread nD τ).loc main_arg0)
abbrev HS : S8192x28.Idx → EReal := m ((c : Thread nD τ).loc main_arg1)
abbrev WC : S3584x8192.Idx → EReal := m ((c : Thread nD τ).loc main_arg2)
abbrev WS : S28x64.Idx → EReal := m ((c : Thread nD τ).loc main_arg3)

theorem in0 (t : Fin cfg0.N) : iblk m c 0 t = HC m c := by blk_ext! [iblk, V, idx t]
theorem in1 (t : Fin cfg0.N) : iblk m c 1 t = HS m c := by blk_ext! [iblk, V, idx t]
theorem in2 (t : Fin cfg0.N) : iblk m c 2 t = WC m c := by blk_ext! [iblk, V, idx t]
theorem in3 (t : Fin cfg0.N) : iblk m c 3 t = WS m c := by blk_ext! [iblk, V, idx t]

/-- What the one point leaves. -/
theorem outs : outsAt0 m c t0_0 = (Cert.DownSpec.codes (HC m c) (HS m c) (WC m c) (WS m c), Cert.DownSpec.scales (HC m c) (HS m c) (WC m c) (WS m c)) := by
  unfold outsAt0
  frame_out
  rw [(hs0_0 t0_0).read_unread, (hs0_1 t0_0).read_unread, (hs0_2 t0_0).read_unread, (hs0_3 t0_0).read_unread, in0, in1, in2, in3]
  exact Prod.ext (codes_of _ _ _ _ _ fun r b => count _ _ _ _ r b) (scales_of _ _ _ _ _ fun r b => count _ _ _ _ r b)

theorem arr4_of (G : S8192x8192.Idx → EReal) (H : (outsAt0 m c t0_0).1 = G) : (dats m 0 c).arrAt 4 cfg0.N = G := by
  refine Pipeline.Dat.arrAt_eq_of_after_last (dats m 0 c) 4 t0_0 (by decide +kernel) _ fun j => ?_
  rw [after0_4, H]
  rfl

theorem arr5_of (G : S8192x64.Idx → EReal) (H : (outsAt0 m c t0_0).2 = G) : (dats m 0 c).arrAt 5 cfg0.N = G := by
  refine Pipeline.Dat.arrAt_eq_of_after_last (dats m 0 c) 5 t0_0 (by decide +kernel) _ fun j => ?_
  rw [after0_5, H]
  rfl

/-- The array of codes. -/
theorem arr4 : (dats m 0 c).arrAt 4 cfg0.N = Cert.DownSpec.codes (HC m c) (HS m c) (WC m c) (WS m c) :=
  arr4_of m c _ (congrArg Prod.fst (outs m c))

/-- The array of scales. -/
theorem arr5 : (dats m 0 c).arrAt 5 cfg0.N = Cert.DownSpec.scales (HC m c) (HS m c) (WC m c) (WS m c) :=
  arr5_of m c _ (congrArg Prod.snd (outs m c))

end Cert.DownRefIdeal.Block

end

end
-- ==== Proof.DownClaim.lean ====
/-
The down projection: the kernel and its reference leave equal results.
-/
module

public import proofs.«01_k».proof.Defs
public import proofs.«01_k».proof.Proof.DownArrays
public import proofs.«01_k».proof.Proof.DownRef

@[expose] public section

noncomputable section

namespace Cert.DownClaim

open Idealize.ShloMosaic Idealize.ShloMosaic.TcCoe Idealize.SL.Sem

attribute [local instance] Cert.DownIdeal.Gen.facts Cert.DownRefIdeal.Gen.facts

/-- Both leave the codes and scales that `DownSpec` states, of the same arguments. -/
theorem equal : Cert.algebraic_DownIdeal_DownRefIdeal := by
  intro m g m' g' _ hargs
  refine ⟨fun c => Cert.DownSpec.codes (Cert.DownIdeal.Block.HC m c) (Cert.DownIdeal.Block.HS m c) (Cert.DownIdeal.Block.WC m c) (Cert.DownIdeal.Block.WS m c),
    fun c => Cert.DownSpec.scales (Cert.DownIdeal.Block.HC m c) (Cert.DownIdeal.Block.HS m c) (Cert.DownIdeal.Block.WC m c) (Cert.DownIdeal.Block.WS m c), ?_, ?_⟩
  · refine (θ_run _ _ _).mono (fun r h c => ?_) (Cert.DownIdeal.Value.run_blocks m g)
    obtain ⟨h0, h1, ha⟩ := h c
    exact ⟨h0.trans (Cert.DownIdeal.Block.arr4 m c), h1.trans (Cert.DownIdeal.Block.arr5 m c), ha⟩
  · refine (θ_run _ _ _).mono (fun r h c => ?_) (Cert.DownRefIdeal.Value.run_blocks m' g')
    obtain ⟨h0, h1, ha⟩ := h c
    obtain ⟨e0, e1, e2, e3⟩ := hargs c
    have hc : Cert.DownRefIdeal.Block.HC m' c = Cert.DownIdeal.Block.HC m c := e0
    have hs : Cert.DownRefIdeal.Block.HS m' c = Cert.DownIdeal.Block.HS m c := e1
    have wc : Cert.DownRefIdeal.Block.WC m' c = Cert.DownIdeal.Block.WC m c := e2
    have ws : Cert.DownRefIdeal.Block.WS m' c = Cert.DownIdeal.Block.WS m c := e3
    refine ⟨h0.trans ((Cert.DownRefIdeal.Block.arr4 m' c).trans ?_), h1.trans ((Cert.DownRefIdeal.Block.arr5 m' c).trans ?_), ha⟩
    · rw [hc, hs, wc, ws]
    · rw [hc, hs, wc, ws]

end Cert.DownClaim

end

end
-- ==== Proof.UpLoops.lean ====
/- The counted loops of the up projection's body `Up`: what one trip of each stores, and the invariant that the
   trips before the current one have stored their pieces, over the algebra with transfer counters. -/
module

public import proofs.«01_k».proof.Proof.Gen.Up.Skeleton
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.Up.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the instances: the frame kit's (Gen/<Name>/Frame.lean). -/
local notation "𝕄G" => MT nD τ sig Unit (Elt F) ℕ (UR sig nD τ) ℕ

/-- The frame kit's algebra paired with the transfer counters (`UR × Counters`: Lib/Pipeline/Frame.lean `UD`), at which
    the frame of a kernel with DMA semaphores of its own runs. Every loop instance that frame meets
    is stated HERE rather than at `𝕄G`, as is any instance of a loop whose trips transfer. -/
local notation "𝕄D" => MT nD τ sig Unit (Elt F) ℕ (UR sig nD τ × Counters) ℕ
/-! ## `cc0_up` -/

/-- The class of invariants of `k0_part2`'s counted loop `k0_t1_loop` (`scf.for %arg19 = %c0_i32_233
   to %752 step %c1_i32_235 : i32 {`), trip `k0_t1`, carrying `Unit`, region `Gen.k0_t1_body`.
   Nothing is carried from trip to trip: the invariant is the pieces of the
   trips before `k`. Per trip it STORES through arg16 at (k0_off3
   k0_t1). It LOADS through arg15 at ![0, 0]; arg14 at (k0_off3 k0_t1); arg16 at (k0_off3 k0_t1).
   Stated below: `Gen.loopInv_k0_t1` (`@[sl_loop]`), at `UR sig nD τ × Counters` (`𝕄D`: where the
   frame of a kernel with DMA semaphores of its own runs) — a run at that algebra goes
   through the loop with nothing more to state; a proof at another algebra instances the class
   itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (k0_h1 : k0_cond1 i = 1#1) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st (k0_t1_ok i k0_h1) () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1)

/-! ### `k0_t1_loop`: the invariant -/

/-- One trip's resources: what the region reads (arg14, arg15) at its contents, what it writes
   (arg16) at any. -/
abbrev Trip_k0_t1 (c : Dev nD) (arg14 : Memref sig .tc .vmem S1024x8192 .fp8e4m3) (arg15 : Memref sig .tc .vmem S1024x64 .f32) (arg16 : Memref sig .tc .vmem S1024x8192 .bf16) (X_arg14 : BufTy.Contents (Elt F) arg14.view.ty) (X_arg15 : BufTy.Contents (Elt F) arg15.view.ty) (f_arg16 : BufTy.Contents (Elt F) arg16.view.ty) : sProp 𝕄D :=
  iprop((arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} f_arg16))

/-- ONE TRIP of `k0_t1_loop` at a symbolic `k`, run by `sl_exec` (its rectangles' offsets closed
   forms of `k`, their geometry linear arithmetic): the pieces it writes into arg16 are the run's
   own finds — the witnesses `sl_close` assigns handing the buffers to the continuation.
   `@[irreducible]`: cited, never unfolded. -/
@[irreducible] def trip_k0_t1 (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (k0_h1 : k0_cond1 i = 1#1) (X_arg14 : BufTy.Contents (Elt F) arg14.view.ty) (X_arg15 : BufTy.Contents (Elt F) arg15.view.ty) (k : Fin k0_t1_loop.trips) :
    { L_arg16 : List (View.Piece (Elt F) S1024x8192 .bf16) // ∀ (E : Set ℕ) (f_arg16 : BufTy.Contents (Elt F) arg16.view.ty),
      Trip_k0_t1 (F := F) c arg14 arg15 arg16 X_arg14 X_arg15 f_arg16
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 k PUnit.unit)
          (fun _ => Trip_k0_t1 (F := F) c arg14 arg15 arg16 X_arg14 X_arg15 (arg16.view.writes (Elt F) f_arg16 L_arg16)) } := by
  have hk : k.val < 64 := Nat.lt_of_lt_of_le k.isLt k0_t1_abs.2.1
  refine ⟨?_, fun E f_arg16 => ?run⟩
  case run =>
    unfold k0_t1_body
    iintro ⟨HR_arg14, HR_arg15, HW_arg16⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (k0_h1 : k0_cond1 i = 1#1) (X_arg14 : BufTy.Contents (Elt F) arg14.view.ty) (X_arg15 : BufTy.Contents (Elt F) arg15.view.ty) (k : Fin k0_t1_loop.trips) : List (View.Piece (Elt F) S1024x8192 .bf16) :=
  (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (k0_h1 : k0_cond1 i = 1#1) (X_arg14 : BufTy.Contents (Elt F) arg14.view.ty) (X_arg15 : BufTy.Contents (Elt F) arg15.view.ty) (k : ℕ) (prev : List (View.Piece (Elt F) S1024x8192 .bf16)) : List (View.Piece (Elt F) S1024x8192 .bf16) :=
  if h : k < k0_t1_loop.trips then
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 ⟨k, h⟩) ++ prev
  else prev

/-- The pieces of the trips before `k` (last first), per written memref. -/
def pb_k0_t1 (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (k0_h1 : k0_cond1 i = 1#1) (X_arg14 : BufTy.Contents (Elt F) arg14.view.ty) (X_arg15 : BufTy.Contents (Elt F) arg15.view.ty) : ℕ → List (View.Piece (Elt F) S1024x8192 .bf16)
  | 0 => []
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 k (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 k)

theorem pb_k0_t1_succ (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (k0_h1 : k0_cond1 i = 1#1) (X_arg14 : BufTy.Contents (Elt F) arg14.view.ty) (X_arg15 : BufTy.Contents (Elt F) arg15.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 (k.val + 1)
      = (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 k) ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 k.val) := by
  rw [pb_k0_t1.eq_2]; unfold pb_k0_t1Step; exact dif_pos k.isLt

/-- The invariant before trip `k`: arg14, arg15 read at `X_·`; arg16 holding the pieces of the trips
   before `k` written over the contents at loop entry `G_·` (stated `∃ f, … ∗ ⌜f = …⌝`, so that a
   hypothesis of any contents matches and the equation is what is proved). -/
abbrev inv_k0_t1 (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (k0_h1 : k0_cond1 i = 1#1) (X_arg14 : BufTy.Contents (Elt F) arg14.view.ty) (X_arg15 : BufTy.Contents (Elt F) arg15.view.ty) (G_arg16 : BufTy.Contents (Elt F) arg16.view.ty) (k : ℕ) (_u : PUnit) : sProp 𝕄D :=
  iprop((arg14.view.loc (c : Thread nD τ) ↦[arg14.view.set]{fullShare} X_arg14) ∗ (arg15.view.loc (c : Thread nD τ) ↦[arg15.view.set]{fullShare} X_arg15) ∗ (∃ f, (arg16.view.loc (c : Thread nD τ) ↦[arg16.view.set]{fullShare} f) ∗ ⌜f = arg16.view.writes (Elt F) G_arg16 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 k)⌝))

set_option warn.classDefReducibility false in
/-- The loop by its invariant (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (k0_h1 : k0_cond1 i = 1#1) (X_arg14 : BufTy.Contents (Elt F) arg14.view.ty) (X_arg15 : BufTy.Contents (Elt F) arg15.view.ty) (G_arg16 : BufTy.Contents (Elt F) arg16.view.ty) :
    LoopInvTy_k0_t1 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 G_arg16
  step k acc := by
    iintro ⟨HR_arg14, HR_arg15, ⟨%f_arg16, HW_arg16, %h_arg16⟩⟩
    iapply (wp_wand_r Idealize.ShloMosaic.frame (wpE (defs₀ (F := F)) 𝒱 (c : Thread nD τ) bd) E)
    isplitl [HR_arg14 HR_arg15 HW_arg16]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 k).2 E f_arg16)
      isplitl [HR_arg14]; · iexact HR_arg14
      isplitl [HR_arg15]; · iexact HR_arg15
      iexact HW_arg16
    · iintro %_ ⟨HR_arg14, HR_arg15, HW_arg16⟩
      isplitl [HR_arg14]; · iexact HR_arg14
      isplitl [HR_arg15]; · iexact HR_arg15
      rw [pb_k0_t1_succ]
      iexists _; isplitl [HW_arg16]; · iexact HW_arg16
      ipureintro; rw [h_arg16, ← View.writes_append]

/-- The class of invariants of `k0_part2`'s counted loop `k0_t2_loop` (`scf.for %arg19 = %c0_i32_1
   to %3 step %c1_i32 : i32 {`), trip `k0_t2`, carrying `Unit`, region `Gen.k0_t2_body`.
   AFFINE — every store at a `Rect.unit` whose offsets are a stated closed form of the trips,
   nothing carried, no transfer or conditional inside: the invariant is the pieces of the trips
   before `k`. The region loads back what it stores into `arg17`,
   each load's value unused (a slab read before a store into it): the pieces do not depend on what
   the memref held. One trip calls the parts `k0_part1`. Per trip it STORES through arg17 at
   (k0_off6 k0_t2); arg17 at (k0_off8 k0_t2); arg17 at (k0_off9 k0_t2); arg17 at (k0_off10 k0_t2).
   It LOADS through arg9 at (k0_off4 i k0_t2 0#32 0#32); arg7 at (k0_off5 k0_t2); arg17 at (k0_off6
   k0_t2); arg9 at (k0_off4 i k0_t2 1#32 0#32); arg7 at (k0_off7 k0_t2); arg17 at (k0_off8 k0_t2);
   arg9 at (k0_off4 i k0_t2 0#32 28#32); arg8 at (k0_off5 k0_t2); arg17 at (k0_off9 k0_t2); arg9 at
   (k0_off4 i k0_t2 1#32 28#32); arg8 at (k0_off7 k0_t2); arg17 at (k0_off10 k0_t2). Stated
   below: `Gen.loopInv_k0_t2` (`@[sl_loop]`), at `UR sig nD τ × Counters` (`𝕄D`: where the
   frame of a kernel with DMA semaphores of its own runs) — a run at that algebra goes through the
   loop with nothing more to state; a proof at another algebra instances the class itself, after
   this one. -/
abbrev LoopInvTy_k0_t2 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (arg1 : BitVec 32) :=
  Idealize.ShloMosaic.LoopInv (M := MT nD τ sig Ix (Elt F) Name U Lvl) Idealize.ShloMosaic.frame (wpE defs₀ 𝒱 (c : Thread nD τ) bd) E
    k0_t2_loop.lb k0_t2_loop.ub k0_t2_loop.st k0_t2_ok () (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1)

/-! ### `k0_t2_loop`: the invariant -/

/-- One trip's resources: what the region reads (arg7, arg8, arg9) at its contents, what it writes
   (arg17) at any. -/
abbrev Trip_k0_t2 (c : Dev nD) (arg7 : Memref sig .tc .vmem S8192x256 .fp8e4m3) (arg8 : Memref sig .tc .vmem S8192x256 .fp8e4m3) (arg9 : Memref sig .tc .smem S64x56 .f32) (arg17 : Memref sig .tc .vmem S8192x512 .bf16) (X_arg7 : BufTy.Contents (Elt F) arg7.view.ty) (X_arg8 : BufTy.Contents (Elt F) arg8.view.ty) (X_arg9 : BufTy.Contents (Elt F) arg9.view.ty) (f_arg17 : BufTy.Contents (Elt F) arg17.view.ty) : sProp 𝕄D :=
  iprop((arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg17.view.loc (c : Thread nD τ) ↦[arg17.view.set]{fullShare} f_arg17))

/-- ONE TRIP of `k0_t2_loop` at a symbolic `k`, run by `sl_exec` (its rectangles' offsets closed
   forms of `k`, their geometry linear arithmetic): the pieces it writes into arg17 are the run's
   own finds — the witnesses `sl_close` assigns handing the buffers to the continuation.
   `@[irreducible]`: cited, never unfolded. -/
@[irreducible] def trip_k0_t2 (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (arg1 : BitVec 32) (X_arg7 : BufTy.Contents (Elt F) arg7.view.ty) (X_arg8 : BufTy.Contents (Elt F) arg8.view.ty) (X_arg9 : BufTy.Contents (Elt F) arg9.view.ty) (k : Fin k0_t2_loop.trips) :
    { L_arg17 : List (View.Piece (Elt F) S8192x512 .bf16) // ∀ (E : Set ℕ) (f_arg17 : BufTy.Contents (Elt F) arg17.view.ty),
      Trip_k0_t2 (F := F) c arg7 arg8 arg9 arg17 X_arg7 X_arg8 X_arg9 f_arg17
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 k PUnit.unit)
          (fun _ => Trip_k0_t2 (F := F) c arg7 arg8 arg9 arg17 X_arg7 X_arg8 X_arg9 (arg17.view.writes (Elt F) f_arg17 L_arg17)) } := by
  have hk : k.val < 64 := Nat.lt_of_lt_of_le k.isLt k0_t2_abs.2.1
  refine ⟨?_, fun E f_arg17 => ?run⟩
  case run =>
    unfold k0_t2_body
    iintro ⟨HR_arg7, HR_arg8, HR_arg9, HW_arg17⟩
    sl_exec
    sl_step
    sl_close

/-- The trip's piece lists (plain projections of `trip_…`, for the recursion below to cite without
   its proof). -/
abbrev tripL_k0_t2 (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (arg1 : BitVec 32) (X_arg7 : BufTy.Contents (Elt F) arg7.view.ty) (X_arg8 : BufTy.Contents (Elt F) arg8.view.ty) (X_arg9 : BufTy.Contents (Elt F) arg9.view.ty) (k : Fin k0_t2_loop.trips) : List (View.Piece (Elt F) S8192x512 .bf16) :=
  (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 k).1

/-- Trip `k`'s contribution to the state the recursion `pb_k0_t2` below carries (`prev`): its pieces
   in front, per written memref; past the last trip, `prev` itself. -/
@[irreducible] def pb_k0_t2Step (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (arg1 : BitVec 32) (X_arg7 : BufTy.Contents (Elt F) arg7.view.ty) (X_arg8 : BufTy.Contents (Elt F) arg8.view.ty) (X_arg9 : BufTy.Contents (Elt F) arg9.view.ty) (k : ℕ) (prev : List (View.Piece (Elt F) S8192x512 .bf16)) : List (View.Piece (Elt F) S8192x512 .bf16) :=
  if h : k < k0_t2_loop.trips then
    (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 ⟨k, h⟩) ++ prev
  else prev

/-- The pieces of the trips before `k` (last first), per written memref. -/
def pb_k0_t2 (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (arg1 : BitVec 32) (X_arg7 : BufTy.Contents (Elt F) arg7.view.ty) (X_arg8 : BufTy.Contents (Elt F) arg8.view.ty) (X_arg9 : BufTy.Contents (Elt F) arg9.view.ty) : ℕ → List (View.Piece (Elt F) S8192x512 .bf16)
  | 0 => []
  | k + 1 => pb_k0_t2Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 k (pb_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 k)

theorem pb_k0_t2_succ (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (arg1 : BitVec 32) (X_arg7 : BufTy.Contents (Elt F) arg7.view.ty) (X_arg8 : BufTy.Contents (Elt F) arg8.view.ty) (X_arg9 : BufTy.Contents (Elt F) arg9.view.ty) (k : Fin k0_t2_loop.trips) :
    pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 (k.val + 1)
      = (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 k) ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 k.val) := by
  rw [pb_k0_t2.eq_2]; unfold pb_k0_t2Step; exact dif_pos k.isLt

/-- The invariant before trip `k`: arg7, arg8, arg9 read at `X_·`; arg17 holding the pieces of the
   trips before `k` written over the contents at loop entry `G_·` (stated `∃ f, … ∗ ⌜f = …⌝`, so
   that a hypothesis of any contents matches and the equation is what is proved). -/
abbrev inv_k0_t2 (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (arg1 : BitVec 32) (X_arg7 : BufTy.Contents (Elt F) arg7.view.ty) (X_arg8 : BufTy.Contents (Elt F) arg8.view.ty) (X_arg9 : BufTy.Contents (Elt F) arg9.view.ty) (G_arg17 : BufTy.Contents (Elt F) arg17.view.ty) (k : ℕ) (_u : PUnit) : sProp 𝕄D :=
  iprop((arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (∃ f, (arg17.view.loc (c : Thread nD τ) ↦[arg17.view.set]{fullShare} f) ∗ ⌜f = arg17.view.writes (Elt F) G_arg17 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 k)⌝))

set_option warn.classDefReducibility false in
/-- The loop by its invariant (`@[sl_loop]`: `sl_exec` finds it meeting `k0_t2_loop`,
   fixing `X_· G_·` against the context; after the loop each written memref holds `writes G (pb …
   trips)`). -/
@[sl_loop] def loopInv_k0_t2 (𝒱 : Variants) (c : Dev nD) (bd : Option 𝒱.V) (E : Set ℕ) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (arg1 : BitVec 32) (X_arg7 : BufTy.Contents (Elt F) arg7.view.ty) (X_arg8 : BufTy.Contents (Elt F) arg8.view.ty) (X_arg9 : BufTy.Contents (Elt F) arg9.view.ty) (G_arg17 : BufTy.Contents (Elt F) arg17.view.ty) :
    LoopInvTy_k0_t2 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 where
  inv := inv_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 G_arg17
  step k acc := by
    iintro ⟨HR_arg7, HR_arg8, HR_arg9, ⟨%f_arg17, HW_arg17, %h_arg17⟩⟩
    iapply (wp_wand_r Idealize.ShloMosaic.frame (wpE (defs₀ (F := F)) 𝒱 (c : Thread nD τ) bd) E)
    isplitl [HR_arg7 HR_arg8 HR_arg9 HW_arg17]
    · iapply ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 k).2 E f_arg17)
      isplitl [HR_arg7]; · iexact HR_arg7
      isplitl [HR_arg8]; · iexact HR_arg8
      isplitl [HR_arg9]; · iexact HR_arg9
      iexact HW_arg17
    · iintro %_ ⟨HR_arg7, HR_arg8, HR_arg9, HW_arg17⟩
      isplitl [HR_arg7]; · iexact HR_arg7
      isplitl [HR_arg8]; · iexact HR_arg8
      isplitl [HR_arg9]; · iexact HR_arg9
      rw [pb_k0_t2_succ]
      iexists _; isplitl [HW_arg17]; · iexact HW_arg17
      ipureintro; rw [h_arg17, ← View.writes_append]

end Cert.Up.Gen

end
-- ==== Proof.UpRuns.lean ====
/- What the runs of the body of `Up` share: the program up to its one region, the blocks that the windows hold, the
   branch conditions, and the side condition that the body assumes of the rank's word. -/
module

public import proofs.«01_k».proof.Proof.Gen.Up.Launch
public import proofs.«01_k».proof.Proof.Gen.Up.Skeleton
public import proofs.«01_k».proof.Proof.UpLoops
public import proofs.«01_k».proof.Proof.Gen.Up.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Up.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Up`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 2 rfl).trans ((hA c 2).trans (V_main_arg5 m c)),
      (Pipeline.RDat.FramePost.arr_in h c 3 rfl).trans ((hA c 3).trans (V_main_arg6 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 14) — by arithmetic of the point. -/
theorem hcond0_0 : ∀ t : Fin cfg0.N, cond0_0 (grid0.coords t) ↔ t.val % 14 = 0 :=
  (fun t => by
    have ht : t.val < 112 := Nat.lt_of_lt_of_eq t.isLt N_0
    have e0 : (grid0.coords t 0).val = t.val / 14 % 8 := Pipeline.Grid.coords_val t 0 (by decide) rfl
    have e1 : (grid0.coords t 1).val = t.val / 1 % 14 := Pipeline.Grid.coords_val t 1 (by decide) rfl
    simp only [cond0_0, k0_cond1, e0, e1]
    word_cmp
   : ∀ t : Fin grid0.N, cond0_0 (grid0.coords t) ↔ t.val % 14 = 0)

/-- The condition of the body's `scf.if` 1 (`k0_h2`): over WORDS the body reads from its input SMEM windows
    (`v748`), so no function of the point — a case variable: a hypothesis of each run, a `by_cases`
    of the obligation and an `if` of `outsAt`, stated over the argument blocks' words there. -/
abbrev cond0_1 (i : grid0.Coords) (v748 : BitVec 32) : Prop := (Scalar.cmpi .ne (Scalar.extui (Scalar.cmpi .eq (BitVec.ofNat 32 (i 0).val) v748)) 0#32) = 1#1

/-- The body's second condition on the rank is the negation of its first. -/
theorem cond3_iff (i : grid0.Coords) (w : BitVec 32) : k0_cond3 i w = 1#1 ↔ ¬cond0_1 i w := by
  have e : ∀ a b : BitVec 32, IntOp.cmpi .ne ((IntOp.cmpi .ne a b).setWidth 32) 0#32 = 1#1 ↔ ¬ IntOp.cmpi .ne ((IntOp.cmpi .eq a b).setWidth 32) 0#32 = 1#1 := by
    intro a b
    by_cases h : a = b
    · subst h
      rw [show IntOp.cmpi .ne a a = 0#1 by show BitVec.ofBool (a != a) = 0#1; rw [bne_self_eq_false]; rfl,
        show IntOp.cmpi .eq a a = 1#1 by show BitVec.ofBool (a == a) = 1#1; rw [beq_self_eq_true]; rfl]
      decide
    · rw [show IntOp.cmpi .ne a b = 1#1 by show BitVec.ofBool (a != b) = 1#1; rw [bne_iff_ne.mpr h]; rfl,
        show IntOp.cmpi .eq a b = 0#1 by show BitVec.ofBool (a == b) = 0#1; rw [beq_eq_false_iff_ne.mpr h]; rfl]
      decide
  exact e _ _

/-! ## The kernel body on any staging memrefs: a subtype the run finds -/

/-- Each window's current staging memref at point `t`, spelled as the pipeline passes it (`bodyAt0`), and its wholeness. -/
abbrev ms0_0 (t : Fin cfg0.N) : Memref sig .tc .smem S1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S64x56 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x28 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x256 .f32 := win0_7.stage (cfg0.slots t 7)
abbrev hs0_7 (t : Fin cfg0.N) : (ms0_7 t).IsWhole := hstage0_7 ((cfg0.slots t 7).cast nbuf0_7)

/-! ## The side conditions the body assumes, as the frame's hypothesis -/

/-- The side conditions the body ASSUMES of words it loads from its input SMEM windows, or inside a counted
    loop of the loop's carried counter at every trip (the printed `TpuEff.assume
    (kK_chkN …)`: facts computed from the words that no program decides for every word), at EVERY point, over the
    words of the argument blocks there — spelled as each case's run reads them (`View.readAt` through the window's
    memref at its held contents), each under the conditions of the branches it sits inside. The frame holds
    under it; Proof.lean proves it from the certificate's
    precondition (`hyps_of_pre`; `View.readAt_apply` and `Memref.IsWhole.read_unread` rewrite a conjunct to the
    predicate at the block's word). -/
def Hyps (m : (ℓ : Loc nD τ sig) → Buf (Elt F) ℓ) : Prop :=
  ∀ (c : Dev nD) (t : Fin cfg0.N),
    (cond0_0 (grid0.coords t) → ¬cond0_1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos))) → k0_chk1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos))) ((ms0_0 t).view.readAt (Elt F) (Rect.unit (s := S1) ![0] S1.size inb_S1_S1_0).toLoadRect ((hs0_0 t).unread (iblk m c 0 t)) (Shape.Idx.first (numel1_S1.symm ▸ Nat.one_pos))))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`, under the conditions of the branches it sits inside. -/
abbrev Hyps.p0 (m : (ℓ : Loc nD τ sig) → Buf (Elt F) ℓ) (c : Dev nD) (t : Fin cfg0.N) : Prop :=
  (cond0_0 (grid0.coords t) → ¬cond0_1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos))) → k0_chk1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos))) ((ms0_0 t).view.readAt (Elt F) (Rect.unit (s := S1) ![0] S1.size inb_S1_S1_0).toLoadRect ((hs0_0 t).unread (iblk m c 0 t)) (Shape.Idx.first (numel1_S1.symm ▸ Nat.one_pos))))
variable {m} in
theorem Hyps.c0 (hH : Hyps m) (c : Dev nD) (t : Fin cfg0.N) :
    (cond0_0 (grid0.coords t) → ¬cond0_1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos))) → k0_chk1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos))) ((ms0_0 t).view.readAt (Elt F) (Rect.unit (s := S1) ![0] S1.size inb_S1_S1_0).toLoadRect ((hs0_0 t).unread (iblk m c 0 t)) (Shape.Idx.first (numel1_S1.symm ▸ Nat.one_pos)))) := (hH c t)
variable {m} in
theorem Hyps.of
    (p0 : ∀ (c : Dev nD) (t : Fin cfg0.N), Hyps.p0 m c t) :
    Hyps m := fun c t =>
  p0 c t

/-- The scratch operands: whole scoped buffers of the kernel's own, passed beside the windows. -/
abbrev scM0_0 : Memref sig .tc .vmem S1024x8192 .fp8e4m3 := Memref.whole cc0_scratch0
abbrev scM0_1 : Memref sig .tc .vmem S1024x64 .f32 := Memref.whole cc0_scratch1
abbrev scM0_2 : Memref sig .tc .vmem S1024x8192 .bf16 := Memref.whole cc0_scratch2
abbrev scM0_3 : Memref sig .tc .vmem S8192x512 .bf16 := Memref.whole cc0_scratch3
/-- The operands left in HBM that the body copies into scratch itself, whole. -/
abbrev hbM0_0 : Memref sig .tc .hbm S1024x8192 .fp8e4m3 := Memref.whole main_arg1
abbrev hbM0_1 : Memref sig .tc .hbm S1024x64 .f32 := Memref.whole main_arg2
abbrev hbM0_2 : Memref sig .tc .hbm S7x1024x8192 .fp8e4m3 := Memref.whole main_arg3
abbrev hbM0_3 : Memref sig .tc .hbm S7x1024x64 .f32 := Memref.whole main_arg4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 14, SemLoc.dma 15] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 14) 0 ∗ semVal ((c : Thread nD τ), SemLoc.dma 15) 0) := by
  rw [Pipeline.ownSems0_eq_of_list c osem0 [0, 1] (by decide) (by decide)]; rfl
/-- The HBM operands the body moves, as references: unscoped, no window's array (`Pipeline.restRefs`). -/
def H0 : Finset (Ref sig .tc) := {main_arg1, main_arg2, main_arg3, main_arg4}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg1) ∗ hbPt0 c hbM0_1 (V m c main_arg2) ∗ hbPt0 c hbM0_2 (V m c main_arg3) ∗ hbPt0 c hbM0_3 (V m c main_arg4)) := by
  rw [BI.bigSep_eq_bigSepL_of_eq [main_arg1, main_arg2, main_arg3, main_arg4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 14) 0 ∗ semVal ((c : Thread nD τ), SemLoc.dma 15) 0) ∗ iprop(hbPt0 c hbM0_0 (V m c main_arg1) ∗ hbPt0 c hbM0_1 (V m c main_arg2) ∗ hbPt0 c hbM0_2 (V m c main_arg3) ∗ hbPt0 c hbM0_3 (V m c main_arg4))) := by
  rw [Pipeline.ΦD_eq, scopedRest0_eq, ownSems00_eq, hbmPts0_eq]; simp only [scM0_0, scM0_1, scM0_2, scM0_3, owns_whole]; try rfl

end Cert.Up.Gen

end
-- ==== Proof.UpRunA.lean ====
/- The run of the body of `Up` at the first point of a segment whose index is the rank: the codes and scales
   copied are the device's own. -/
module

public import proofs.«01_k».proof.Proof.UpRuns

@[expose] public section

-- membership in a rectangle of production extents (`View.cover_of_tiled`): the elaborator's structural look
-- recurses once per coordinate of the long axes
set_option maxRecDepth 16384

noncomputable section

namespace Cert.Up.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 taken: points 0, 14, … 98: 8 of 112): on whole staging memrefs — the inputs' at their contents,
    the FORGOTTEN outputs' (4, 5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : cond0_1 i (arg2.view.readAt (Elt F) (Rect.unit (s := S1) ![0] S1.size inb_S1_S1_0).toLoadRect (harg2.unread x0) (Shape.Idx.first (numel1_S1.symm ▸ Nat.one_pos)))) :
      ∀ (W : Waits sig Unit) (K : PUnit → sProp 𝕄),
        iprop(owns (c : Thread nD τ) arg2 fullShare x0 ∗ owns (c : Thread nD τ) arg7 fullShare x1 ∗ owns (c : Thread nD τ) arg8 fullShare x2 ∗ owns (c : Thread nD τ) arg9 fullShare x3 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg2 fullShare x0 ∗ owns (c : Thread nD τ) arg7 fullShare x1 ∗ owns (c : Thread nD τ) arg8 fullShare x2 ∗ owns (c : Thread nD τ) arg9 fullShare x3 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_up i arg2 harg2 (Memref.whole main_arg1) (Memref.isWhole_whole _) (Memref.whole main_arg2) (Memref.isWhole_whole _) (Memref.whole main_arg3) (Memref.isWhole_whole _) (Memref.whole main_arg4) (Memref.isWhole_whole _) arg7 harg7 arg8 harg8 arg9 harg9 arg10 harg10 arg11 harg11 arg12 harg12 arg13 harg13 arg14 harg14 arg15 harg15 arg16 harg16 arg17 harg17 cc0_scratch4) K := by
    intro W K
    simp only [cc0_up_eq_skeleton]; unfold cc0_up_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hq0, Hq1, Hh0, Hh1, Hh2, Hh3, HW, Hk⟩
    obtain rfl := harg2.eq_unread hf0; obtain rfl := harg7.eq_unread hf1; obtain rfl := harg8.eq_unread hf2; obtain rfl := harg9.eq_unread hf3
    have hc2 := fun h => (cond3_iff _ _).mp h hc1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hh0]; · iexact Hh0
    isplitl [Hh1]; · iexact Hh1
    isplitl [Hh2]; · iexact Hh2
    isplitl [Hh3]; · iexact Hh3
    iexists _; iexact HW

end Cert.Up.Gen

end
-- ==== Proof.UpRunB.lean ====
/- The run of the body of `Up` at the first point of a segment whose index is not the rank: the codes and scales
   copied are those of another device. -/
module

public import proofs.«01_k».proof.Proof.UpRunA

@[expose] public section

-- membership in a rectangle of production extents (`View.cover_of_tiled`): the elaborator's structural look
-- recurses once per coordinate of the long axes
set_option maxRecDepth 16384

noncomputable section

namespace Cert.Up.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 taken, `scf.if` 1 not taken: points 0, 14, … 98: 8 of 112): on whole staging memrefs — the inputs' at their contents,
    the FORGOTTEN outputs' (4, 5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : ¬cond0_1 i (arg2.view.readAt (Elt F) (Rect.unit (s := S1) ![0] S1.size inb_S1_S1_0).toLoadRect (harg2.unread x0) (Shape.Idx.first (numel1_S1.symm ▸ Nat.one_pos)))) (k0_hw1 : k0_chk1 i (arg2.view.readAt (Elt F) (Rect.unit (s := S1) ![0] S1.size inb_S1_S1_0).toLoadRect (harg2.unread x0) (Shape.Idx.first (numel1_S1.symm ▸ Nat.one_pos))) (arg2.view.readAt (Elt F) (Rect.unit (s := S1) ![0] S1.size inb_S1_S1_0).toLoadRect (harg2.unread x0) (Shape.Idx.first (numel1_S1.symm ▸ Nat.one_pos)))) :
      ∀ (W : Waits sig Unit) (K : PUnit → sProp 𝕄),
        iprop(owns (c : Thread nD τ) arg2 fullShare x0 ∗ owns (c : Thread nD τ) arg7 fullShare x1 ∗ owns (c : Thread nD τ) arg8 fullShare x2 ∗ owns (c : Thread nD τ) arg9 fullShare x3 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg2 fullShare x0 ∗ owns (c : Thread nD τ) arg7 fullShare x1 ∗ owns (c : Thread nD τ) arg8 fullShare x2 ∗ owns (c : Thread nD τ) arg9 fullShare x3 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_up i arg2 harg2 (Memref.whole main_arg1) (Memref.isWhole_whole _) (Memref.whole main_arg2) (Memref.isWhole_whole _) (Memref.whole main_arg3) (Memref.isWhole_whole _) (Memref.whole main_arg4) (Memref.isWhole_whole _) arg7 harg7 arg8 harg8 arg9 harg9 arg10 harg10 arg11 harg11 arg12 harg12 arg13 harg13 arg14 harg14 arg15 harg15 arg16 harg16 arg17 harg17 cc0_scratch4) K := by
    intro W K
    simp only [cc0_up_eq_skeleton]; unfold cc0_up_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hq0, Hq1, Hh0, Hh1, Hh2, Hh3, HW, Hk⟩
    obtain rfl := harg2.eq_unread hf0; obtain rfl := harg7.eq_unread hf1; obtain rfl := harg8.eq_unread hf2; obtain rfl := harg9.eq_unread hf3
    sl_exec (disch := first | sl_exact hc0 | sl_exact hc1 | sl_exact ((cond3_iff _ _).mpr hc1) | sl_exact k0_hw1)
    sl_step
    iapply Hk
    isplitl [H0]
    · iexists _; isplitr; · ipureintro; exact harg2.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hh0]; · iexact Hh0
    isplitl [Hh1]; · iexact Hh1
    isplitl [Hh2]; · iexact Hh2
    isplitl [Hh3]; · iexact Hh3
    iexists _; iexact HW

end Cert.Up.Gen

end
-- ==== Proof.UpRunC.lean ====
/- The run of the body of `Up` at a later point of a segment: nothing is copied, the widened activations stay. -/
module

public import proofs.«01_k».proof.Proof.UpRunB

@[expose] public section

-- membership in a rectangle of production extents (`View.cover_of_tiled`): the elaborator's structural look
-- recurses once per coordinate of the long axes
set_option maxRecDepth 16384

noncomputable section

namespace Cert.Up.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body's triple IN CASE C (`scf.if` 0 not taken: points 1, 2, … 111: 104 of 112): on whole staging memrefs — the inputs' at their contents,
    the FORGOTTEN outputs' (4, 5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : ¬cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) :
      ∀ (W : Waits sig Unit) (K : PUnit → sProp 𝕄),
        iprop(owns (c : Thread nD τ) arg2 fullShare x0 ∗ owns (c : Thread nD τ) arg7 fullShare x1 ∗ owns (c : Thread nD τ) arg8 fullShare x2 ∗ owns (c : Thread nD τ) arg9 fullShare x3 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg2 fullShare x0 ∗ owns (c : Thread nD τ) arg7 fullShare x1 ∗ owns (c : Thread nD τ) arg8 fullShare x2 ∗ owns (c : Thread nD τ) arg9 fullShare x3 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_up i arg2 harg2 (Memref.whole main_arg1) (Memref.isWhole_whole _) (Memref.whole main_arg2) (Memref.isWhole_whole _) (Memref.whole main_arg3) (Memref.isWhole_whole _) (Memref.whole main_arg4) (Memref.isWhole_whole _) arg7 harg7 arg8 harg8 arg9 harg9 arg10 harg10 arg11 harg11 arg12 harg12 arg13 harg13 arg14 harg14 arg15 harg15 arg16 harg16 arg17 harg17 cc0_scratch4) K := by
    intro W K
    simp only [cc0_up_eq_skeleton]; unfold cc0_up_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hq0, Hq1, Hh0, Hh1, Hh2, Hh3, HW, Hk⟩
    obtain rfl := harg2.eq_unread hf0; obtain rfl := harg7.eq_unread hf1; obtain rfl := harg8.eq_unread hf2; obtain rfl := harg9.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hh0]; · iexact Hh0
    isplitl [Hh1]; · iexact Hh1
    isplitl [Hh2]; · iexact Hh2
    isplitl [Hh3]; · iexact Hh3
    iexists _; iexact HW

end Cert.Up.Gen

end
-- ==== Proof.UpFrame.lean ====
/- The frame of `Up`: what the outputs and the carried scratch hold point by point, the proof data, the body's
   obligation, and the run of the whole program. -/
module

public import proofs.«01_k».proof.Proof.UpRunC
public import Idealize.ShloMosaic.Lib.Claim

@[expose] public section

-- membership in a rectangle of production extents (`View.cover_of_tiled`): the elaborator's structural look
-- recurses once per coordinate of the long axes
set_option maxRecDepth 16384

noncomputable section

namespace Cert.Up.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The output windows this certificate FORGETS (4, 5, 6, 7): nothing reads what the kernel leaves in them, so nothing
    of it is named (Lib/Pipeline/Dat.lean `Dat.toRForget`). -/
def forgets0 : Fin 8 → Bool := fun w => w.val == 4 || w.val == 5 || w.val == 6 || w.val == 7

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; each input's share of its array
    (`Pipeline.shareOf`: the full share of an array several windows stage, dealt among them). -/
def dats (hH : Hyps m) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦD osem0 spec0 H0 (V m) c
  q w := Pipeline.shareOf spec0 w
  owed _ := 0

/-- The proof data's arrays are the region-entry contents: the proof data's definition projected (`dsimp`), so that
    `V` — a fold over @main's host prefix, long for some programs — is never unfolded to check it. -/
theorem A_eq (hH : Hyps m) (c : Dev nD) (w : Fin cfg0.W) : (dats m hH 0 c).A w = V m c (Pipeline.arrRef spec0 w) := by
  dsimp only [dats]

/-- What the body leaves, window by window (the proof data's `match` reduced by `dsimp`). -/
theorem after0_0 (hH : Hyps m) (c : Dev nD) (t : Fin cfg0.N) : (dats m hH 0 c).after 0 t = iblk m c 0 t := by dsimp only [dats]
theorem after0_1 (hH : Hyps m) (c : Dev nD) (t : Fin cfg0.N) : (dats m hH 0 c).after 1 t = iblk m c 1 t := by dsimp only [dats]
theorem after0_2 (hH : Hyps m) (c : Dev nD) (t : Fin cfg0.N) : (dats m hH 0 c).after 2 t = iblk m c 2 t := by dsimp only [dats]
theorem after0_3 (hH : Hyps m) (c : Dev nD) (t : Fin cfg0.N) : (dats m hH 0 c).after 3 t = iblk m c 3 t := by dsimp only [dats]

/-- Each input's current staging buffer holds its block at every point, fetched there or not (`beforeK_W_of`). -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d
theorem before0_2 (hH : Hyps m) (c : Dev nD) (t : Fin cfg0.N) (d) : (dats m hH 0 c).before 2 t d = iblk m c 2 t :=
  before0_2_of m (dats m hH 0 c) (A_eq m hH c 2) (after0_2 m hH c) t d
theorem before0_3 (hH : Hyps m) (c : Dev nD) (t : Fin cfg0.N) (d) : (dats m hH 0 c).before 3 t d = iblk m c 3 t :=
  before0_3_of m (dats m hH 0 c) (A_eq m hH c 3) (after0_3 m hH c) t d

/-! ## The body obligation, at a generic point -/

/-- What the body is called with at point `t` (Lib/Pipeline.lean `BodyObligation`'s precondition, the windows one by one), -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (hH : Hyps m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 3600000 in
/-- The body at any point: the inputs' memrefs hold their blocks (`before0_W`); the closed forms say which case the point is in (`by_cases`), an output the case reads before covering holds what the point before left (`before0_W_κ`); so the
    run applies; the invariant (`PhiD0_eq`) hands the body its scratch, the register, its DMA cells at zero and the HBM operands, and takes them back as they were; the core's `owes` goes in at whatever the points before recorded and comes back with this point's waits, within the next point's bound (everything). -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3]
  rw [show (dats m hH 0 c).Φ t.succ = (dats m hH 0 c).Φ t.castSucc from rfl,
    after0_0, after0_1, after0_2, after0_3]
  rw [show (dats m hH 0 c).Φ t.castSucc = Pipeline.ΦD osem0 spec0 H0 (V m) c from rfl, PhiD0_eq]
  unfold Dat.owesAt Pipeline.owesWithin
  rw [show (dats m hH 0 c).owed t.castSucc = 0 from rfl, show (dats m hH 0 c).owed t.succ = 0 from rfl]
  have hN : t.val < 112 := lt_of_lt_of_eq t.isLt (show cfg0.N = 112 from N_0)
  by_cases h0 : t.val % 14 = 0
  · by_cases h1 : cond0_1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos)))
    · iintro ⟨⟨⟨HS0, HS1, HS2, HS3⟩, Hg, ⟨Hq0, Hq1⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (V m c main_arg1) (V m c main_arg2) (V m c main_arg3) (V m c main_arg4) h1) W _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [Hq0]; · iexact Hq0
      isplitl [Hq1]; · iexact Hq1
      isplitl [Hh0]; · iexact Hh0
      isplitl [Hh1]; · iexact Hh1
      isplitl [Hh2]; · iexact Hh2
      isplitl [Hh3]; · iexact Hh3
      isplitl [HW]; · iexact HW
      iintro ⟨H0, H1, H2, H3, H4, H5, H6, H7, HS0, HS1, HS2, HS3, Hq0, Hq1, Hh0, Hh1, Hh2, Hh3, ⟨%W', HW'⟩⟩
      isplitl [HS0 HS1 HS2 HS3 Hg Hq0 Hq1 Hh0 Hh1 Hh2 Hh3]
      · isplitl [HS0 HS1 HS2 HS3]
        · isplitl [HS0]; · iexact HS0
          isplitl [HS1]; · iexact HS1
          isplitl [HS2]; · iexact HS2
          iexact HS3
        isplitl [Hg]
        · iexact Hg
        isplitl [Hq0 Hq1]
        · isplitl [Hq0]; · iexact Hq0
          iexact Hq1
        isplitl [Hh0]; · iexact Hh0
        isplitl [Hh1]; · iexact Hh1
        isplitl [Hh2]; · iexact Hh2
        iexact Hh3
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · iintro ⟨⟨⟨HS0, HS1, HS2, HS3⟩, Hg, ⟨Hq0, Hq1⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ _ _ ((hcond0_0 t).mpr h0) (iblk m c 0 t) (iblk m c 1 t) (iblk m c 2 t) (iblk m c 3 t) (V m c main_arg1) (V m c main_arg2) (V m c main_arg3) (V m c main_arg4) h1 ((Hyps.c0 hH c t) ((hcond0_0 t).mpr h0) h1)) W _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [Hq0]; · iexact Hq0
      isplitl [Hq1]; · iexact Hq1
      isplitl [Hh0]; · iexact Hh0
      isplitl [Hh1]; · iexact Hh1
      isplitl [Hh2]; · iexact Hh2
      isplitl [Hh3]; · iexact Hh3
      isplitl [HW]; · iexact HW
      iintro ⟨H0, H1, H2, H3, H4, H5, H6, H7, HS0, HS1, HS2, HS3, Hq0, Hq1, Hh0, Hh1, Hh2, Hh3, ⟨%W', HW'⟩⟩
      isplitl [HS0 HS1 HS2 HS3 Hg Hq0 Hq1 Hh0 Hh1 Hh2 Hh3]
      · isplitl [HS0 HS1 HS2 HS3]
        · isplitl [HS0]; · iexact HS0
          isplitl [HS1]; · iexact HS1
          isplitl [HS2]; · iexact HS2
          iexact HS3
        isplitl [Hg]
        · iexact Hg
        isplitl [Hq0 Hq1]
        · isplitl [Hq0]; · iexact Hq0
          iexact Hq1
        isplitl [Hh0]; · iexact Hh0
        isplitl [Hh1]; · iexact Hh1
        isplitl [Hh2]; · iexact Hh2
        iexact Hh3
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · iintro ⟨⟨⟨HS0, HS1, HS2, HS3⟩, Hg, ⟨Hq0, Hq1⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_C c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (V m c main_arg1) (V m c main_arg2) (V m c main_arg3) (V m c main_arg4)) W _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hh0]; · iexact Hh0
    isplitl [Hh1]; · iexact Hh1
    isplitl [Hh2]; · iexact Hh2
    isplitl [Hh3]; · iexact Hh3
    isplitl [HW]; · iexact HW
    iintro ⟨H0, H1, H2, H3, H4, H5, H6, H7, HS0, HS1, HS2, HS3, Hq0, Hq1, Hh0, Hh1, Hh2, Hh3, ⟨%W', HW'⟩⟩
    isplitl [HS0 HS1 HS2 HS3 Hg Hq0 Hq1 Hh0 Hh1 Hh2 Hh3]
    · isplitl [HS0 HS1 HS2 HS3]
      · isplitl [HS0]; · iexact HS0
        isplitl [HS1]; · iexact HS1
        isplitl [HS2]; · iexact HS2
        iexact HS3
      isplitl [Hg]
      · iexact Hg
      isplitl [Hq0 Hq1]
      · isplitl [Hq0]; · iexact Hq0
        iexact Hq1
      isplitl [Hh0]; · iexact Hh0
      isplitl [Hh1]; · iexact Hh1
      isplitl [Hh2]; · iexact Hh2
      iexact Hh3
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hH : Hyps m) (c : Dev nD) : BodyObligation (dats (F := F) m hH 0 c) (defs₀ (F := F)) Variants.none () Set.univ forgets0 := fun t => by
  rw [bigSep_W0, bigSep_W0, defs₀_row]
  exact triple_restated (sound_body m hH c t) rfl .rfl fun _ => .rfl

/-! ## The run and the frame -/

-- `θ_run_frame_dma_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hH : Hyps m) : θ_run defs (onTc (τ := τ) (main (F := F))) (s₀ m ρ) (fun r => (Pipeline.RDat.FramePost (cfgs 0) (fun c => (dats m hH 0 c).toRForget forgets0) (V m)) r ∧ r.2.sem = fun _ => 0) :=
  Pipeline.θ_run_frame_dma_forget_shared (Q' := _) cfgs (dats m hH) (0 : Fin 1) launch₀0 osem0 defs₀ Variants.none forgets0 ownSemFacts0 H0 H0_sub m ρ main
    (hbody := fun c => (body_obligation m hH c).loose) (hq := fun _ _ _ => rfl)
    (howed := fun _ _ => rfl) (V := V m) (hmain := hmain m Variants.none) (hA := A_eq m hH) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 4, 5, 6, 7) (Lib/Pipeline/Frame.lean `RDat.FramePost` over the proof data with those windows
    forgotten, Dat.lean `Dat.toRForget`), and every other unscoped buffer at its region-entry contents. -/
theorem run_main (hH : Hyps m) : θ_run defs (onTc (τ := τ) (main (F := F))) (s₀ m ρ) (Pipeline.RDat.FramePost (cfgs 0) (fun c => (dats m hH 0 c).toRForget forgets0) (V m)) :=
  (θ_run defs _ _).mono (fun _ h => h.1) (run_main_quiescent m ρ hH)

/-- `frame` without the counters: the argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m hH 0 c).toRForget forgets0) (A_eq m hH) (run_main m ρ hH)

/-- THE FRAME: `Cert.quiescent_Up`'s statement (Defs.lean) at any `F` — Proof.lean cites it at `Bits`:
    `theorem Cert.Proof.claim : Cert.Claim := ⟨Cert.Up.Gen.facts, fun m ρ _ => Cert.Up.Gen.frame m ρ⟩`; here UNDER `Gen.Hyps` (the side conditions the body assumes,
    at every point), which Proof.lean proves from the precondition: `⟨…, fun m ρ h => Cert.Up.Gen.frame m ρ (hyps_of_pre m h)⟩`. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hH) ((θ_run defs _ _).mono (fun _ h => h.2) (run_main_quiescent m ρ hH))

end Cert.Up.Gen

end
-- ==== Proof.UpIdealLoops.lean ====
/- The counted loops of the up projection's body `UpIdeal`: what one trip of each stores, and the invariant that the
   trips before the current one have stored their pieces, over the algebra with transfer counters. -/
module

public import proofs.«01_k».proof.Proof.Gen.UpIdeal.Skeleton
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the instances: the frame kit's (Gen/<Name>/Frame.lean). -/
local notation "𝕄G" => MT nD τ sig Unit (Elt F) ℕ (UR sig nD τ) ℕ

/-- The frame kit's algebra paired with the transfer counters (`UR × Counters`: Lib/Pipeline/Frame.lean `UD`), at which
    the frame of a kernel with DMA semaphores of its own runs. Every loop instance that frame meets
    is stated HERE rather than at `𝕄G`, as is any instance of a loop whose trips transfer. -/
local notation "𝕄D" => MT nD τ sig Unit (Elt F) ℕ (UR sig nD τ × Counters) ℕ
/-! ## `cc0_up` -/

/-- The class of invariants of `k0_part2`'s counted loop `k0_t1_loop` (`scf.for %arg19 = %c0_i32_233
   to %752 step %c1_i32_235 : i32 {`), trip `k0_t1`, carrying `Unit`, region `Gen.k0_t1_body`.
   Nothing is carried from trip to trip: the invariant is the pieces of the
   trips before `k`. Per trip it STORES through arg16 at (k0_off3
   k0_t1). It LOADS through arg15 at ![0, 0]; arg14 at (k0_off3 k0_t1); arg16 at (k0_off3 k0_t1).
   Stated below: `Gen.loopInv_k0_t1` (`@[sl_loop]`), at `UR sig nD τ × Counters` (`𝕄D`: where the
   frame of a kernel with DMA semaphores of its own runs) — a run at that algebra goes
   through the loop with nothing more to state; a proof at another algebra instances the class
   itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (k0_h1 : k0_cond1 i = 1#1) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st (k0_t1_ok i k0_h1) () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1)

/-! ### `k0_t1_loop`: the invariant -/

/-- One trip's resources: what the region reads (arg14, arg15) at its contents, what it writes
   (arg16) at any. -/
abbrev Trip_k0_t1 (c : Dev nD) (arg14 : Memref sig .tc .vmem S1024x8192 .fp8e4m3) (arg15 : Memref sig .tc .vmem S1024x64 .f32) (arg16 : Memref sig .tc .vmem S1024x8192 .bf16) (X_arg14 : BufTy.Contents (Elt F) arg14.view.ty) (X_arg15 : BufTy.Contents (Elt F) arg15.view.ty) (f_arg16 : BufTy.Contents (Elt F) arg16.view.ty) : sProp 𝕄D :=
  iprop((arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} f_arg16))

/-- ONE TRIP of `k0_t1_loop` at a symbolic `k`, run by `sl_exec` (its rectangles' offsets closed
   forms of `k`, their geometry linear arithmetic): the pieces it writes into arg16 are the run's
   own finds — the witnesses `sl_close` assigns handing the buffers to the continuation.
   `@[irreducible]`: cited, never unfolded. -/
@[irreducible] def trip_k0_t1 (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (k0_h1 : k0_cond1 i = 1#1) (X_arg14 : BufTy.Contents (Elt F) arg14.view.ty) (X_arg15 : BufTy.Contents (Elt F) arg15.view.ty) (k : Fin k0_t1_loop.trips) :
    { L_arg16 : List (View.Piece (Elt F) S1024x8192 .bf16) // ∀ (E : Set ℕ) (f_arg16 : BufTy.Contents (Elt F) arg16.view.ty),
      Trip_k0_t1 (F := F) c arg14 arg15 arg16 X_arg14 X_arg15 f_arg16
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 k PUnit.unit)
          (fun _ => Trip_k0_t1 (F := F) c arg14 arg15 arg16 X_arg14 X_arg15 (arg16.view.writes (Elt F) f_arg16 L_arg16)) } := by
  have hk : k.val < 64 := Nat.lt_of_lt_of_le k.isLt k0_t1_abs.2.1
  refine ⟨?_, fun E f_arg16 => ?run⟩
  case run =>
    unfold k0_t1_body
    iintro ⟨HR_arg14, HR_arg15, HW_arg16⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (k0_h1 : k0_cond1 i = 1#1) (X_arg14 : BufTy.Contents (Elt F) arg14.view.ty) (X_arg15 : BufTy.Contents (Elt F) arg15.view.ty) (k : Fin k0_t1_loop.trips) : List (View.Piece (Elt F) S1024x8192 .bf16) :=
  (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (k0_h1 : k0_cond1 i = 1#1) (X_arg14 : BufTy.Contents (Elt F) arg14.view.ty) (X_arg15 : BufTy.Contents (Elt F) arg15.view.ty) (k : ℕ) (prev : List (View.Piece (Elt F) S1024x8192 .bf16)) : List (View.Piece (Elt F) S1024x8192 .bf16) :=
  if h : k < k0_t1_loop.trips then
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 ⟨k, h⟩) ++ prev
  else prev

/-- The pieces of the trips before `k` (last first), per written memref. -/
def pb_k0_t1 (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (k0_h1 : k0_cond1 i = 1#1) (X_arg14 : BufTy.Contents (Elt F) arg14.view.ty) (X_arg15 : BufTy.Contents (Elt F) arg15.view.ty) : ℕ → List (View.Piece (Elt F) S1024x8192 .bf16)
  | 0 => []
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 k (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 k)

theorem pb_k0_t1_succ (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (k0_h1 : k0_cond1 i = 1#1) (X_arg14 : BufTy.Contents (Elt F) arg14.view.ty) (X_arg15 : BufTy.Contents (Elt F) arg15.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 (k.val + 1)
      = (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 k) ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 k.val) := by
  rw [pb_k0_t1.eq_2]; unfold pb_k0_t1Step; exact dif_pos k.isLt

/-- The invariant before trip `k`: arg14, arg15 read at `X_·`; arg16 holding the pieces of the trips
   before `k` written over the contents at loop entry `G_·` (stated `∃ f, … ∗ ⌜f = …⌝`, so that a
   hypothesis of any contents matches and the equation is what is proved). -/
abbrev inv_k0_t1 (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (k0_h1 : k0_cond1 i = 1#1) (X_arg14 : BufTy.Contents (Elt F) arg14.view.ty) (X_arg15 : BufTy.Contents (Elt F) arg15.view.ty) (G_arg16 : BufTy.Contents (Elt F) arg16.view.ty) (k : ℕ) (_u : PUnit) : sProp 𝕄D :=
  iprop((arg14.view.loc (c : Thread nD τ) ↦[arg14.view.set]{fullShare} X_arg14) ∗ (arg15.view.loc (c : Thread nD τ) ↦[arg15.view.set]{fullShare} X_arg15) ∗ (∃ f, (arg16.view.loc (c : Thread nD τ) ↦[arg16.view.set]{fullShare} f) ∗ ⌜f = arg16.view.writes (Elt F) G_arg16 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 k)⌝))

set_option warn.classDefReducibility false in
/-- The loop by its invariant (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (k0_h1 : k0_cond1 i = 1#1) (X_arg14 : BufTy.Contents (Elt F) arg14.view.ty) (X_arg15 : BufTy.Contents (Elt F) arg15.view.ty) (G_arg16 : BufTy.Contents (Elt F) arg16.view.ty) :
    LoopInvTy_k0_t1 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 G_arg16
  step k acc := by
    iintro ⟨HR_arg14, HR_arg15, ⟨%f_arg16, HW_arg16, %h_arg16⟩⟩
    iapply (wp_wand_r Idealize.ShloMosaic.frame (wpE (defs₀ (F := F)) 𝒱 (c : Thread nD τ) bd) E)
    isplitl [HR_arg14 HR_arg15 HW_arg16]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 k).2 E f_arg16)
      isplitl [HR_arg14]; · iexact HR_arg14
      isplitl [HR_arg15]; · iexact HR_arg15
      iexact HW_arg16
    · iintro %_ ⟨HR_arg14, HR_arg15, HW_arg16⟩
      isplitl [HR_arg14]; · iexact HR_arg14
      isplitl [HR_arg15]; · iexact HR_arg15
      rw [pb_k0_t1_succ]
      iexists _; isplitl [HW_arg16]; · iexact HW_arg16
      ipureintro; rw [h_arg16, ← View.writes_append]

/-- The class of invariants of `k0_part2`'s counted loop `k0_t2_loop` (`scf.for %arg19 = %c0_i32_1
   to %3 step %c1_i32 : i32 {`), trip `k0_t2`, carrying `Unit`, region `Gen.k0_t2_body`.
   AFFINE — every store at a `Rect.unit` whose offsets are a stated closed form of the trips,
   nothing carried, no transfer or conditional inside: the invariant is the pieces of the trips
   before `k`. The region loads back what it stores into `arg17`,
   each load's value unused (a slab read before a store into it): the pieces do not depend on what
   the memref held. One trip calls the parts `k0_part1`. Per trip it STORES through arg17 at
   (k0_off6 k0_t2); arg17 at (k0_off8 k0_t2); arg17 at (k0_off9 k0_t2); arg17 at (k0_off10 k0_t2).
   It LOADS through arg9 at (k0_off4 i k0_t2 0#32 0#32); arg7 at (k0_off5 k0_t2); arg17 at (k0_off6
   k0_t2); arg9 at (k0_off4 i k0_t2 1#32 0#32); arg7 at (k0_off7 k0_t2); arg17 at (k0_off8 k0_t2);
   arg9 at (k0_off4 i k0_t2 0#32 28#32); arg8 at (k0_off5 k0_t2); arg17 at (k0_off9 k0_t2); arg9 at
   (k0_off4 i k0_t2 1#32 28#32); arg8 at (k0_off7 k0_t2); arg17 at (k0_off10 k0_t2). Stated
   below: `Gen.loopInv_k0_t2` (`@[sl_loop]`), at `UR sig nD τ × Counters` (`𝕄D`: where the
   frame of a kernel with DMA semaphores of its own runs) — a run at that algebra goes through the
   loop with nothing more to state; a proof at another algebra instances the class itself, after
   this one. -/
abbrev LoopInvTy_k0_t2 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (arg1 : BitVec 32) :=
  Idealize.ShloMosaic.LoopInv (M := MT nD τ sig Ix (Elt F) Name U Lvl) Idealize.ShloMosaic.frame (wpE defs₀ 𝒱 (c : Thread nD τ) bd) E
    k0_t2_loop.lb k0_t2_loop.ub k0_t2_loop.st k0_t2_ok () (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1)

/-! ### `k0_t2_loop`: the invariant -/

/-- One trip's resources: what the region reads (arg7, arg8, arg9) at its contents, what it writes
   (arg17) at any. -/
abbrev Trip_k0_t2 (c : Dev nD) (arg7 : Memref sig .tc .vmem S8192x256 .fp8e4m3) (arg8 : Memref sig .tc .vmem S8192x256 .fp8e4m3) (arg9 : Memref sig .tc .smem S64x56 .f32) (arg17 : Memref sig .tc .vmem S8192x512 .bf16) (X_arg7 : BufTy.Contents (Elt F) arg7.view.ty) (X_arg8 : BufTy.Contents (Elt F) arg8.view.ty) (X_arg9 : BufTy.Contents (Elt F) arg9.view.ty) (f_arg17 : BufTy.Contents (Elt F) arg17.view.ty) : sProp 𝕄D :=
  iprop((arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg17.view.loc (c : Thread nD τ) ↦[arg17.view.set]{fullShare} f_arg17))

/-- ONE TRIP of `k0_t2_loop` at a symbolic `k`, run by `sl_exec` (its rectangles' offsets closed
   forms of `k`, their geometry linear arithmetic): the pieces it writes into arg17 are the run's
   own finds — the witnesses `sl_close` assigns handing the buffers to the continuation.
   `@[irreducible]`: cited, never unfolded. -/
@[irreducible] def trip_k0_t2 (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (arg1 : BitVec 32) (X_arg7 : BufTy.Contents (Elt F) arg7.view.ty) (X_arg8 : BufTy.Contents (Elt F) arg8.view.ty) (X_arg9 : BufTy.Contents (Elt F) arg9.view.ty) (k : Fin k0_t2_loop.trips) :
    { L_arg17 : List (View.Piece (Elt F) S8192x512 .bf16) // ∀ (E : Set ℕ) (f_arg17 : BufTy.Contents (Elt F) arg17.view.ty),
      Trip_k0_t2 (F := F) c arg7 arg8 arg9 arg17 X_arg7 X_arg8 X_arg9 f_arg17
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 k PUnit.unit)
          (fun _ => Trip_k0_t2 (F := F) c arg7 arg8 arg9 arg17 X_arg7 X_arg8 X_arg9 (arg17.view.writes (Elt F) f_arg17 L_arg17)) } := by
  have hk : k.val < 64 := Nat.lt_of_lt_of_le k.isLt k0_t2_abs.2.1
  refine ⟨?_, fun E f_arg17 => ?run⟩
  case run =>
    unfold k0_t2_body
    iintro ⟨HR_arg7, HR_arg8, HR_arg9, HW_arg17⟩
    sl_exec
    sl_step
    sl_close

/-- The trip's piece lists (plain projections of `trip_…`, for the recursion below to cite without
   its proof). -/
abbrev tripL_k0_t2 (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (arg1 : BitVec 32) (X_arg7 : BufTy.Contents (Elt F) arg7.view.ty) (X_arg8 : BufTy.Contents (Elt F) arg8.view.ty) (X_arg9 : BufTy.Contents (Elt F) arg9.view.ty) (k : Fin k0_t2_loop.trips) : List (View.Piece (Elt F) S8192x512 .bf16) :=
  (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 k).1

/-- Trip `k`'s contribution to the state the recursion `pb_k0_t2` below carries (`prev`): its pieces
   in front, per written memref; past the last trip, `prev` itself. -/
@[irreducible] def pb_k0_t2Step (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (arg1 : BitVec 32) (X_arg7 : BufTy.Contents (Elt F) arg7.view.ty) (X_arg8 : BufTy.Contents (Elt F) arg8.view.ty) (X_arg9 : BufTy.Contents (Elt F) arg9.view.ty) (k : ℕ) (prev : List (View.Piece (Elt F) S8192x512 .bf16)) : List (View.Piece (Elt F) S8192x512 .bf16) :=
  if h : k < k0_t2_loop.trips then
    (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 ⟨k, h⟩) ++ prev
  else prev

/-- The pieces of the trips before `k` (last first), per written memref. -/
def pb_k0_t2 (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (arg1 : BitVec 32) (X_arg7 : BufTy.Contents (Elt F) arg7.view.ty) (X_arg8 : BufTy.Contents (Elt F) arg8.view.ty) (X_arg9 : BufTy.Contents (Elt F) arg9.view.ty) : ℕ → List (View.Piece (Elt F) S8192x512 .bf16)
  | 0 => []
  | k + 1 => pb_k0_t2Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 k (pb_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 k)

theorem pb_k0_t2_succ (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (arg1 : BitVec 32) (X_arg7 : BufTy.Contents (Elt F) arg7.view.ty) (X_arg8 : BufTy.Contents (Elt F) arg8.view.ty) (X_arg9 : BufTy.Contents (Elt F) arg9.view.ty) (k : Fin k0_t2_loop.trips) :
    pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 (k.val + 1)
      = (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 k) ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 k.val) := by
  rw [pb_k0_t2.eq_2]; unfold pb_k0_t2Step; exact dif_pos k.isLt

/-- The invariant before trip `k`: arg7, arg8, arg9 read at `X_·`; arg17 holding the pieces of the
   trips before `k` written over the contents at loop entry `G_·` (stated `∃ f, … ∗ ⌜f = …⌝`, so
   that a hypothesis of any contents matches and the equation is what is proved). -/
abbrev inv_k0_t2 (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (arg1 : BitVec 32) (X_arg7 : BufTy.Contents (Elt F) arg7.view.ty) (X_arg8 : BufTy.Contents (Elt F) arg8.view.ty) (X_arg9 : BufTy.Contents (Elt F) arg9.view.ty) (G_arg17 : BufTy.Contents (Elt F) arg17.view.ty) (k : ℕ) (_u : PUnit) : sProp 𝕄D :=
  iprop((arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (∃ f, (arg17.view.loc (c : Thread nD τ) ↦[arg17.view.set]{fullShare} f) ∗ ⌜f = arg17.view.writes (Elt F) G_arg17 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 k)⌝))

set_option warn.classDefReducibility false in
/-- The loop by its invariant (`@[sl_loop]`: `sl_exec` finds it meeting `k0_t2_loop`,
   fixing `X_· G_·` against the context; after the loop each written memref holds `writes G (pb …
   trips)`). -/
@[sl_loop] def loopInv_k0_t2 (𝒱 : Variants) (c : Dev nD) (bd : Option 𝒱.V) (E : Set ℕ) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (arg1 : BitVec 32) (X_arg7 : BufTy.Contents (Elt F) arg7.view.ty) (X_arg8 : BufTy.Contents (Elt F) arg8.view.ty) (X_arg9 : BufTy.Contents (Elt F) arg9.view.ty) (G_arg17 : BufTy.Contents (Elt F) arg17.view.ty) :
    LoopInvTy_k0_t2 (F := F) Unit ℕ (UR sig nD τ × Counters) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 where
  inv := inv_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 G_arg17
  step k acc := by
    iintro ⟨HR_arg7, HR_arg8, HR_arg9, ⟨%f_arg17, HW_arg17, %h_arg17⟩⟩
    iapply (wp_wand_r Idealize.ShloMosaic.frame (wpE (defs₀ (F := F)) 𝒱 (c : Thread nD τ) bd) E)
    isplitl [HR_arg7 HR_arg8 HR_arg9 HW_arg17]
    · iapply ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 k).2 E f_arg17)
      isplitl [HR_arg7]; · iexact HR_arg7
      isplitl [HR_arg8]; · iexact HR_arg8
      isplitl [HR_arg9]; · iexact HR_arg9
      iexact HW_arg17
    · iintro %_ ⟨HR_arg7, HR_arg8, HR_arg9, HW_arg17⟩
      isplitl [HR_arg7]; · iexact HR_arg7
      isplitl [HR_arg8]; · iexact HR_arg8
      isplitl [HR_arg9]; · iexact HR_arg9
      rw [pb_k0_t2_succ]
      iexists _; isplitl [HW_arg17]; · iexact HW_arg17
      ipureintro; rw [h_arg17, ← View.writes_append]

end Cert.UpIdeal.Gen

end
-- ==== Proof.UpIdealRuns.lean ====
/- What the runs of the body of `UpIdeal` share: the program up to its one region, the blocks that the windows hold, the
   branch conditions, and the side condition that the body assumes of the rank's word. -/
module

public import proofs.«01_k».proof.Proof.Gen.UpIdeal.Launch
public import proofs.«01_k».proof.Proof.Gen.UpIdeal.Skeleton
public import proofs.«01_k».proof.Proof.UpIdealLoops
public import proofs.«01_k».proof.Proof.Gen.UpIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_UpIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 2).trans (((dats 0 c).arrAt_in 2 rfl _).trans ((hA c 2).trans (V_main_arg5 m c))),
      ((h c).1 3).trans (((dats 0 c).arrAt_in 3 rfl _).trans ((hA c 3).trans (V_main_arg6 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 14) — by arithmetic of the point. -/
theorem hcond0_0 : ∀ t : Fin cfg0.N, cond0_0 (grid0.coords t) ↔ t.val % 14 = 0 :=
  (fun t => by
    have ht : t.val < 112 := Nat.lt_of_lt_of_eq t.isLt N_0
    have e0 : (grid0.coords t 0).val = t.val / 14 % 8 := Pipeline.Grid.coords_val t 0 (by decide) rfl
    have e1 : (grid0.coords t 1).val = t.val / 1 % 14 := Pipeline.Grid.coords_val t 1 (by decide) rfl
    simp only [cond0_0, k0_cond1, e0, e1]
    word_cmp
   : ∀ t : Fin grid0.N, cond0_0 (grid0.coords t) ↔ t.val % 14 = 0)

/-- The condition of the body's `scf.if` 1 (`k0_h2`): over WORDS the body reads from its input SMEM windows
    (`v748`), so no function of the point — a case variable: a hypothesis of each run, a `by_cases`
    of the obligation and an `if` of `outsAt`, stated over the argument blocks' words there. -/
abbrev cond0_1 (i : grid0.Coords) (v748 : BitVec 32) : Prop := (Scalar.cmpi .ne (Scalar.extui (Scalar.cmpi .eq (BitVec.ofNat 32 (i 0).val) v748)) 0#32) = 1#1

/-- The body's second condition on the rank is the negation of its first. -/
theorem cond3_iff (i : grid0.Coords) (w : BitVec 32) : k0_cond3 i w = 1#1 ↔ ¬cond0_1 i w := by
  have e : ∀ a b : BitVec 32, IntOp.cmpi .ne ((IntOp.cmpi .ne a b).setWidth 32) 0#32 = 1#1 ↔ ¬ IntOp.cmpi .ne ((IntOp.cmpi .eq a b).setWidth 32) 0#32 = 1#1 := by
    intro a b
    by_cases h : a = b
    · subst h
      rw [show IntOp.cmpi .ne a a = 0#1 by show BitVec.ofBool (a != a) = 0#1; rw [bne_self_eq_false]; rfl,
        show IntOp.cmpi .eq a a = 1#1 by show BitVec.ofBool (a == a) = 1#1; rw [beq_self_eq_true]; rfl]
      decide
    · rw [show IntOp.cmpi .ne a b = 1#1 by show BitVec.ofBool (a != b) = 1#1; rw [bne_iff_ne.mpr h]; rfl,
        show IntOp.cmpi .eq a b = 0#1 by show BitVec.ofBool (a == b) = 0#1; rw [beq_eq_false_iff_ne.mpr h]; rfl]
      decide
  exact e _ _

/-! ## The kernel body on any staging memrefs: a subtype the run finds -/

/-- One staging buffer of output window 4, through which its contents are stated (`View.read_writes_of_cover`: the
    choice does not matter). -/
abbrev VO0_4 : View sig .tc .vmem S1024x256 .fp8e4m3 := (Memref.whole cc0_stg4_0 : Memref sig .tc .vmem S1024x256 .fp8e4m3).view
/-- One staging buffer of output window 5, through which its contents are stated (`View.read_writes_of_cover`: the
    choice does not matter). -/
abbrev VO0_5 : View sig .tc .vmem S1024x28 .f32 := (Memref.whole cc0_stg5_0 : Memref sig .tc .vmem S1024x28 .f32).view
/-- One staging buffer of output window 6, through which its contents are stated (`View.read_writes_of_cover`: the
    choice does not matter). -/
abbrev VO0_6 : View sig .tc .vmem S1024x256 .fp8e4m3 := (Memref.whole cc0_stg6_0 : Memref sig .tc .vmem S1024x256 .fp8e4m3).view
/-- One staging buffer of output window 7, through which its contents are stated (`View.read_writes_of_cover`: the
    choice does not matter). -/
abbrev VO0_7 : View sig .tc .vmem S1x8x256 .f32 := (Memref.whole cc0_stg7_0 : Memref sig .tc .vmem S1x8x256 .f32).view
/-- Each window's current staging memref at point `t`, spelled as the pipeline passes it (`bodyAt0`), and its wholeness. -/
abbrev ms0_0 (t : Fin cfg0.N) : Memref sig .tc .smem S1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S64x56 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x28 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x256 .f32 := win0_7.stage (cfg0.slots t 7)
abbrev hs0_7 (t : Fin cfg0.N) : (ms0_7 t).IsWhole := hstage0_7 ((cfg0.slots t 7).cast nbuf0_7)

/-! ## The side conditions the body assumes, as the frame's hypothesis -/

/-- The side conditions the body ASSUMES of words it loads from its input SMEM windows, or inside a counted
    loop of the loop's carried counter at every trip (the printed `TpuEff.assume
    (kK_chkN …)`: facts computed from the words that no program decides for every word), at EVERY point, over the
    words of the argument blocks there — spelled as each case's run reads them (`View.readAt` through the window's
    memref at its held contents), each under the conditions of the branches it sits inside. The frame holds
    under it; Proof.lean proves it from the certificate's
    precondition (`hyps_of_pre`; `View.readAt_apply` and `Memref.IsWhole.read_unread` rewrite a conjunct to the
    predicate at the block's word). -/
def Hyps (m : (ℓ : Loc nD τ sig) → Buf (Elt F) ℓ) : Prop :=
  ∀ (c : Dev nD) (t : Fin cfg0.N),
    (cond0_0 (grid0.coords t) → ¬cond0_1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos))) → k0_chk1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos))) ((ms0_0 t).view.readAt (Elt F) (Rect.unit (s := S1) ![0] S1.size inb_S1_S1_0).toLoadRect ((hs0_0 t).unread (iblk m c 0 t)) (Shape.Idx.first (numel1_S1.symm ▸ Nat.one_pos))))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`, under the conditions of the branches it sits inside. -/
abbrev Hyps.p0 (m : (ℓ : Loc nD τ sig) → Buf (Elt F) ℓ) (c : Dev nD) (t : Fin cfg0.N) : Prop :=
  (cond0_0 (grid0.coords t) → ¬cond0_1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos))) → k0_chk1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos))) ((ms0_0 t).view.readAt (Elt F) (Rect.unit (s := S1) ![0] S1.size inb_S1_S1_0).toLoadRect ((hs0_0 t).unread (iblk m c 0 t)) (Shape.Idx.first (numel1_S1.symm ▸ Nat.one_pos))))
variable {m} in
theorem Hyps.c0 (hH : Hyps m) (c : Dev nD) (t : Fin cfg0.N) :
    (cond0_0 (grid0.coords t) → ¬cond0_1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos))) → k0_chk1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos))) ((ms0_0 t).view.readAt (Elt F) (Rect.unit (s := S1) ![0] S1.size inb_S1_S1_0).toLoadRect ((hs0_0 t).unread (iblk m c 0 t)) (Shape.Idx.first (numel1_S1.symm ▸ Nat.one_pos)))) := (hH c t)
variable {m} in
theorem Hyps.of
    (p0 : ∀ (c : Dev nD) (t : Fin cfg0.N), Hyps.p0 m c t) :
    Hyps m := fun c t =>
  p0 c t

/-- The scratch operands: whole scoped buffers of the kernel's own, passed beside the windows. -/
abbrev scM0_0 : Memref sig .tc .vmem S1024x8192 .fp8e4m3 := Memref.whole cc0_scratch0
abbrev scM0_1 : Memref sig .tc .vmem S1024x64 .f32 := Memref.whole cc0_scratch1
abbrev scM0_2 : Memref sig .tc .vmem S1024x8192 .bf16 := Memref.whole cc0_scratch2
abbrev scM0_3 : Memref sig .tc .vmem S8192x512 .bf16 := Memref.whole cc0_scratch3
/-- The scratch `arg16` the kernel carries between points, as a view: what it holds is stated through it. -/
abbrev VS0_2 : View sig .tc .vmem S1024x8192 .bf16 := scM0_2.view
/-- The operands left in HBM that the body copies into scratch itself, whole. -/
abbrev hbM0_0 : Memref sig .tc .hbm S1024x8192 .fp8e4m3 := Memref.whole main_arg1
abbrev hbM0_1 : Memref sig .tc .hbm S1024x64 .f32 := Memref.whole main_arg2
abbrev hbM0_2 : Memref sig .tc .hbm S7x1024x8192 .fp8e4m3 := Memref.whole main_arg3
abbrev hbM0_3 : Memref sig .tc .hbm S7x1024x64 .f32 := Memref.whole main_arg4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 14, SemLoc.dma 15] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 14) 0 ∗ semVal ((c : Thread nD τ), SemLoc.dma 15) 0) := by
  rw [Pipeline.ownSems0_eq_of_list c osem0 [0, 1] (by decide) (by decide)]; rfl
/-- The HBM operands the body moves, as references: unscoped, no window's array (`Pipeline.restRefs`). -/
def H0 : Finset (Ref sig .tc) := {main_arg1, main_arg2, main_arg3, main_arg4}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg1) ∗ hbPt0 c hbM0_1 (V m c main_arg2) ∗ hbPt0 c hbM0_2 (V m c main_arg3) ∗ hbPt0 c hbM0_3 (V m c main_arg4)) := by
  rw [BI.bigSep_eq_bigSepL_of_eq [main_arg1, main_arg2, main_arg3, main_arg4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 14) 0 ∗ semVal ((c : Thread nD τ), SemLoc.dma 15) 0) ∗ iprop(hbPt0 c hbM0_0 (V m c main_arg1) ∗ hbPt0 c hbM0_1 (V m c main_arg2) ∗ hbPt0 c hbM0_2 (V m c main_arg3) ∗ hbPt0 c hbM0_3 (V m c main_arg4))) := by
  rw [Pipeline.ΦD_eq, scopedRest0_eq, ownSems00_eq, hbmPts0_eq]; simp only [scM0_0, scM0_1, scM0_2, scM0_3, owns_whole]; try rfl

end Cert.UpIdeal.Gen

end
-- ==== Proof.UpIdealRunA.lean ====
/- The run of the body of `UpIdeal` at the first point of a segment whose index is the rank: the codes and scales
   copied are the device's own. -/
module

public import proofs.«01_k».proof.Proof.UpIdealRuns

@[expose] public section

-- membership in a rectangle of production extents (`View.cover_of_tiled`): the elaborator's structural look
-- recurses once per coordinate of the long axes
set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE A (`scf.if` 0 taken, `scf.if` 1 taken: points 0, 14, … 98: 8 of 112), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : cond0_1 i (arg2.view.readAt (Elt F) (Rect.unit (s := S1) ![0] S1.size inb_S1_S1_0).toLoadRect (harg2.unread x0) (Shape.Idx.first (numel1_S1.symm ▸ Nat.one_pos)))) :
    Σ' (L4 : List (View.Piece (Elt F) S1024x256 .fp8e4m3)), Σ' (L5 : List (View.Piece (Elt F) S1024x28 .f32)), Σ' (L6 : List (View.Piece (Elt F) S1024x256 .fp8e4m3)), Σ' (L7 : List (View.Piece (Elt F) S1x8x256 .f32)), { LS2 : List (View.Piece (Elt F) S1024x8192 .bf16) //
      ∀ (W : Waits sig Unit) (K : PUnit → sProp 𝕄),
        iprop(owns (c : Thread nD τ) arg2 fullShare x0 ∗ owns (c : Thread nD τ) arg7 fullShare x1 ∗ owns (c : Thread nD τ) arg8 fullShare x2 ∗ owns (c : Thread nD τ) arg9 fullShare x3 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg2 fullShare x0 ∗ owns (c : Thread nD τ) arg7 fullShare x1 ∗ owns (c : Thread nD τ) arg8 fullShare x2 ∗ owns (c : Thread nD τ) arg9 fullShare x3 ∗ (∃ f, arg10.view.loc (c : Thread nD τ) ↦[arg10.view.set]{fullShare} arg10.view.writes (Elt F) f L4) ∗ (∃ f, arg11.view.loc (c : Thread nD τ) ↦[arg11.view.set]{fullShare} arg11.view.writes (Elt F) f L5) ∗ (∃ f, arg12.view.loc (c : Thread nD τ) ↦[arg12.view.set]{fullShare} arg12.view.writes (Elt F) f L6) ∗ (∃ f, arg13.view.loc (c : Thread nD τ) ↦[arg13.view.set]{fullShare} arg13.view.writes (Elt F) f L7) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LS2) ∗ (∃ d, owns (c : Thread nD τ) arg17 fullShare d) ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_up i arg2 harg2 (Memref.whole main_arg1) (Memref.isWhole_whole _) (Memref.whole main_arg2) (Memref.isWhole_whole _) (Memref.whole main_arg3) (Memref.isWhole_whole _) (Memref.whole main_arg4) (Memref.isWhole_whole _) arg7 harg7 arg8 harg8 arg9 harg9 arg10 harg10 arg11 harg11 arg12 harg12 arg13 harg13 arg14 harg14 arg15 harg15 arg16 harg16 arg17 harg17 cc0_scratch4) K } := by
  refine ⟨?_, ?_, ?_, ?_, ?_, fun W K => ?run⟩
  case run =>
    simp only [cc0_up_eq_skeleton]; unfold cc0_up_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hq0, Hq1, Hh0, Hh1, Hh2, Hh3, HW, Hk⟩
    obtain rfl := harg2.eq_unread hf0; obtain rfl := harg7.eq_unread hf1; obtain rfl := harg8.eq_unread hf2; obtain rfl := harg9.eq_unread hf3
    have hrd0 : ∀ (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (k0_h1 : k0_cond1 i = 1#1) (X_arg14 : BufTy.Contents (Elt F) arg14.view.ty) (X_arg15 : BufTy.Contents (Elt F) arg15.view.ty) (hrdF : BufTy.Contents (Elt F) arg16.view.ty) (hrdB : LoadRect S1024x8192), arg16.view.readAt (Elt F) hrdB (arg16.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 (Scf.trips k0_t1_loop.lb k0_t1_loop.ub k0_t1_loop.st))) = arg16.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 (Scf.trips k0_t1_loop.lb k0_t1_loop.ub k0_t1_loop.st)) S1024x128.size (by sl_kernel_rfl) (hrdB.idx hrdJ))
    have hrd1 : ∀ (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (arg1 : BitVec 32) (X_arg7 : BufTy.Contents (Elt F) arg7.view.ty) (X_arg8 : BufTy.Contents (Elt F) arg8.view.ty) (X_arg9 : BufTy.Contents (Elt F) arg9.view.ty) (hrdF : BufTy.Contents (Elt F) arg17.view.ty) (hrdB : LoadRect S8192x512), arg17.view.readAt (Elt F) hrdB (arg17.view.writes (Elt F) hrdF (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 (Scf.trips k0_t2_loop.lb k0_t2_loop.ub k0_t2_loop.st))) = arg17.view.readCov (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 (Scf.trips k0_t2_loop.lb k0_t2_loop.ub k0_t2_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 hrdF hrdB => View.readAt_writes_of_cover _ hrdF _ hrdB (fun hrdJ => View.cover_of_tiledL (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 (Scf.trips k0_t2_loop.lb k0_t2_loop.ub k0_t2_loop.st)) S128x128.size (by sl_kernel_rfl) (hrdB.idx hrdJ))
    have hc2 := fun h => (cond3_iff _ _).mp h hc1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]; · iexists _; iexact H4
    isplitl [H5]; · iexists _; iexact H5
    isplitl [H6]; · iexists _; iexact H6
    isplitl [H7]; · iexists _; iexact H7
    isplitl [HS0]
    · iexists _, _; isplitr; swap; · iexact HS0
      ipureintro; rfl
    isplitl [HS1]
    · iexists _, _; isplitr; swap; · iexact HS1
      ipureintro; rfl
    isplitl [HS2]; · iexists _; iexact HS2
    isplitl [HS3]
    · iexists _, _; isplitr; swap; · iexact HS3
      ipureintro; rfl
    isplitl [Hq0]; · iexact Hq0
    isplitl [Hq1]; · iexact Hq1
    isplitl [Hh0]; · iexact Hh0
    isplitl [Hh1]; · iexact Hh1
    isplitl [Hh2]; · iexact Hh2
    isplitl [Hh3]; · iexact Hh3
    iexists _; iexact HW

end Cert.UpIdeal.Gen

end
-- ==== Proof.UpIdealRunB.lean ====
/- The run of the body of `UpIdeal` at the first point of a segment whose index is not the rank: the codes and scales
   copied are those of another device. -/
module

public import proofs.«01_k».proof.Proof.UpIdealRunA

@[expose] public section

-- membership in a rectangle of production extents (`View.cover_of_tiled`): the elaborator's structural look
-- recurses once per coordinate of the long axes
set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE B (`scf.if` 0 taken, `scf.if` 1 not taken: points 0, 14, … 98: 8 of 112), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : ¬cond0_1 i (arg2.view.readAt (Elt F) (Rect.unit (s := S1) ![0] S1.size inb_S1_S1_0).toLoadRect (harg2.unread x0) (Shape.Idx.first (numel1_S1.symm ▸ Nat.one_pos)))) (k0_hw1 : k0_chk1 i (arg2.view.readAt (Elt F) (Rect.unit (s := S1) ![0] S1.size inb_S1_S1_0).toLoadRect (harg2.unread x0) (Shape.Idx.first (numel1_S1.symm ▸ Nat.one_pos))) (arg2.view.readAt (Elt F) (Rect.unit (s := S1) ![0] S1.size inb_S1_S1_0).toLoadRect (harg2.unread x0) (Shape.Idx.first (numel1_S1.symm ▸ Nat.one_pos)))) :
    Σ' (L4 : List (View.Piece (Elt F) S1024x256 .fp8e4m3)), Σ' (L5 : List (View.Piece (Elt F) S1024x28 .f32)), Σ' (L6 : List (View.Piece (Elt F) S1024x256 .fp8e4m3)), Σ' (L7 : List (View.Piece (Elt F) S1x8x256 .f32)), { LS2 : List (View.Piece (Elt F) S1024x8192 .bf16) //
      ∀ (W : Waits sig Unit) (K : PUnit → sProp 𝕄),
        iprop(owns (c : Thread nD τ) arg2 fullShare x0 ∗ owns (c : Thread nD τ) arg7 fullShare x1 ∗ owns (c : Thread nD τ) arg8 fullShare x2 ∗ owns (c : Thread nD τ) arg9 fullShare x3 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg2 fullShare x0 ∗ owns (c : Thread nD τ) arg7 fullShare x1 ∗ owns (c : Thread nD τ) arg8 fullShare x2 ∗ owns (c : Thread nD τ) arg9 fullShare x3 ∗ (∃ f, arg10.view.loc (c : Thread nD τ) ↦[arg10.view.set]{fullShare} arg10.view.writes (Elt F) f L4) ∗ (∃ f, arg11.view.loc (c : Thread nD τ) ↦[arg11.view.set]{fullShare} arg11.view.writes (Elt F) f L5) ∗ (∃ f, arg12.view.loc (c : Thread nD τ) ↦[arg12.view.set]{fullShare} arg12.view.writes (Elt F) f L6) ∗ (∃ f, arg13.view.loc (c : Thread nD τ) ↦[arg13.view.set]{fullShare} arg13.view.writes (Elt F) f L7) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LS2) ∗ (∃ d, owns (c : Thread nD τ) arg17 fullShare d) ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_up i arg2 harg2 (Memref.whole main_arg1) (Memref.isWhole_whole _) (Memref.whole main_arg2) (Memref.isWhole_whole _) (Memref.whole main_arg3) (Memref.isWhole_whole _) (Memref.whole main_arg4) (Memref.isWhole_whole _) arg7 harg7 arg8 harg8 arg9 harg9 arg10 harg10 arg11 harg11 arg12 harg12 arg13 harg13 arg14 harg14 arg15 harg15 arg16 harg16 arg17 harg17 cc0_scratch4) K } := by
  refine ⟨?_, ?_, ?_, ?_, ?_, fun W K => ?run⟩
  case run =>
    simp only [cc0_up_eq_skeleton]; unfold cc0_up_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hq0, Hq1, Hh0, Hh1, Hh2, Hh3, HW, Hk⟩
    obtain rfl := harg2.eq_unread hf0; obtain rfl := harg7.eq_unread hf1; obtain rfl := harg8.eq_unread hf2; obtain rfl := harg9.eq_unread hf3
    have hrd0 : ∀ (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (k0_h1 : k0_cond1 i = 1#1) (X_arg14 : BufTy.Contents (Elt F) arg14.view.ty) (X_arg15 : BufTy.Contents (Elt F) arg15.view.ty) (hrdF : BufTy.Contents (Elt F) arg16.view.ty) (hrdB : LoadRect S1024x8192), arg16.view.readAt (Elt F) hrdB (arg16.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 (Scf.trips k0_t1_loop.lb k0_t1_loop.ub k0_t1_loop.st))) = arg16.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg14 X_arg15 (Scf.trips k0_t1_loop.lb k0_t1_loop.ub k0_t1_loop.st)) S1024x128.size (by sl_kernel_rfl) (hrdB.idx hrdJ))
    have hrd1 : ∀ (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (arg1 : BitVec 32) (X_arg7 : BufTy.Contents (Elt F) arg7.view.ty) (X_arg8 : BufTy.Contents (Elt F) arg8.view.ty) (X_arg9 : BufTy.Contents (Elt F) arg9.view.ty) (hrdF : BufTy.Contents (Elt F) arg17.view.ty) (hrdB : LoadRect S8192x512), arg17.view.readAt (Elt F) hrdB (arg17.view.writes (Elt F) hrdF (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 (Scf.trips k0_t2_loop.lb k0_t2_loop.ub k0_t2_loop.st))) = arg17.view.readCov (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 (Scf.trips k0_t2_loop.lb k0_t2_loop.ub k0_t2_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 hrdF hrdB => View.readAt_writes_of_cover _ hrdF _ hrdB (fun hrdJ => View.cover_of_tiledL (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 (Scf.trips k0_t2_loop.lb k0_t2_loop.ub k0_t2_loop.st)) S128x128.size (by sl_kernel_rfl) (hrdB.idx hrdJ))
    sl_exec (disch := first | sl_exact hc0 | sl_exact hc1 | sl_exact ((cond3_iff _ _).mpr hc1) | sl_exact k0_hw1)
    sl_step
    iapply Hk
    isplitl [H0]
    · iexists _; isplitr; · ipureintro; exact harg2.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]; · iexists _; iexact H4
    isplitl [H5]; · iexists _; iexact H5
    isplitl [H6]; · iexists _; iexact H6
    isplitl [H7]; · iexists _; iexact H7
    isplitl [HS0]
    · iexists _, _; isplitr; swap; · iexact HS0
      ipureintro; rfl
    isplitl [HS1]
    · iexists _, _; isplitr; swap; · iexact HS1
      ipureintro; rfl
    isplitl [HS2]; · iexists _; iexact HS2
    isplitl [HS3]
    · iexists _, _; isplitr; swap; · iexact HS3
      ipureintro; rfl
    isplitl [Hq0]; · iexact Hq0
    isplitl [Hq1]; · iexact Hq1
    isplitl [Hh0]; · iexact Hh0
    isplitl [Hh1]; · iexact Hh1
    isplitl [Hh2]; · iexact Hh2
    isplitl [Hh3]; · iexact Hh3
    iexists _; iexact HW

end Cert.UpIdeal.Gen

end
-- ==== Proof.UpIdealRunC.lean ====
/- The run of the body of `UpIdeal` at a later point of a segment: nothing is copied, the widened activations stay. -/
module

public import proofs.«01_k».proof.Proof.UpIdealRunB

@[expose] public section

-- membership in a rectangle of production extents (`View.cover_of_tiled`): the elaborator's structural look
-- recurses once per coordinate of the long axes
set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE C (`scf.if` 0 not taken: points 1, 2, … 111: 104 of 112), WITH the
    proof that on whole staging memrefs — the inputs' at their contents, the outputs it reads before covering (5) at their running contents `xo·`, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : ¬cond0_0 i)
    (x0 : Vec F S1 .i32) (x1 : Vec F S8192x256 .fp8e4m3) (x2 : Vec F S8192x256 .fp8e4m3) (x3 : Vec F S64x56 .f32) (xo5 : Vec F S1024x28 .f32) (xs2 : Vec F S1024x8192 .bf16) (fh0 : HbBuf0 (F := F) c hbM0_0) (fh1 : HbBuf0 (F := F) c hbM0_1) (fh2 : HbBuf0 (F := F) c hbM0_2) (fh3 : HbBuf0 (F := F) c hbM0_3) :
    Σ' (L4 : List (View.Piece (Elt F) S1024x256 .fp8e4m3)), Σ' (L5 : List (View.Piece (Elt F) S1024x28 .f32)), Σ' (L6 : List (View.Piece (Elt F) S1024x256 .fp8e4m3)), Σ' (L7 : List (View.Piece (Elt F) S1x8x256 .f32)), { LS2 : List (View.Piece (Elt F) S1024x8192 .bf16) //
      ∀ (W : Waits sig Unit) (K : PUnit → sProp 𝕄),
        iprop(owns (c : Thread nD τ) arg2 fullShare x0 ∗ owns (c : Thread nD τ) arg7 fullShare x1 ∗ owns (c : Thread nD τ) arg8 fullShare x2 ∗ owns (c : Thread nD τ) arg9 fullShare x3 ∗ (∃ d, owns (c : Thread nD τ) arg10 fullShare d) ∗ owns (c : Thread nD τ) arg11 fullShare xo5 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs2 ∗ (∃ d, owns (c : Thread nD τ) arg17 fullShare d) ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg2 fullShare x0 ∗ owns (c : Thread nD τ) arg7 fullShare x1 ∗ owns (c : Thread nD τ) arg8 fullShare x2 ∗ owns (c : Thread nD τ) arg9 fullShare x3 ∗ (∃ f, arg10.view.loc (c : Thread nD τ) ↦[arg10.view.set]{fullShare} arg10.view.writes (Elt F) f L4) ∗ (∃ f, arg11.view.loc (c : Thread nD τ) ↦[arg11.view.set]{fullShare} arg11.view.writes (Elt F) f L5) ∗ (∃ f, arg12.view.loc (c : Thread nD τ) ↦[arg12.view.set]{fullShare} arg12.view.writes (Elt F) f L6) ∗ (∃ f, arg13.view.loc (c : Thread nD τ) ↦[arg13.view.set]{fullShare} arg13.view.writes (Elt F) f L7) ∗ (∃ d, owns (c : Thread nD τ) arg14 fullShare d) ∗ (∃ d, owns (c : Thread nD τ) arg15 fullShare d) ∗ owns (c : Thread nD τ) arg16 fullShare xs2 ∗ (∃ d, owns (c : Thread nD τ) arg17 fullShare d) ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_up i arg2 harg2 (Memref.whole main_arg1) (Memref.isWhole_whole _) (Memref.whole main_arg2) (Memref.isWhole_whole _) (Memref.whole main_arg3) (Memref.isWhole_whole _) (Memref.whole main_arg4) (Memref.isWhole_whole _) arg7 harg7 arg8 harg8 arg9 harg9 arg10 harg10 arg11 harg11 arg12 harg12 arg13 harg13 arg14 harg14 arg15 harg15 arg16 harg16 arg17 harg17 cc0_scratch4) K } := by
  refine ⟨?_, ?_, ?_, ?_, [], fun W K => ?run⟩
  case run =>
    simp only [cc0_up_eq_skeleton]; unfold cc0_up_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%d7, %f7, -, H7⟩, ⟨%ds0, %fs0, -, HS0⟩, ⟨%ds1, %fs1, -, HS1⟩, ⟨%fs2, %hfs2, HS2⟩, ⟨%ds3, %fs3, -, HS3⟩, Hq0, Hq1, Hh0, Hh1, Hh2, Hh3, HW, Hk⟩
    obtain rfl := harg2.eq_unread hf0; obtain rfl := harg7.eq_unread hf1; obtain rfl := harg8.eq_unread hf2; obtain rfl := harg9.eq_unread hf3; obtain rfl := harg11.eq_unread hf5; obtain rfl := harg16.eq_unread hfs2
    have hrd0 : ∀ (𝒱 : Variants) (c : Dev nD) (bd : Option 𝒱.V) (i : grid0.Coords) (arg2 : Memref sig .tc .smem S1 .i32) (harg2 : arg2.IsWhole) (arg3 : Memref sig .tc .hbm S1024x8192 .fp8e4m3) (harg3 : arg3.IsWhole) (arg4 : Memref sig .tc .hbm S1024x64 .f32) (harg4 : arg4.IsWhole) (arg5 : Memref sig .tc .hbm S7x1024x8192 .fp8e4m3) (harg5 : arg5.IsWhole) (arg6 : Memref sig .tc .hbm S7x1024x64 .f32) (harg6 : arg6.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (arg18 : DmaSems sig S2) (arg1 : BitVec 32) (X_arg7 : BufTy.Contents (Elt F) arg7.view.ty) (X_arg8 : BufTy.Contents (Elt F) arg8.view.ty) (X_arg9 : BufTy.Contents (Elt F) arg9.view.ty) (hrdF : BufTy.Contents (Elt F) arg17.view.ty) (hrdB : LoadRect S8192x512), arg17.view.readAt (Elt F) hrdB (arg17.view.writes (Elt F) hrdF (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 (Scf.trips k0_t2_loop.lb k0_t2_loop.ub k0_t2_loop.st))) = arg17.view.readCov (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 (Scf.trips k0_t2_loop.lb k0_t2_loop.ub k0_t2_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 hrdF hrdB => View.readAt_writes_of_cover _ hrdF _ hrdB (fun hrdJ => View.cover_of_tiledL (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg1 X_arg7 X_arg8 X_arg9 (Scf.trips k0_t2_loop.lb k0_t2_loop.ub k0_t2_loop.st)) S128x128.size (by sl_kernel_rfl) (hrdB.idx hrdJ))
    sl_exec (disch := first | sl_exact hc0)
    sl_step
    iapply Hk
    isplitl [H0]
    · iexists _; isplitr; · ipureintro; exact harg2.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]; · iexists _; iexact H4
    isplitl [H5]; · iexists _; iexact H5
    isplitl [H6]; · iexists _; iexact H6
    isplitl [H7]; · iexists _; iexact H7
    isplitl [HS0]
    · iexists _, _; isplitr; swap; · iexact HS0
      ipureintro; rfl
    isplitl [HS1]
    · iexists _, _; isplitr; swap; · iexact HS1
      ipureintro; rfl
    isplitl [HS2]
    · iexists _; isplitr; · ipureintro; exact harg16.read_unread _
      iexact HS2
    isplitl [HS3]
    · iexists _, _; isplitr; swap; · iexact HS3
      ipureintro; rfl
    isplitl [Hq0]; · iexact Hq0
    isplitl [Hq1]; · iexact Hq1
    isplitl [Hh0]; · iexact Hh0
    isplitl [Hh1]; · iexact Hh1
    isplitl [Hh2]; · iexact Hh2
    isplitl [Hh3]; · iexact Hh3
    iexists _; iexact HW

end Cert.UpIdeal.Gen

end
-- ==== Proof.UpIdealFrame.lean ====
/- The frame of `UpIdeal`: what the outputs and the carried scratch hold point by point, the proof data, the body's
   obligation, and the run of the whole program. -/
module

public import proofs.«01_k».proof.Proof.UpIdealRunC
public import Idealize.ShloMosaic.Lib.Claim

@[expose] public section

-- membership in a rectangle of production extents (`View.cover_of_tiled`): the elaborator's structural look
-- recurses once per coordinate of the long axes
set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 4 tile its block (2 stores of `S1024x128`, checked by the kernel's evaluation: Lib/Ring.lean `Piece.tiledL`, linear in the pieces, through a loop's `@[irreducible]` trip theorem too), so they cover it. -/
theorem cover0_A_4 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : cond0_1 i (arg2.view.readAt (Elt F) (Rect.unit (s := S1) ![0] S1.size inb_S1_S1_0).toLoadRect (harg2.unread x0) (Shape.Idx.first (numel1_S1.symm ▸ Nat.one_pos)))) (y : S1024x256.Idx) :
    ∃ pc ∈ (kernelRun0_A c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1).1, y ∈ pc.1.set :=
  View.cover_of_tiledL (kernelRun0_A c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1).1 S1024x128.size (by sl_kernel_rfl) y

/-- What case A leaves in output 4's staging buffer: its pieces read back over junk. -/
def out0_A_4 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : cond0_1 i (arg2.view.readAt (Elt F) (Rect.unit (s := S1) ![0] S1.size inb_S1_S1_0).toLoadRect (harg2.unread x0) (Shape.Idx.first (numel1_S1.symm ▸ Nat.one_pos)))) : Vec F S1024x256 .fp8e4m3 :=
  VO0_4.read (Elt F) (VO0_4.writes (Elt F) VO0_4.junk (kernelRun0_A c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1).1)

/-- Case A's pieces for output 5 tile its block (3 stores of `S1024x28`, checked by the kernel's evaluation: Lib/Ring.lean `Piece.tiledL`, linear in the pieces, through a loop's `@[irreducible]` trip theorem too), so they cover it. -/
theorem cover0_A_5 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : cond0_1 i (arg2.view.readAt (Elt F) (Rect.unit (s := S1) ![0] S1.size inb_S1_S1_0).toLoadRect (harg2.unread x0) (Shape.Idx.first (numel1_S1.symm ▸ Nat.one_pos)))) (y : S1024x28.Idx) :
    ∃ pc ∈ (kernelRun0_A c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1).2.1, y ∈ pc.1.set :=
  View.cover_of_tiledL (kernelRun0_A c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1).2.1 S1024x28.size (by sl_kernel_rfl) y

/-- What case A leaves in output 5's staging buffer: its pieces read back over junk. -/
def out0_A_5 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : cond0_1 i (arg2.view.readAt (Elt F) (Rect.unit (s := S1) ![0] S1.size inb_S1_S1_0).toLoadRect (harg2.unread x0) (Shape.Idx.first (numel1_S1.symm ▸ Nat.one_pos)))) : Vec F S1024x28 .f32 :=
  VO0_5.read (Elt F) (VO0_5.writes (Elt F) VO0_5.junk (kernelRun0_A c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1).2.1)

/-- Case A's pieces for output 6 tile its block (8 stores of `S128x256`, checked by the kernel's evaluation: Lib/Ring.lean `Piece.tiledL`, linear in the pieces, through a loop's `@[irreducible]` trip theorem too), so they cover it. -/
theorem cover0_A_6 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : cond0_1 i (arg2.view.readAt (Elt F) (Rect.unit (s := S1) ![0] S1.size inb_S1_S1_0).toLoadRect (harg2.unread x0) (Shape.Idx.first (numel1_S1.symm ▸ Nat.one_pos)))) (y : S1024x256.Idx) :
    ∃ pc ∈ (kernelRun0_A c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1).2.2.1, y ∈ pc.1.set :=
  View.cover_of_tiledL (kernelRun0_A c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1).2.2.1 S128x256.size (by sl_kernel_rfl) y

/-- What case A leaves in output 6's staging buffer: its pieces read back over junk. -/
def out0_A_6 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : cond0_1 i (arg2.view.readAt (Elt F) (Rect.unit (s := S1) ![0] S1.size inb_S1_S1_0).toLoadRect (harg2.unread x0) (Shape.Idx.first (numel1_S1.symm ▸ Nat.one_pos)))) : Vec F S1024x256 .fp8e4m3 :=
  VO0_6.read (Elt F) (VO0_6.writes (Elt F) VO0_6.junk (kernelRun0_A c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1).2.2.1)

/-- Case A's pieces for output 7 tile its block (8 stores of `S1x1x256`, checked by the kernel's evaluation: Lib/Ring.lean `Piece.tiledL`, linear in the pieces, through a loop's `@[irreducible]` trip theorem too), so they cover it. -/
theorem cover0_A_7 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : cond0_1 i (arg2.view.readAt (Elt F) (Rect.unit (s := S1) ![0] S1.size inb_S1_S1_0).toLoadRect (harg2.unread x0) (Shape.Idx.first (numel1_S1.symm ▸ Nat.one_pos)))) (y : S1x8x256.Idx) :
    ∃ pc ∈ (kernelRun0_A c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1).2.2.2.1, y ∈ pc.1.set :=
  View.cover_of_tiledL (kernelRun0_A c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1).2.2.2.1 S1x1x256.size (by sl_kernel_rfl) y

/-- What case A leaves in output 7's staging buffer: its pieces read back over junk. -/
def out0_A_7 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : cond0_1 i (arg2.view.readAt (Elt F) (Rect.unit (s := S1) ![0] S1.size inb_S1_S1_0).toLoadRect (harg2.unread x0) (Shape.Idx.first (numel1_S1.symm ▸ Nat.one_pos)))) : Vec F S1x8x256 .f32 :=
  VO0_7.read (Elt F) (VO0_7.writes (Elt F) VO0_7.junk (kernelRun0_A c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1).2.2.2.1)

/-- Case A's pieces for scratch `arg16`, which the kernel carries between points, cover it: 64 pieces of `S1024x128` tiling it (Lib/Ring.lean `Piece.tiledL`). -/
theorem scover0_A_2 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : cond0_1 i (arg2.view.readAt (Elt F) (Rect.unit (s := S1) ![0] S1.size inb_S1_S1_0).toLoadRect (harg2.unread x0) (Shape.Idx.first (numel1_S1.symm ▸ Nat.one_pos)))) (y : S1024x8192.Idx) :
    ∃ pc ∈ (kernelRun0_A c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1).2.2.2.2.1, y ∈ pc.1.set :=
  View.cover_of_tiledL (kernelRun0_A c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1).2.2.2.2.1 S1024x128.size (by sl_kernel_rfl) y

/-- What case A leaves in scratch `arg16`: its pieces read back over junk. -/
def sout0_A_2 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : cond0_1 i (arg2.view.readAt (Elt F) (Rect.unit (s := S1) ![0] S1.size inb_S1_S1_0).toLoadRect (harg2.unread x0) (Shape.Idx.first (numel1_S1.symm ▸ Nat.one_pos)))) : Vec F S1024x8192 .bf16 :=
  VS0_2.read (Elt F) (VS0_2.writes (Elt F) VS0_2.junk (kernelRun0_A c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1).2.2.2.2.1)

/-- Case B's pieces for output 4 tile its block (2 stores of `S1024x128`, checked by the kernel's evaluation: Lib/Ring.lean `Piece.tiledL`, linear in the pieces, through a loop's `@[irreducible]` trip theorem too), so they cover it. -/
theorem cover0_B_4 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : ¬cond0_1 i (arg2.view.readAt (Elt F) (Rect.unit (s := S1) ![0] S1.size inb_S1_S1_0).toLoadRect (harg2.unread x0) (Shape.Idx.first (numel1_S1.symm ▸ Nat.one_pos)))) (k0_hw1 : k0_chk1 i (arg2.view.readAt (Elt F) (Rect.unit (s := S1) ![0] S1.size inb_S1_S1_0).toLoadRect (harg2.unread x0) (Shape.Idx.first (numel1_S1.symm ▸ Nat.one_pos))) (arg2.view.readAt (Elt F) (Rect.unit (s := S1) ![0] S1.size inb_S1_S1_0).toLoadRect (harg2.unread x0) (Shape.Idx.first (numel1_S1.symm ▸ Nat.one_pos)))) (y : S1024x256.Idx) :
    ∃ pc ∈ (kernelRun0_B c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1 k0_hw1).1, y ∈ pc.1.set :=
  View.cover_of_tiledL (kernelRun0_B c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1 k0_hw1).1 S1024x128.size (by sl_kernel_rfl) y

/-- What case B leaves in output 4's staging buffer: its pieces read back over junk. -/
def out0_B_4 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : ¬cond0_1 i (arg2.view.readAt (Elt F) (Rect.unit (s := S1) ![0] S1.size inb_S1_S1_0).toLoadRect (harg2.unread x0) (Shape.Idx.first (numel1_S1.symm ▸ Nat.one_pos)))) (k0_hw1 : k0_chk1 i (arg2.view.readAt (Elt F) (Rect.unit (s := S1) ![0] S1.size inb_S1_S1_0).toLoadRect (harg2.unread x0) (Shape.Idx.first (numel1_S1.symm ▸ Nat.one_pos))) (arg2.view.readAt (Elt F) (Rect.unit (s := S1) ![0] S1.size inb_S1_S1_0).toLoadRect (harg2.unread x0) (Shape.Idx.first (numel1_S1.symm ▸ Nat.one_pos)))) : Vec F S1024x256 .fp8e4m3 :=
  VO0_4.read (Elt F) (VO0_4.writes (Elt F) VO0_4.junk (kernelRun0_B c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1 k0_hw1).1)

/-- Case B's pieces for output 5 tile its block (3 stores of `S1024x28`, checked by the kernel's evaluation: Lib/Ring.lean `Piece.tiledL`, linear in the pieces, through a loop's `@[irreducible]` trip theorem too), so they cover it. -/
theorem cover0_B_5 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : ¬cond0_1 i (arg2.view.readAt (Elt F) (Rect.unit (s := S1) ![0] S1.size inb_S1_S1_0).toLoadRect (harg2.unread x0) (Shape.Idx.first (numel1_S1.symm ▸ Nat.one_pos)))) (k0_hw1 : k0_chk1 i (arg2.view.readAt (Elt F) (Rect.unit (s := S1) ![0] S1.size inb_S1_S1_0).toLoadRect (harg2.unread x0) (Shape.Idx.first (numel1_S1.symm ▸ Nat.one_pos))) (arg2.view.readAt (Elt F) (Rect.unit (s := S1) ![0] S1.size inb_S1_S1_0).toLoadRect (harg2.unread x0) (Shape.Idx.first (numel1_S1.symm ▸ Nat.one_pos)))) (y : S1024x28.Idx) :
    ∃ pc ∈ (kernelRun0_B c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1 k0_hw1).2.1, y ∈ pc.1.set :=
  View.cover_of_tiledL (kernelRun0_B c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1 k0_hw1).2.1 S1024x28.size (by sl_kernel_rfl) y

/-- What case B leaves in output 5's staging buffer: its pieces read back over junk. -/
def out0_B_5 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : ¬cond0_1 i (arg2.view.readAt (Elt F) (Rect.unit (s := S1) ![0] S1.size inb_S1_S1_0).toLoadRect (harg2.unread x0) (Shape.Idx.first (numel1_S1.symm ▸ Nat.one_pos)))) (k0_hw1 : k0_chk1 i (arg2.view.readAt (Elt F) (Rect.unit (s := S1) ![0] S1.size inb_S1_S1_0).toLoadRect (harg2.unread x0) (Shape.Idx.first (numel1_S1.symm ▸ Nat.one_pos))) (arg2.view.readAt (Elt F) (Rect.unit (s := S1) ![0] S1.size inb_S1_S1_0).toLoadRect (harg2.unread x0) (Shape.Idx.first (numel1_S1.symm ▸ Nat.one_pos)))) : Vec F S1024x28 .f32 :=
  VO0_5.read (Elt F) (VO0_5.writes (Elt F) VO0_5.junk (kernelRun0_B c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1 k0_hw1).2.1)

/-- Case B's pieces for output 6 tile its block (8 stores of `S128x256`, checked by the kernel's evaluation: Lib/Ring.lean `Piece.tiledL`, linear in the pieces, through a loop's `@[irreducible]` trip theorem too), so they cover it. -/
theorem cover0_B_6 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : ¬cond0_1 i (arg2.view.readAt (Elt F) (Rect.unit (s := S1) ![0] S1.size inb_S1_S1_0).toLoadRect (harg2.unread x0) (Shape.Idx.first (numel1_S1.symm ▸ Nat.one_pos)))) (k0_hw1 : k0_chk1 i (arg2.view.readAt (Elt F) (Rect.unit (s := S1) ![0] S1.size inb_S1_S1_0).toLoadRect (harg2.unread x0) (Shape.Idx.first (numel1_S1.symm ▸ Nat.one_pos))) (arg2.view.readAt (Elt F) (Rect.unit (s := S1) ![0] S1.size inb_S1_S1_0).toLoadRect (harg2.unread x0) (Shape.Idx.first (numel1_S1.symm ▸ Nat.one_pos)))) (y : S1024x256.Idx) :
    ∃ pc ∈ (kernelRun0_B c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1 k0_hw1).2.2.1, y ∈ pc.1.set :=
  View.cover_of_tiledL (kernelRun0_B c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1 k0_hw1).2.2.1 S128x256.size (by sl_kernel_rfl) y

/-- What case B leaves in output 6's staging buffer: its pieces read back over junk. -/
def out0_B_6 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : ¬cond0_1 i (arg2.view.readAt (Elt F) (Rect.unit (s := S1) ![0] S1.size inb_S1_S1_0).toLoadRect (harg2.unread x0) (Shape.Idx.first (numel1_S1.symm ▸ Nat.one_pos)))) (k0_hw1 : k0_chk1 i (arg2.view.readAt (Elt F) (Rect.unit (s := S1) ![0] S1.size inb_S1_S1_0).toLoadRect (harg2.unread x0) (Shape.Idx.first (numel1_S1.symm ▸ Nat.one_pos))) (arg2.view.readAt (Elt F) (Rect.unit (s := S1) ![0] S1.size inb_S1_S1_0).toLoadRect (harg2.unread x0) (Shape.Idx.first (numel1_S1.symm ▸ Nat.one_pos)))) : Vec F S1024x256 .fp8e4m3 :=
  VO0_6.read (Elt F) (VO0_6.writes (Elt F) VO0_6.junk (kernelRun0_B c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1 k0_hw1).2.2.1)

/-- Case B's pieces for output 7 tile its block (8 stores of `S1x1x256`, checked by the kernel's evaluation: Lib/Ring.lean `Piece.tiledL`, linear in the pieces, through a loop's `@[irreducible]` trip theorem too), so they cover it. -/
theorem cover0_B_7 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : ¬cond0_1 i (arg2.view.readAt (Elt F) (Rect.unit (s := S1) ![0] S1.size inb_S1_S1_0).toLoadRect (harg2.unread x0) (Shape.Idx.first (numel1_S1.symm ▸ Nat.one_pos)))) (k0_hw1 : k0_chk1 i (arg2.view.readAt (Elt F) (Rect.unit (s := S1) ![0] S1.size inb_S1_S1_0).toLoadRect (harg2.unread x0) (Shape.Idx.first (numel1_S1.symm ▸ Nat.one_pos))) (arg2.view.readAt (Elt F) (Rect.unit (s := S1) ![0] S1.size inb_S1_S1_0).toLoadRect (harg2.unread x0) (Shape.Idx.first (numel1_S1.symm ▸ Nat.one_pos)))) (y : S1x8x256.Idx) :
    ∃ pc ∈ (kernelRun0_B c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1 k0_hw1).2.2.2.1, y ∈ pc.1.set :=
  View.cover_of_tiledL (kernelRun0_B c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1 k0_hw1).2.2.2.1 S1x1x256.size (by sl_kernel_rfl) y

/-- What case B leaves in output 7's staging buffer: its pieces read back over junk. -/
def out0_B_7 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : ¬cond0_1 i (arg2.view.readAt (Elt F) (Rect.unit (s := S1) ![0] S1.size inb_S1_S1_0).toLoadRect (harg2.unread x0) (Shape.Idx.first (numel1_S1.symm ▸ Nat.one_pos)))) (k0_hw1 : k0_chk1 i (arg2.view.readAt (Elt F) (Rect.unit (s := S1) ![0] S1.size inb_S1_S1_0).toLoadRect (harg2.unread x0) (Shape.Idx.first (numel1_S1.symm ▸ Nat.one_pos))) (arg2.view.readAt (Elt F) (Rect.unit (s := S1) ![0] S1.size inb_S1_S1_0).toLoadRect (harg2.unread x0) (Shape.Idx.first (numel1_S1.symm ▸ Nat.one_pos)))) : Vec F S1x8x256 .f32 :=
  VO0_7.read (Elt F) (VO0_7.writes (Elt F) VO0_7.junk (kernelRun0_B c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1 k0_hw1).2.2.2.1)

/-- Case B's pieces for scratch `arg16`, which the kernel carries between points, cover it: 64 pieces of `S1024x128` tiling it (Lib/Ring.lean `Piece.tiledL`). -/
theorem scover0_B_2 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : ¬cond0_1 i (arg2.view.readAt (Elt F) (Rect.unit (s := S1) ![0] S1.size inb_S1_S1_0).toLoadRect (harg2.unread x0) (Shape.Idx.first (numel1_S1.symm ▸ Nat.one_pos)))) (k0_hw1 : k0_chk1 i (arg2.view.readAt (Elt F) (Rect.unit (s := S1) ![0] S1.size inb_S1_S1_0).toLoadRect (harg2.unread x0) (Shape.Idx.first (numel1_S1.symm ▸ Nat.one_pos))) (arg2.view.readAt (Elt F) (Rect.unit (s := S1) ![0] S1.size inb_S1_S1_0).toLoadRect (harg2.unread x0) (Shape.Idx.first (numel1_S1.symm ▸ Nat.one_pos)))) (y : S1024x8192.Idx) :
    ∃ pc ∈ (kernelRun0_B c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1 k0_hw1).2.2.2.2.1, y ∈ pc.1.set :=
  View.cover_of_tiledL (kernelRun0_B c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1 k0_hw1).2.2.2.2.1 S1024x128.size (by sl_kernel_rfl) y

/-- What case B leaves in scratch `arg16`: its pieces read back over junk. -/
def sout0_B_2 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : cond0_0 i)
    (x0 : Vec F S1 .i32) (x1 : Vec F S8192x256 .fp8e4m3) (x2 : Vec F S8192x256 .fp8e4m3) (x3 : Vec F S64x56 .f32) (fh0 : HbBuf0 (F := F) c hbM0_0) (fh1 : HbBuf0 (F := F) c hbM0_1) (fh2 : HbBuf0 (F := F) c hbM0_2) (fh3 : HbBuf0 (F := F) c hbM0_3) (hc1 : ¬cond0_1 i (arg2.view.readAt (Elt F) (Rect.unit (s := S1) ![0] S1.size inb_S1_S1_0).toLoadRect (harg2.unread x0) (Shape.Idx.first (numel1_S1.symm ▸ Nat.one_pos)))) (k0_hw1 : k0_chk1 i (arg2.view.readAt (Elt F) (Rect.unit (s := S1) ![0] S1.size inb_S1_S1_0).toLoadRect (harg2.unread x0) (Shape.Idx.first (numel1_S1.symm ▸ Nat.one_pos))) (arg2.view.readAt (Elt F) (Rect.unit (s := S1) ![0] S1.size inb_S1_S1_0).toLoadRect (harg2.unread x0) (Shape.Idx.first (numel1_S1.symm ▸ Nat.one_pos)))) : Vec F S1024x8192 .bf16 :=
  VS0_2.read (Elt F) (VS0_2.writes (Elt F) VS0_2.junk (kernelRun0_B c i arg2 harg2 arg7 harg7 arg8 harg8 arg9 harg9 arg10 harg10 arg11 harg11 arg12 harg12 arg13 harg13 arg14 harg14 arg15 harg15 arg16 harg16 arg17 harg17 hc0 x0 x1 x2 x3 fh0 fh1 fh2 fh3 hc1 k0_hw1).2.2.2.2.1)

/-- Case C's pieces for output 4 tile its block (2 stores of `S1024x128`, checked by the kernel's evaluation: Lib/Ring.lean `Piece.tiledL`, linear in the pieces, through a loop's `@[irreducible]` trip theorem too), so they cover it. -/
theorem cover0_C_4 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : ¬cond0_0 i)
    (x0 : Vec F S1 .i32) (x1 : Vec F S8192x256 .fp8e4m3) (x2 : Vec F S8192x256 .fp8e4m3) (x3 : Vec F S64x56 .f32) (xo5 : Vec F S1024x28 .f32) (xs2 : Vec F S1024x8192 .bf16) (fh0 : HbBuf0 (F := F) c hbM0_0) (fh1 : HbBuf0 (F := F) c hbM0_1) (fh2 : HbBuf0 (F := F) c hbM0_2) (fh3 : HbBuf0 (F := F) c hbM0_3) (y : S1024x256.Idx) :
    ∃ pc ∈ (kernelRun0_C c i arg2 harg2 arg7 harg7 arg8 harg8 arg9 harg9 arg10 harg10 arg11 harg11 arg12 harg12 arg13 harg13 arg14 harg14 arg15 harg15 arg16 harg16 arg17 harg17 hc0 x0 x1 x2 x3 xo5 xs2 fh0 fh1 fh2 fh3).1, y ∈ pc.1.set :=
  View.cover_of_tiledL (kernelRun0_C c i arg2 harg2 arg7 harg7 arg8 harg8 arg9 harg9 arg10 harg10 arg11 harg11 arg12 harg12 arg13 harg13 arg14 harg14 arg15 harg15 arg16 harg16 arg17 harg17 hc0 x0 x1 x2 x3 xo5 xs2 fh0 fh1 fh2 fh3).1 S1024x128.size (by sl_kernel_rfl) y

/-- What case C leaves in output 4's staging buffer: its pieces read back over junk. -/
def out0_C_4 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : ¬cond0_0 i)
    (x0 : Vec F S1 .i32) (x1 : Vec F S8192x256 .fp8e4m3) (x2 : Vec F S8192x256 .fp8e4m3) (x3 : Vec F S64x56 .f32) (xo5 : Vec F S1024x28 .f32) (xs2 : Vec F S1024x8192 .bf16) (fh0 : HbBuf0 (F := F) c hbM0_0) (fh1 : HbBuf0 (F := F) c hbM0_1) (fh2 : HbBuf0 (F := F) c hbM0_2) (fh3 : HbBuf0 (F := F) c hbM0_3) : Vec F S1024x256 .fp8e4m3 :=
  VO0_4.read (Elt F) (VO0_4.writes (Elt F) VO0_4.junk (kernelRun0_C c i arg2 harg2 arg7 harg7 arg8 harg8 arg9 harg9 arg10 harg10 arg11 harg11 arg12 harg12 arg13 harg13 arg14 harg14 arg15 harg15 arg16 harg16 arg17 harg17 hc0 x0 x1 x2 x3 xo5 xs2 fh0 fh1 fh2 fh3).1)

/-- Case C's pieces for output 5 tile its block (2 stores of `S1024x28`, checked by the kernel's evaluation: Lib/Ring.lean `Piece.tiledL`, linear in the pieces, through a loop's `@[irreducible]` trip theorem too), so they cover it. -/
theorem cover0_C_5 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : ¬cond0_0 i)
    (x0 : Vec F S1 .i32) (x1 : Vec F S8192x256 .fp8e4m3) (x2 : Vec F S8192x256 .fp8e4m3) (x3 : Vec F S64x56 .f32) (xo5 : Vec F S1024x28 .f32) (xs2 : Vec F S1024x8192 .bf16) (fh0 : HbBuf0 (F := F) c hbM0_0) (fh1 : HbBuf0 (F := F) c hbM0_1) (fh2 : HbBuf0 (F := F) c hbM0_2) (fh3 : HbBuf0 (F := F) c hbM0_3) (y : S1024x28.Idx) :
    ∃ pc ∈ (kernelRun0_C c i arg2 harg2 arg7 harg7 arg8 harg8 arg9 harg9 arg10 harg10 arg11 harg11 arg12 harg12 arg13 harg13 arg14 harg14 arg15 harg15 arg16 harg16 arg17 harg17 hc0 x0 x1 x2 x3 xo5 xs2 fh0 fh1 fh2 fh3).2.1, y ∈ pc.1.set :=
  View.cover_of_tiledL (kernelRun0_C c i arg2 harg2 arg7 harg7 arg8 harg8 arg9 harg9 arg10 harg10 arg11 harg11 arg12 harg12 arg13 harg13 arg14 harg14 arg15 harg15 arg16 harg16 arg17 harg17 hc0 x0 x1 x2 x3 xo5 xs2 fh0 fh1 fh2 fh3).2.1 S1024x28.size (by sl_kernel_rfl) y

/-- What case C leaves in output 5's staging buffer: its pieces read back over junk. -/
def out0_C_5 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : ¬cond0_0 i)
    (x0 : Vec F S1 .i32) (x1 : Vec F S8192x256 .fp8e4m3) (x2 : Vec F S8192x256 .fp8e4m3) (x3 : Vec F S64x56 .f32) (xo5 : Vec F S1024x28 .f32) (xs2 : Vec F S1024x8192 .bf16) (fh0 : HbBuf0 (F := F) c hbM0_0) (fh1 : HbBuf0 (F := F) c hbM0_1) (fh2 : HbBuf0 (F := F) c hbM0_2) (fh3 : HbBuf0 (F := F) c hbM0_3) : Vec F S1024x28 .f32 :=
  VO0_5.read (Elt F) (VO0_5.writes (Elt F) VO0_5.junk (kernelRun0_C c i arg2 harg2 arg7 harg7 arg8 harg8 arg9 harg9 arg10 harg10 arg11 harg11 arg12 harg12 arg13 harg13 arg14 harg14 arg15 harg15 arg16 harg16 arg17 harg17 hc0 x0 x1 x2 x3 xo5 xs2 fh0 fh1 fh2 fh3).2.1)

/-- Case C's pieces for output 6 tile its block (8 stores of `S128x256`, checked by the kernel's evaluation: Lib/Ring.lean `Piece.tiledL`, linear in the pieces, through a loop's `@[irreducible]` trip theorem too), so they cover it. -/
theorem cover0_C_6 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : ¬cond0_0 i)
    (x0 : Vec F S1 .i32) (x1 : Vec F S8192x256 .fp8e4m3) (x2 : Vec F S8192x256 .fp8e4m3) (x3 : Vec F S64x56 .f32) (xo5 : Vec F S1024x28 .f32) (xs2 : Vec F S1024x8192 .bf16) (fh0 : HbBuf0 (F := F) c hbM0_0) (fh1 : HbBuf0 (F := F) c hbM0_1) (fh2 : HbBuf0 (F := F) c hbM0_2) (fh3 : HbBuf0 (F := F) c hbM0_3) (y : S1024x256.Idx) :
    ∃ pc ∈ (kernelRun0_C c i arg2 harg2 arg7 harg7 arg8 harg8 arg9 harg9 arg10 harg10 arg11 harg11 arg12 harg12 arg13 harg13 arg14 harg14 arg15 harg15 arg16 harg16 arg17 harg17 hc0 x0 x1 x2 x3 xo5 xs2 fh0 fh1 fh2 fh3).2.2.1, y ∈ pc.1.set :=
  View.cover_of_tiledL (kernelRun0_C c i arg2 harg2 arg7 harg7 arg8 harg8 arg9 harg9 arg10 harg10 arg11 harg11 arg12 harg12 arg13 harg13 arg14 harg14 arg15 harg15 arg16 harg16 arg17 harg17 hc0 x0 x1 x2 x3 xo5 xs2 fh0 fh1 fh2 fh3).2.2.1 S128x256.size (by sl_kernel_rfl) y

/-- What case C leaves in output 6's staging buffer: its pieces read back over junk. -/
def out0_C_6 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : ¬cond0_0 i)
    (x0 : Vec F S1 .i32) (x1 : Vec F S8192x256 .fp8e4m3) (x2 : Vec F S8192x256 .fp8e4m3) (x3 : Vec F S64x56 .f32) (xo5 : Vec F S1024x28 .f32) (xs2 : Vec F S1024x8192 .bf16) (fh0 : HbBuf0 (F := F) c hbM0_0) (fh1 : HbBuf0 (F := F) c hbM0_1) (fh2 : HbBuf0 (F := F) c hbM0_2) (fh3 : HbBuf0 (F := F) c hbM0_3) : Vec F S1024x256 .fp8e4m3 :=
  VO0_6.read (Elt F) (VO0_6.writes (Elt F) VO0_6.junk (kernelRun0_C c i arg2 harg2 arg7 harg7 arg8 harg8 arg9 harg9 arg10 harg10 arg11 harg11 arg12 harg12 arg13 harg13 arg14 harg14 arg15 harg15 arg16 harg16 arg17 harg17 hc0 x0 x1 x2 x3 xo5 xs2 fh0 fh1 fh2 fh3).2.2.1)

/-- Case C's pieces for output 7 tile its block (8 stores of `S1x1x256`, checked by the kernel's evaluation: Lib/Ring.lean `Piece.tiledL`, linear in the pieces, through a loop's `@[irreducible]` trip theorem too), so they cover it. -/
theorem cover0_C_7 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : ¬cond0_0 i)
    (x0 : Vec F S1 .i32) (x1 : Vec F S8192x256 .fp8e4m3) (x2 : Vec F S8192x256 .fp8e4m3) (x3 : Vec F S64x56 .f32) (xo5 : Vec F S1024x28 .f32) (xs2 : Vec F S1024x8192 .bf16) (fh0 : HbBuf0 (F := F) c hbM0_0) (fh1 : HbBuf0 (F := F) c hbM0_1) (fh2 : HbBuf0 (F := F) c hbM0_2) (fh3 : HbBuf0 (F := F) c hbM0_3) (y : S1x8x256.Idx) :
    ∃ pc ∈ (kernelRun0_C c i arg2 harg2 arg7 harg7 arg8 harg8 arg9 harg9 arg10 harg10 arg11 harg11 arg12 harg12 arg13 harg13 arg14 harg14 arg15 harg15 arg16 harg16 arg17 harg17 hc0 x0 x1 x2 x3 xo5 xs2 fh0 fh1 fh2 fh3).2.2.2.1, y ∈ pc.1.set :=
  View.cover_of_tiledL (kernelRun0_C c i arg2 harg2 arg7 harg7 arg8 harg8 arg9 harg9 arg10 harg10 arg11 harg11 arg12 harg12 arg13 harg13 arg14 harg14 arg15 harg15 arg16 harg16 arg17 harg17 hc0 x0 x1 x2 x3 xo5 xs2 fh0 fh1 fh2 fh3).2.2.2.1 S1x1x256.size (by sl_kernel_rfl) y

/-- What case C leaves in output 7's staging buffer: its pieces read back over junk. -/
def out0_C_7 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : ¬cond0_0 i)
    (x0 : Vec F S1 .i32) (x1 : Vec F S8192x256 .fp8e4m3) (x2 : Vec F S8192x256 .fp8e4m3) (x3 : Vec F S64x56 .f32) (xo5 : Vec F S1024x28 .f32) (xs2 : Vec F S1024x8192 .bf16) (fh0 : HbBuf0 (F := F) c hbM0_0) (fh1 : HbBuf0 (F := F) c hbM0_1) (fh2 : HbBuf0 (F := F) c hbM0_2) (fh3 : HbBuf0 (F := F) c hbM0_3) : Vec F S1x8x256 .f32 :=
  VO0_7.read (Elt F) (VO0_7.writes (Elt F) VO0_7.junk (kernelRun0_C c i arg2 harg2 arg7 harg7 arg8 harg8 arg9 harg9 arg10 harg10 arg11 harg11 arg12 harg12 arg13 harg13 arg14 harg14 arg15 harg15 arg16 harg16 arg17 harg17 hc0 x0 x1 x2 x3 xo5 xs2 fh0 fh1 fh2 fh3).2.2.2.1)

/-- Case C stores nothing into scratch `arg16`: it holds what the point before left. -/
def sout0_C_2 (c : Dev nD) (i : grid0.Coords) (arg2 : Memref sig .tc .smem S1 .i32) (harg2 : arg2.IsWhole) (arg7 : Memref sig .tc .vmem S8192x256 .fp8e4m3) (harg7 : arg7.IsWhole) (arg8 : Memref sig .tc .vmem S8192x256 .fp8e4m3) (harg8 : arg8.IsWhole) (arg9 : Memref sig .tc .smem S64x56 .f32) (harg9 : arg9.IsWhole) (arg10 : Memref sig .tc .vmem S1024x256 .fp8e4m3) (harg10 : arg10.IsWhole) (arg11 : Memref sig .tc .vmem S1024x28 .f32) (harg11 : arg11.IsWhole) (arg12 : Memref sig .tc .vmem S1024x256 .fp8e4m3) (harg12 : arg12.IsWhole) (arg13 : Memref sig .tc .vmem S1x8x256 .f32) (harg13 : arg13.IsWhole) (arg14 : Memref sig .tc .vmem S1024x8192 .fp8e4m3) (harg14 : arg14.IsWhole) (arg15 : Memref sig .tc .vmem S1024x64 .f32) (harg15 : arg15.IsWhole) (arg16 : Memref sig .tc .vmem S1024x8192 .bf16) (harg16 : arg16.IsWhole) (arg17 : Memref sig .tc .vmem S8192x512 .bf16) (harg17 : arg17.IsWhole) (hc0 : ¬cond0_0 i)
    (x0 : Vec F S1 .i32) (x1 : Vec F S8192x256 .fp8e4m3) (x2 : Vec F S8192x256 .fp8e4m3) (x3 : Vec F S64x56 .f32) (xo5 : Vec F S1024x28 .f32) (xs2 : Vec F S1024x8192 .bf16) (fh0 : HbBuf0 (F := F) c hbM0_0) (fh1 : HbBuf0 (F := F) c hbM0_1) (fh2 : HbBuf0 (F := F) c hbM0_2) (fh3 : HbBuf0 (F := F) c hbM0_3) : Vec F S1024x8192 .bf16 := xs2

/-! ## What the outputs hold after each point -/

/-- THE ACCUMULATION. What the outputs' staging buffers and the scratch the kernel carries between points hold after the body at position `n` (a tuple: the outputs in window order, then the scratch):
    the case the closed forms and the word conditions select at `n`, run at the point's memrefs and input blocks, an output it reads before covering
    at what this leaves at `n - 1` (its buffer is not written back between: `before0_W_κ`). An assignment of the conditions no point meets is no case (`False.elim`). -/
def outsAt0 (hH : Hyps m) (c : Dev nD) : (n : ℕ) → n < cfg0.N → Vec F S1024x256 .fp8e4m3 × Vec F S1024x28 .f32 × Vec F S1024x256 .fp8e4m3 × Vec F S1x8x256 .f32 × Vec F S1024x8192 .bf16
  | 0, hn => if h1 : cond0_1 (grid0.coords ⟨0, hn⟩) ((ms0_0 ⟨0, hn⟩).view.readAt (Elt F) (Rect.unit (s := S1) ![0] S1.size inb_S1_S1_0).toLoadRect ((hs0_0 ⟨0, hn⟩).unread (iblk m c 0 ⟨0, hn⟩)) (Shape.Idx.first (numel1_S1.symm ▸ Nat.one_pos))) then
      (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (V m c main_arg1) (V m c main_arg2) (V m c main_arg3) (V m c main_arg4) h1, out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (V m c main_arg1) (V m c main_arg2) (V m c main_arg3) (V m c main_arg4) h1, out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (V m c main_arg1) (V m c main_arg2) (V m c main_arg3) (V m c main_arg4) h1, out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (V m c main_arg1) (V m c main_arg2) (V m c main_arg3) (V m c main_arg4) h1, sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (V m c main_arg1) (V m c main_arg2) (V m c main_arg3) (V m c main_arg4) h1)
    else
      (out0_B_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (V m c main_arg1) (V m c main_arg2) (V m c main_arg3) (V m c main_arg4) h1 ((Hyps.c0 hH c ⟨0, hn⟩) ((hcond0_0 ⟨0, hn⟩).mpr (Nat.zero_mod _)) h1), out0_B_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (V m c main_arg1) (V m c main_arg2) (V m c main_arg3) (V m c main_arg4) h1 ((Hyps.c0 hH c ⟨0, hn⟩) ((hcond0_0 ⟨0, hn⟩).mpr (Nat.zero_mod _)) h1), out0_B_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (V m c main_arg1) (V m c main_arg2) (V m c main_arg3) (V m c main_arg4) h1 ((Hyps.c0 hH c ⟨0, hn⟩) ((hcond0_0 ⟨0, hn⟩).mpr (Nat.zero_mod _)) h1), out0_B_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (V m c main_arg1) (V m c main_arg2) (V m c main_arg3) (V m c main_arg4) h1 ((Hyps.c0 hH c ⟨0, hn⟩) ((hcond0_0 ⟨0, hn⟩).mpr (Nat.zero_mod _)) h1), sout0_B_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (V m c main_arg1) (V m c main_arg2) (V m c main_arg3) (V m c main_arg4) h1 ((Hyps.c0 hH c ⟨0, hn⟩) ((hcond0_0 ⟨0, hn⟩).mpr (Nat.zero_mod _)) h1))
  | n + 1, hn =>
    if h0 : (n + 1) % 14 = 0 then
      if h1 : cond0_1 (grid0.coords ⟨n + 1, hn⟩) ((ms0_0 ⟨n + 1, hn⟩).view.readAt (Elt F) (Rect.unit (s := S1) ![0] S1.size inb_S1_S1_0).toLoadRect ((hs0_0 ⟨n + 1, hn⟩).unread (iblk m c 0 ⟨n + 1, hn⟩)) (Shape.Idx.first (numel1_S1.symm ▸ Nat.one_pos))) then
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (V m c main_arg1) (V m c main_arg2) (V m c main_arg3) (V m c main_arg4) h1, out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (V m c main_arg1) (V m c main_arg2) (V m c main_arg3) (V m c main_arg4) h1, out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (V m c main_arg1) (V m c main_arg2) (V m c main_arg3) (V m c main_arg4) h1, out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (V m c main_arg1) (V m c main_arg2) (V m c main_arg3) (V m c main_arg4) h1, sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (V m c main_arg1) (V m c main_arg2) (V m c main_arg3) (V m c main_arg4) h1)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (V m c main_arg1) (V m c main_arg2) (V m c main_arg3) (V m c main_arg4) h1 ((Hyps.c0 hH c ⟨n + 1, hn⟩) ((hcond0_0 ⟨n + 1, hn⟩).mpr h0) h1), out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (V m c main_arg1) (V m c main_arg2) (V m c main_arg3) (V m c main_arg4) h1 ((Hyps.c0 hH c ⟨n + 1, hn⟩) ((hcond0_0 ⟨n + 1, hn⟩).mpr h0) h1), out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (V m c main_arg1) (V m c main_arg2) (V m c main_arg3) (V m c main_arg4) h1 ((Hyps.c0 hH c ⟨n + 1, hn⟩) ((hcond0_0 ⟨n + 1, hn⟩).mpr h0) h1), out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (V m c main_arg1) (V m c main_arg2) (V m c main_arg3) (V m c main_arg4) h1 ((Hyps.c0 hH c ⟨n + 1, hn⟩) ((hcond0_0 ⟨n + 1, hn⟩).mpr h0) h1), sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (V m c main_arg1) (V m c main_arg2) (V m c main_arg3) (V m c main_arg4) h1 ((Hyps.c0 hH c ⟨n + 1, hn⟩) ((hcond0_0 ⟨n + 1, hn⟩).mpr h0) h1))
    else
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 hH c n (Nat.lt_of_succ_lt hn)).2.1 (outsAt0 hH c n (Nat.lt_of_succ_lt hn)).2.2.2.2 (V m c main_arg1) (V m c main_arg2) (V m c main_arg3) (V m c main_arg4), out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 hH c n (Nat.lt_of_succ_lt hn)).2.1 (outsAt0 hH c n (Nat.lt_of_succ_lt hn)).2.2.2.2 (V m c main_arg1) (V m c main_arg2) (V m c main_arg3) (V m c main_arg4), out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 hH c n (Nat.lt_of_succ_lt hn)).2.1 (outsAt0 hH c n (Nat.lt_of_succ_lt hn)).2.2.2.2 (V m c main_arg1) (V m c main_arg2) (V m c main_arg3) (V m c main_arg4), out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 hH c n (Nat.lt_of_succ_lt hn)).2.1 (outsAt0 hH c n (Nat.lt_of_succ_lt hn)).2.2.2.2 (V m c main_arg1) (V m c main_arg2) (V m c main_arg3) (V m c main_arg4), sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 hH c n (Nat.lt_of_succ_lt hn)).2.1 (outsAt0 hH c n (Nat.lt_of_succ_lt hn)).2.2.2.2 (V m c main_arg1) (V m c main_arg2) (V m c main_arg3) (V m c main_arg4))

/-- `outsAt0` at a point of case A: that case's contents. -/
theorem outsAt0_A (hH : Hyps m) (c : Dev nD) (t : Fin cfg0.N) (h0 : t.val % 14 = 0) (h1 : cond0_1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos)))) :
    outsAt0 m hH c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (V m c main_arg1) (V m c main_arg2) (V m c main_arg3) (V m c main_arg4) h1, out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (V m c main_arg1) (V m c main_arg2) (V m c main_arg3) (V m c main_arg4) h1, out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (V m c main_arg1) (V m c main_arg2) (V m c main_arg3) (V m c main_arg4) h1, out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (V m c main_arg1) (V m c main_arg2) (V m c main_arg3) (V m c main_arg4) h1, sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (V m c main_arg1) (V m c main_arg2) (V m c main_arg3) (V m c main_arg4) h1) := by
  obtain ⟨n, hn⟩ := t
  cases n with
  | zero => exact (dif_pos h1).trans rfl
  | succ n => exact (dif_pos h0).trans ((dif_pos h1).trans rfl)

/-- `outsAt0` at a point of case B: that case's contents. -/
theorem outsAt0_B (hH : Hyps m) (c : Dev nD) (t : Fin cfg0.N) (h0 : t.val % 14 = 0) (h1 : ¬cond0_1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos)))) :
    outsAt0 m hH c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (V m c main_arg1) (V m c main_arg2) (V m c main_arg3) (V m c main_arg4) h1 ((Hyps.c0 hH c t) ((hcond0_0 t).mpr h0) h1), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (V m c main_arg1) (V m c main_arg2) (V m c main_arg3) (V m c main_arg4) h1 ((Hyps.c0 hH c t) ((hcond0_0 t).mpr h0) h1), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (V m c main_arg1) (V m c main_arg2) (V m c main_arg3) (V m c main_arg4) h1 ((Hyps.c0 hH c t) ((hcond0_0 t).mpr h0) h1), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (V m c main_arg1) (V m c main_arg2) (V m c main_arg3) (V m c main_arg4) h1 ((Hyps.c0 hH c t) ((hcond0_0 t).mpr h0) h1), sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (V m c main_arg1) (V m c main_arg2) (V m c main_arg3) (V m c main_arg4) h1 ((Hyps.c0 hH c t) ((hcond0_0 t).mpr h0) h1)) := by
  obtain ⟨n, hn⟩ := t
  cases n with
  | zero => exact (dif_neg h1).trans rfl
  | succ n => exact (dif_pos h0).trans ((dif_neg h1).trans rfl)

/-- `outsAt0` at a point of case C: that case's contents, over what the point before left. -/
theorem outsAt0_C (hH : Hyps m) (c : Dev nD) (t : Fin cfg0.N) (h0 : ¬t.val % 14 = 0) :
    outsAt0 m hH c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (outsAt0 m hH c (t.val - 1) (Nat.lt_of_le_of_lt (Nat.sub_le _ _) t.isLt)).2.1 (outsAt0 m hH c (t.val - 1) (Nat.lt_of_le_of_lt (Nat.sub_le _ _) t.isLt)).2.2.2.2 (V m c main_arg1) (V m c main_arg2) (V m c main_arg3) (V m c main_arg4), out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (outsAt0 m hH c (t.val - 1) (Nat.lt_of_le_of_lt (Nat.sub_le _ _) t.isLt)).2.1 (outsAt0 m hH c (t.val - 1) (Nat.lt_of_le_of_lt (Nat.sub_le _ _) t.isLt)).2.2.2.2 (V m c main_arg1) (V m c main_arg2) (V m c main_arg3) (V m c main_arg4), out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (outsAt0 m hH c (t.val - 1) (Nat.lt_of_le_of_lt (Nat.sub_le _ _) t.isLt)).2.1 (outsAt0 m hH c (t.val - 1) (Nat.lt_of_le_of_lt (Nat.sub_le _ _) t.isLt)).2.2.2.2 (V m c main_arg1) (V m c main_arg2) (V m c main_arg3) (V m c main_arg4), out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (outsAt0 m hH c (t.val - 1) (Nat.lt_of_le_of_lt (Nat.sub_le _ _) t.isLt)).2.1 (outsAt0 m hH c (t.val - 1) (Nat.lt_of_le_of_lt (Nat.sub_le _ _) t.isLt)).2.2.2.2 (V m c main_arg1) (V m c main_arg2) (V m c main_arg3) (V m c main_arg4), sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (outsAt0 m hH c (t.val - 1) (Nat.lt_of_le_of_lt (Nat.sub_le _ _) t.isLt)).2.1 (outsAt0 m hH c (t.val - 1) (Nat.lt_of_le_of_lt (Nat.sub_le _ _) t.isLt)).2.2.2.2 (V m c main_arg1) (V m c main_arg2) (V m c main_arg3) (V m c main_arg4)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (hH : Hyps m) (c : Dev nD) : (n : ℕ) → n ≤ cfg0.N → sProp 𝕄
  | 0, _ => Pipeline.ΦD osem0 spec0 H0 (V m) c
  | n + 1, hn => iprop(iprop((∃ d, owns (c : Thread nD τ) scM0_0 fullShare d) ∗ (∃ d, owns (c : Thread nD τ) scM0_1 fullShare d) ∗ owns (c : Thread nD τ) scM0_2 fullShare ((outsAt0 m hH c n hn).2.2.2.2) ∗ (∃ d, owns (c : Thread nD τ) scM0_3 fullShare d)) ∗ (∃ r, prngReg c r) ∗ iprop(semVal ((c : Thread nD τ), SemLoc.dma 14) 0 ∗ semVal ((c : Thread nD τ), SemLoc.dma 15) 0) ∗ iprop(hbPt0 c hbM0_0 (V m c main_arg1) ∗ hbPt0 c hbM0_1 (V m c main_arg2) ∗ hbPt0 c hbM0_2 (V m c main_arg3) ∗ hbPt0 c hbM0_3 (V m c main_arg4)))

theorem PhiS_zero (hH : Hyps m) (c : Dev nD) (n : ℕ) (h : n ≤ cfg0.N) (hz : n = 0) : PhiS m hH c n h = Pipeline.ΦD osem0 spec0 H0 (V m) c := by
  subst hz; rfl

/-- After point `n` (before point `n + 1`): the carried scratch at that point's contents. -/
theorem PhiS_succ (hH : Hyps m) (c : Dev nD) (n : ℕ) (hn : n < cfg0.N) :
    PhiS m hH c (n + 1) hn = iprop(iprop((∃ d, owns (c : Thread nD τ) scM0_0 fullShare d) ∗ (∃ d, owns (c : Thread nD τ) scM0_1 fullShare d) ∗ owns (c : Thread nD τ) scM0_2 fullShare ((outsAt0 m hH c n hn).2.2.2.2) ∗ (∃ d, owns (c : Thread nD τ) scM0_3 fullShare d)) ∗ (∃ r, prngReg c r) ∗ iprop(semVal ((c : Thread nD τ), SemLoc.dma 14) 0 ∗ semVal ((c : Thread nD τ), SemLoc.dma 15) 0) ∗ iprop(hbPt0 c hbM0_0 (V m c main_arg1) ∗ hbPt0 c hbM0_1 (V m c main_arg2) ∗ hbPt0 c hbM0_2 (V m c main_arg3) ∗ hbPt0 c hbM0_3 (V m c main_arg4))) := rfl

/-- Before a point that is not the first: the carried scratch at what the point before left. -/
theorem PhiS_pos (hH : Hyps m) (c : Dev nD) (n : ℕ) (h : n ≤ cfg0.N) (hz : n ≠ 0) :
    PhiS m hH c n h = iprop(iprop((∃ d, owns (c : Thread nD τ) scM0_0 fullShare d) ∗ (∃ d, owns (c : Thread nD τ) scM0_1 fullShare d) ∗ owns (c : Thread nD τ) scM0_2 fullShare ((outsAt0 m hH c (n - 1) (by omega)).2.2.2.2) ∗ (∃ d, owns (c : Thread nD τ) scM0_3 fullShare d)) ∗ (∃ r, prngReg c r) ∗ iprop(semVal ((c : Thread nD τ), SemLoc.dma 14) 0 ∗ semVal ((c : Thread nD τ), SemLoc.dma 15) 0) ∗ iprop(hbPt0 c hbM0_0 (V m c main_arg1) ∗ hbPt0 c hbM0_1 (V m c main_arg2) ∗ hbPt0 c hbM0_2 (V m c main_arg3) ∗ hbPt0 c hbM0_3 (V m c main_arg4))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; each input's share of its array
    (`Pipeline.shareOf`: the full share of an array several windows stage, dealt among them). -/
def dats (hH : Hyps m) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m hH c t.val t.isLt).1
    | ⟨5, _⟩ => (outsAt0 m hH c t.val t.isLt).2.1
    | ⟨6, _⟩ => (outsAt0 m hH c t.val t.isLt).2.2.1
    | ⟨7, _⟩ => (outsAt0 m hH c t.val t.isLt).2.2.2.1
  Φ t := PhiS m hH c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hH : Hyps m) (c : Dev nD) (w : Fin cfg0.W) : (dats m hH 0 c).A w = V m c (Pipeline.arrRef spec0 w) := by
  dsimp only [dats]

/-- The invariant at a point's start (the proof data at `t.castSucc`), restated at `t.val`. -/
theorem PhiS_castSucc (hH : Hyps m) (c : Dev nD) (t : Fin cfg0.N) :
    (dats m hH 0 c).Φ t.castSucc = PhiS m hH c t.val (Nat.le_of_lt t.isLt) := by
  dsimp only [dats]; exact Pipeline.Dat.Φ_castSucc (PhiS m hH c) t

/-- What the body leaves, window by window (the proof data's `match` reduced by `dsimp`). -/
theorem after0_0 (hH : Hyps m) (c : Dev nD) (t : Fin cfg0.N) : (dats m hH 0 c).after 0 t = iblk m c 0 t := by dsimp only [dats]
theorem after0_1 (hH : Hyps m) (c : Dev nD) (t : Fin cfg0.N) : (dats m hH 0 c).after 1 t = iblk m c 1 t := by dsimp only [dats]
theorem after0_2 (hH : Hyps m) (c : Dev nD) (t : Fin cfg0.N) : (dats m hH 0 c).after 2 t = iblk m c 2 t := by dsimp only [dats]
theorem after0_3 (hH : Hyps m) (c : Dev nD) (t : Fin cfg0.N) : (dats m hH 0 c).after 3 t = iblk m c 3 t := by dsimp only [dats]
theorem after0_4 (hH : Hyps m) (c : Dev nD) (t : Fin cfg0.N) : (dats m hH 0 c).after 4 t = (outsAt0 m hH c t.val t.isLt).1 := by dsimp only [dats]
theorem after0_5 (hH : Hyps m) (c : Dev nD) (t : Fin cfg0.N) : (dats m hH 0 c).after 5 t = (outsAt0 m hH c t.val t.isLt).2.1 := by dsimp only [dats]
theorem after0_6 (hH : Hyps m) (c : Dev nD) (t : Fin cfg0.N) : (dats m hH 0 c).after 6 t = (outsAt0 m hH c t.val t.isLt).2.2.1 := by dsimp only [dats]
theorem after0_7 (hH : Hyps m) (c : Dev nD) (t : Fin cfg0.N) : (dats m hH 0 c).after 7 t = (outsAt0 m hH c t.val t.isLt).2.2.2.1 := by dsimp only [dats]

/-- Each input's current staging buffer holds its block at every point, fetched there or not (`beforeK_W_of`). -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d
theorem before0_2 (hH : Hyps m) (c : Dev nD) (t : Fin cfg0.N) (d) : (dats m hH 0 c).before 2 t d = iblk m c 2 t :=
  before0_2_of m (dats m hH 0 c) (A_eq m hH c 2) (after0_2 m hH c) t d
theorem before0_3 (hH : Hyps m) (c : Dev nD) (t : Fin cfg0.N) (d) : (dats m hH 0 c).before 3 t d = iblk m c 3 t :=
  before0_3_of m (dats m hH 0 c) (A_eq m hH c 3) (after0_3 m hH c) t d
/-- At a point of case C output 5's current staging buffer holds what the body left at the point before: the point is
    not the first, the buffer was not written back between (`flush0_5`), the window is live and uncut (Lib/Pipeline/Frame.lean
    `Dat.before_out_kept`). -/
theorem before0_5_C (hH : Hyps m) (c : Dev nD) (t : Fin cfg0.N) (h0 : ¬t.val % 14 = 0) (d) :
    (dats m hH 0 c).before 5 t d = (outsAt0 m hH c (t.val - 1) (Nat.lt_of_le_of_lt (Nat.sub_le _ _) t.isLt)).2.1 := by
  have hN : t.val < 112 := lt_of_lt_of_eq t.isLt (show cfg0.N = 112 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare ((dats m hH 0 c).before 6 t d))
    ∗ (∃ d, owns (c : Thread nD τ) (ms0_7 t) fullShare ((dats m hH 0 c).before 7 t d)))

/-- and what it returns. -/
def bodyPost (hH : Hyps m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t)
    ∗ owns (c : Thread nD τ) (ms0_6 t) fullShare ((dats m hH 0 c).after 6 t)
    ∗ owns (c : Thread nD τ) (ms0_7 t) fullShare ((dats m hH 0 c).after 7 t))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3]
  rw [show (dats m hH 0 c).Φ t.succ = PhiS m hH c (t.val + 1) t.isLt from rfl, PhiS_succ,
    after0_0, after0_1, after0_2, after0_3, after0_4, after0_5, after0_6, after0_7]
  unfold Dat.owesAt Pipeline.owesWithin
  rw [show (dats m hH 0 c).owed t.castSucc = 0 from rfl, show (dats m hH 0 c).owed t.succ = 0 from rfl]
  have hN : t.val < 112 := lt_of_lt_of_eq t.isLt (show cfg0.N = 112 from N_0)
  by_cases h0 : t.val % 14 = 0
  · by_cases h1 : cond0_1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos)))
    · by_cases hz : t.val = 0
      · rw [PhiS_castSucc m hH c t, PhiS_zero m hH c _ _ hz, PhiD0_eq]
        rw [outsAt0_A m hH c t h0 h1]
        unfold out0_A_4 out0_A_5 out0_A_6 out0_A_7 sout0_A_2; (try dsimp only)
        iintro ⟨⟨⟨HS0, HS1, HS2, HS3⟩, Hg, ⟨Hq0, Hq1⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (V m c main_arg1) (V m c main_arg2) (V m c main_arg3) (V m c main_arg4) h1).2.2.2.2.2 W _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        isplitl [Hq0]; · iexact Hq0
        isplitl [Hq1]; · iexact Hq1
        isplitl [Hh0]; · iexact Hh0
        isplitl [Hh1]; · iexact Hh1
        isplitl [Hh2]; · iexact Hh2
        isplitl [Hh3]; · iexact Hh3
        isplitl [HW]; · iexact HW
        iintro ⟨H0, H1, H2, H3, ⟨%e4, H4⟩, ⟨%e5, H5⟩, ⟨%e6, H6⟩, ⟨%e7, H7⟩, HS0, HS1, ⟨%es2, HS2⟩, HS3, Hq0, Hq1, Hh0, Hh1, Hh2, Hh3, ⟨%W', HW'⟩⟩
        isplitl [HS0 HS1 HS2 HS3 Hg Hq0 Hq1 Hh0 Hh1 Hh2 Hh3]
        · isplitl [HS0 HS1 HS2 HS3]
          · isplitl [HS0]; · iexact HS0
            isplitl [HS1]; · iexact HS1
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _)
            iexact HS3
          isplitl [Hg]
          · iexact Hg
          isplitl [Hq0 Hq1]
          · isplitl [Hq0]; · iexact Hq0
            iexact Hq1
          isplitl [Hh0]; · iexact Hh0
          isplitl [Hh1]; · iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ _ _ _ _)
        unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _ _)
      · rw [PhiS_castSucc m hH c t, PhiS_pos m hH c _ _ hz]
        rw [outsAt0_A m hH c t h0 h1]
        unfold out0_A_4 out0_A_5 out0_A_6 out0_A_7 sout0_A_2; (try dsimp only)
        iintro ⟨⟨⟨HS0, HS1, HS2, HS3⟩, Hg, ⟨Hq0, Hq1⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (V m c main_arg1) (V m c main_arg2) (V m c main_arg3) (V m c main_arg4) h1).2.2.2.2.2 W _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [HS0]; · iexact HS0
        isplitl [HS1]; · iexact HS1
        isplitl [HS2]; · iexists _; iexact HS2
        isplitl [HS3]; · iexact HS3
        isplitl [Hq0]; · iexact Hq0
        isplitl [Hq1]; · iexact Hq1
        isplitl [Hh0]; · iexact Hh0
        isplitl [Hh1]; · iexact Hh1
        isplitl [Hh2]; · iexact Hh2
        isplitl [Hh3]; · iexact Hh3
        isplitl [HW]; · iexact HW
        iintro ⟨H0, H1, H2, H3, ⟨%e4, H4⟩, ⟨%e5, H5⟩, ⟨%e6, H6⟩, ⟨%e7, H7⟩, HS0, HS1, ⟨%es2, HS2⟩, HS3, Hq0, Hq1, Hh0, Hh1, Hh2, Hh3, ⟨%W', HW'⟩⟩
        isplitl [HS0 HS1 HS2 HS3 Hg Hq0 Hq1 Hh0 Hh1 Hh2 Hh3]
        · isplitl [HS0 HS1 HS2 HS3]
          · isplitl [HS0]; · iexact HS0
            isplitl [HS1]; · iexact HS1
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _)
            iexact HS3
          isplitl [Hg]
          · iexact Hg
          isplitl [Hq0 Hq1]
          · isplitl [Hq0]; · iexact Hq0
            iexact Hq1
          isplitl [Hh0]; · iexact Hh0
          isplitl [Hh1]; · iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ _ _ _ _)
        unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _ _)
    · by_cases hz : t.val = 0
      · rw [PhiS_castSucc m hH c t, PhiS_zero m hH c _ _ hz, PhiD0_eq]
        rw [outsAt0_B m hH c t h0 h1]
        unfold out0_B_4 out0_B_5 out0_B_6 out0_B_7 sout0_B_2; (try dsimp only)
        iintro ⟨⟨⟨HS0, HS1, HS2, HS3⟩, Hg, ⟨Hq0, Hq1⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ _ _ _ _ ((hcond0_0 t).mpr h0) (iblk m c 0 t) (iblk m c 1 t) (iblk m c 2 t) (iblk m c 3 t) (V m c main_arg1) (V m c main_arg2) (V m c main_arg3) (V m c main_arg4) h1 ((Hyps.c0 hH c t) ((hcond0_0 t).mpr h0) h1)).2.2.2.2.2 W _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        isplitl [Hq0]; · iexact Hq0
        isplitl [Hq1]; · iexact Hq1
        isplitl [Hh0]; · iexact Hh0
        isplitl [Hh1]; · iexact Hh1
        isplitl [Hh2]; · iexact Hh2
        isplitl [Hh3]; · iexact Hh3
        isplitl [HW]; · iexact HW
        iintro ⟨H0, H1, H2, H3, ⟨%e4, H4⟩, ⟨%e5, H5⟩, ⟨%e6, H6⟩, ⟨%e7, H7⟩, HS0, HS1, ⟨%es2, HS2⟩, HS3, Hq0, Hq1, Hh0, Hh1, Hh2, Hh3, ⟨%W', HW'⟩⟩
        isplitl [HS0 HS1 HS2 HS3 Hg Hq0 Hq1 Hh0 Hh1 Hh2 Hh3]
        · isplitl [HS0 HS1 HS2 HS3]
          · isplitl [HS0]; · iexact HS0
            isplitl [HS1]; · iexact HS1
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _)
            iexact HS3
          isplitl [Hg]
          · iexact Hg
          isplitl [Hq0 Hq1]
          · isplitl [Hq0]; · iexact Hq0
            iexact Hq1
          isplitl [Hh0]; · iexact Hh0
          isplitl [Hh1]; · iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _ _ _ _)
        unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _ _)
      · rw [PhiS_castSucc m hH c t, PhiS_pos m hH c _ _ hz]
        rw [outsAt0_B m hH c t h0 h1]
        unfold out0_B_4 out0_B_5 out0_B_6 out0_B_7 sout0_B_2; (try dsimp only)
        iintro ⟨⟨⟨HS0, HS1, HS2, HS3⟩, Hg, ⟨Hq0, Hq1⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ _ _ _ _ ((hcond0_0 t).mpr h0) (iblk m c 0 t) (iblk m c 1 t) (iblk m c 2 t) (iblk m c 3 t) (V m c main_arg1) (V m c main_arg2) (V m c main_arg3) (V m c main_arg4) h1 ((Hyps.c0 hH c t) ((hcond0_0 t).mpr h0) h1)).2.2.2.2.2 W _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [HS0]; · iexact HS0
        isplitl [HS1]; · iexact HS1
        isplitl [HS2]; · iexists _; iexact HS2
        isplitl [HS3]; · iexact HS3
        isplitl [Hq0]; · iexact Hq0
        isplitl [Hq1]; · iexact Hq1
        isplitl [Hh0]; · iexact Hh0
        isplitl [Hh1]; · iexact Hh1
        isplitl [Hh2]; · iexact Hh2
        isplitl [Hh3]; · iexact Hh3
        isplitl [HW]; · iexact HW
        iintro ⟨H0, H1, H2, H3, ⟨%e4, H4⟩, ⟨%e5, H5⟩, ⟨%e6, H6⟩, ⟨%e7, H7⟩, HS0, HS1, ⟨%es2, HS2⟩, HS3, Hq0, Hq1, Hh0, Hh1, Hh2, Hh3, ⟨%W', HW'⟩⟩
        isplitl [HS0 HS1 HS2 HS3 Hg Hq0 Hq1 Hh0 Hh1 Hh2 Hh3]
        · isplitl [HS0 HS1 HS2 HS3]
          · isplitl [HS0]; · iexact HS0
            isplitl [HS1]; · iexact HS1
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _)
            iexact HS3
          isplitl [Hg]
          · iexact Hg
          isplitl [Hq0 Hq1]
          · isplitl [Hq0]; · iexact Hq0
            iexact Hq1
          isplitl [Hh0]; · iexact Hh0
          isplitl [Hh1]; · iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _ _ _ _)
        unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _ _)
  · by_cases hz : t.val = 0
    · exfalso; have hN : t.val < 112 := lt_of_lt_of_eq t.isLt (show cfg0.N = 112 from N_0); omega
    · rw [PhiS_castSucc m hH c t, PhiS_pos m hH c _ _ hz]
      rw [outsAt0_C m hH c t h0]
      simp only [before0_5_C m hH c t h0]
      unfold out0_C_4 out0_C_5 out0_C_6 out0_C_7 sout0_C_2; (try dsimp only)
      iintro ⟨⟨⟨HS0, HS1, HS2, HS3⟩, Hg, ⟨Hq0, Hq1⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) _ _ (V m c main_arg1) (V m c main_arg2) (V m c main_arg3) (V m c main_arg4)).2.2.2.2.2 W _)
      isplitl [H0]; · iexact H0
      isplitl [H1]; · iexact H1
      isplitl [H2]; · iexact H2
      isplitl [H3]; · iexact H3
      isplitl [H4]; · iexists _; iexact H4
      isplitl [H5]; · iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      isplitl [Hq0]; · iexact Hq0
      isplitl [Hq1]; · iexact Hq1
      isplitl [Hh0]; · iexact Hh0
      isplitl [Hh1]; · iexact Hh1
      isplitl [Hh2]; · iexact Hh2
      isplitl [Hh3]; · iexact Hh3
      isplitl [HW]; · iexact HW
      iintro ⟨H0, H1, H2, H3, ⟨%e4, H4⟩, ⟨%e5, H5⟩, ⟨%e6, H6⟩, ⟨%e7, H7⟩, HS0, HS1, HS2, HS3, Hq0, Hq1, Hh0, Hh1, Hh2, Hh3, ⟨%W', HW'⟩⟩
      isplitl [HS0 HS1 HS2 HS3 Hg Hq0 Hq1 Hh0 Hh1 Hh2 Hh3]
      · isplitl [HS0 HS1 HS2 HS3]
        · isplitl [HS0]; · iexact HS0
          isplitl [HS1]; · iexact HS1
          isplitl [HS2]; · iexact HS2
          iexact HS3
        isplitl [Hg]
        · iexact Hg
        isplitl [Hq0 Hq1]
        · isplitl [Hq0]; · iexact Hq0
          iexact Hq1
        isplitl [Hh0]; · iexact Hh0
        isplitl [Hh1]; · iexact Hh1
        isplitl [Hh2]; · iexact Hh2
        iexact Hh3
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hH : Hyps m) (c : Dev nD) : BodyObligation (dats (F := F) m hH 0 c) (defs₀ (F := F)) Variants.none () Set.univ := fun t => by
  rw [bigSep_W0, bigSep_W0, defs₀_row]
  exact triple_restated (sound_body m hH c t) rfl .rfl fun _ => .rfl

/-- What the launch hands the region (`ΦD`) is the invariant before the first point. -/
theorem hin (hH : Hyps m) (c : Dev nD) : Pipeline.ΦD osem0 spec0 H0 (V m) c ⊢ (dats m hH 0 c).Φ 0 := by
  rw [show (dats m hH 0 c).Φ 0 = PhiS m hH c 0 (Nat.zero_le _) from rfl, PhiS_zero m hH c 0 _ rfl]
  try exact Idealize.SL.BI.Entails.refl _

/-- After any point but the first the invariant gives `ΦD` back: the carried scratch's named contents are forgotten. -/
theorem Phi_out (hH : Hyps m) (c : Dev nD) (t : Fin (cfg0.N + 1)) (ht : t.val ≠ 0) : (dats m hH 0 c).Φ t ⊢ Pipeline.ΦD osem0 spec0 H0 (V m) c := by
  rw [show (dats m hH 0 c).Φ t = PhiS m hH c t.val (Nat.le_of_lt_succ t.isLt) from rfl, PhiS_pos m hH c _ _ ht, PhiD0_eq]
  iintro ⟨⟨HS0, HS1, HS2, HS3⟩, Hg, ⟨Hq0, Hq1⟩, ⟨Hh0, Hh1, Hh2, Hh3⟩⟩
  isplitl [HS0 HS1 HS2 HS3]
  · isplitl [HS0]
    · iexact HS0
    isplitl [HS1]
    · iexact HS1
    isplitl [HS2]
    · iexists _; iexact HS2
    iexact HS3
  isplitl [Hg]; · iexact Hg
  isplitl [Hq0 Hq1]
  · isplitl [Hq0]; · iexact Hq0
    iexact Hq1
  isplitl [Hh0]; · iexact Hh0
  isplitl [Hh1]; · iexact Hh1
  isplitl [Hh2]; · iexact Hh2
  iexact Hh3

/-- The same after the last point. -/
theorem hout (hH : Hyps m) (c : Dev nD) : (dats m hH 0 c).Φ (Fin.last cfg0.N) ⊢ Pipeline.ΦD osem0 spec0 H0 (V m) c :=
  Phi_out m hH c _ (by rw [Fin.val_last]; have : cfg0.N = 112 := N_0; omega)

/-! ## The run and the frame -/

-- `θ_run_frame_dma_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hH : Hyps m) : θ_run defs (onTc (τ := τ) (main (F := F))) (s₀ m ρ) (fun r => (Pipeline.FramePost cfgs (dats m hH) 0 (V m)) r ∧ r.2.sem = fun _ => 0) :=
  Pipeline.θ_run_frame_dma_shared (Q' := _) cfgs (dats m hH) (0 : Fin 1) launch₀0 osem0 defs₀ Variants.none ownSemFacts0 H0 H0_sub m ρ main
    (hbody := fun c => (body_obligation m hH c).loose) (hq := fun _ _ _ => rfl)
    (howed := fun _ _ => rfl) (V := V m) (hmain := hmain m Variants.none) (hA := A_eq m hH)
    (hin := hin m hH) (hout := hout m hH)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hH : Hyps m) : θ_run defs (onTc (τ := τ) (main (F := F))) (s₀ m ρ) (Pipeline.FramePost cfgs (dats m hH) 0 (V m)) :=
  (θ_run defs _ _).mono (fun _ h => h.1) (run_main_quiescent m ρ hH)

/-- `frame` without the counters: the argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m hH) (A_eq m hH) (run_main m ρ hH)

/-- THE FRAME: `Cert.quiescent_UpIdeal`'s statement (Defs.lean) at any `F` — Proof.lean cites it at `Bits`:
    `theorem Cert.Proof.claim : Cert.Claim := ⟨Cert.UpIdeal.Gen.facts, fun m ρ _ => Cert.UpIdeal.Gen.frame m ρ⟩`; here UNDER `Gen.Hyps` (the side conditions the body assumes,
    at every point), which Proof.lean proves from the precondition: `⟨…, fun m ρ h => Cert.UpIdeal.Gen.frame m ρ (hyps_of_pre m h)⟩`. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hH) ((θ_run defs _ _).mono (fun _ h => h.2) (run_main_quiescent m ρ hH))

end Cert.UpIdeal.Gen

end
-- ==== Proof.UpIdealValue.lean ====
/- What the output arrays of `UpIdeal` hold after the run: each block is what its grid point wrote. -/
module

public import proofs.«01_k».proof.Proof.UpIdealFrame
public import Idealize.ShloMosaic.Lib.Pipeline.Value

@[expose] public section

noncomputable section

namespace Cert.UpIdeal.Value

open Cert.UpIdeal Cert.UpIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`: its component 0), read through the window's block. -/
theorem flushed4 (hH : Hyps m) (c : Dev nD) (t : Fin cfg0.N) :
    (dats m hH 0 c).flushed 4 t = (cfg0.win 4).cut (grid0.coords t) ((outsAt0 m hH c t.val t.isLt).1) := by
  show (cfg0.win 4).cut (grid0.coords t) ((dats m hH 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (hH : Hyps m) (c : Dev nD) (t : Fin cfg0.N) (h0 : t.val % 14 = 0) (h1 : cond0_1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos)))) :
    (dats m hH 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (V m c main_arg1) (V m c main_arg2) (V m c main_arg3) (V m c main_arg4) h1) := by
  simp only [flushed4, outsAt0_A m hH c t h0 h1]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (hH : Hyps m) (c : Dev nD) (t : Fin cfg0.N) (h0 : t.val % 14 = 0) (h1 : ¬cond0_1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos)))) :
    (dats m hH 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (V m c main_arg1) (V m c main_arg2) (V m c main_arg3) (V m c main_arg4) h1 ((Hyps.c0 hH c t) ((hcond0_0 t).mpr h0) h1)) := by
  simp only [flushed4, outsAt0_B m hH c t h0 h1]

/-- … so at a point where case C runs, what its write-back would write is that case's NAMED TERM for the window (`Gen.out0_C_4`: the pieces
    its run found, read back) at the point's memrefs and input blocks, and for an output the case reads back what the point before left (`Gen.outsAt0` at `t - 1`) — by the frame's rewriting lemma for the case. -/
theorem flushed4_C (hH : Hyps m) (c : Dev nD) (t : Fin cfg0.N) (h0 : ¬t.val % 14 = 0) :
    (dats m hH 0 c).flushed 4 t = (cfg0.win 4).cut (grid0.coords t) (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (outsAt0 m hH c (t.val - 1) (Nat.lt_of_le_of_lt (Nat.sub_le _ _) t.isLt)).2.1 (outsAt0 m hH c (t.val - 1) (Nat.lt_of_le_of_lt (Nat.sub_le _ _) t.isLt)).2.2.2.2 (V m c main_arg1) (V m c main_arg2) (V m c main_arg3) (V m c main_arg4)) := by
  simp only [flushed4, outsAt0_C m hH c t h0]

/-- The index map sends distinct grid points to distinct block indices (decided over the 112 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (hH : Hyps m) (c : Dev nD) (t : Fin cfg0.N) (hf : (cfg0.win 4).flush t = true) :
    ((cfg0.win 4).blk t).view.read (Elt F) ((dats m hH 0 c).arrAt 4 cfg0.N) = (dats m hH 0 c).flushed 4 t :=
  (dats m hH 0 c).read_blk_arrAt_eq_flushed 4 disjoint4 cfg0.N t t.isLt hf

/-- An index that no flushing point's block covers keeps output window 4's array contents at region entry. -/
theorem entry4 (hH : Hyps m) (c : Dev nD) (i : S8192x3584.Idx) (h : ∀ t : Fin cfg0.N, (cfg0.win 4).flush t = true → i ∉ ((cfg0.win 4).blk t).view.set) :
    (dats m hH 0 c).arrAt 4 cfg0.N i = V m c (Pipeline.arrRef spec0 4) i := by
  rw [(dats m hH 0 c).arrAt_apply_of_forall_not_mem 4 cfg0.N i (fun t _ hf => h t hf), A_eq]

/-- WHAT POINT `t` WRITES BACK to output window 5's array: the run's contents for that window after the body (`Gen.outsAt0`: its component 1), read through the window's block. -/
theorem flushed5 (hH : Hyps m) (c : Dev nD) (t : Fin cfg0.N) :
    (dats m hH 0 c).flushed 5 t = (cfg0.win 5).cut (grid0.coords t) ((outsAt0 m hH c t.val t.isLt).2.1) := by
  show (cfg0.win 5).cut (grid0.coords t) ((dats m hH 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (hH : Hyps m) (c : Dev nD) (t : Fin cfg0.N) (h0 : t.val % 14 = 0) (h1 : cond0_1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos)))) :
    (dats m hH 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (V m c main_arg1) (V m c main_arg2) (V m c main_arg3) (V m c main_arg4) h1) := by
  simp only [flushed5, outsAt0_A m hH c t h0 h1]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (hH : Hyps m) (c : Dev nD) (t : Fin cfg0.N) (h0 : t.val % 14 = 0) (h1 : ¬cond0_1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos)))) :
    (dats m hH 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (V m c main_arg1) (V m c main_arg2) (V m c main_arg3) (V m c main_arg4) h1 ((Hyps.c0 hH c t) ((hcond0_0 t).mpr h0) h1)) := by
  simp only [flushed5, outsAt0_B m hH c t h0 h1]

/-- … so at a point where case C runs, what its write-back would write is that case's NAMED TERM for the window (`Gen.out0_C_5`: the pieces
    its run found, read back) at the point's memrefs and input blocks, and for an output the case reads back what the point before left (`Gen.outsAt0` at `t - 1`) — by the frame's rewriting lemma for the case. -/
theorem flushed5_C (hH : Hyps m) (c : Dev nD) (t : Fin cfg0.N) (h0 : ¬t.val % 14 = 0) :
    (dats m hH 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (outsAt0 m hH c (t.val - 1) (Nat.lt_of_le_of_lt (Nat.sub_le _ _) t.isLt)).2.1 (outsAt0 m hH c (t.val - 1) (Nat.lt_of_le_of_lt (Nat.sub_le _ _) t.isLt)).2.2.2.2 (V m c main_arg1) (V m c main_arg2) (V m c main_arg3) (V m c main_arg4)) := by
  simp only [flushed5, outsAt0_C m hH c t h0]

-- no `blocks5`: window 5's index map revisits a block index, or its points could not be enumerated here;
-- the final array is still the frame's `arrAt`, to read with Lib/Pipeline/Value.lean's lemmas by hand

/-- An index that no flushing point's block covers keeps output window 5's array contents at region entry. -/
theorem entry5 (hH : Hyps m) (c : Dev nD) (i : S8192x28.Idx) (h : ∀ t : Fin cfg0.N, (cfg0.win 5).flush t = true → i ∉ ((cfg0.win 5).blk t).view.set) :
    (dats m hH 0 c).arrAt 5 cfg0.N i = V m c (Pipeline.arrRef spec0 5) i := by
  rw [(dats m hH 0 c).arrAt_apply_of_forall_not_mem 5 cfg0.N i (fun t _ hf => h t hf), A_eq]

/-- WHAT POINT `t` WRITES BACK to output window 6's array: the run's contents for that window after the body (`Gen.outsAt0`: its component 2), read through the window's block. -/
theorem flushed6 (hH : Hyps m) (c : Dev nD) (t : Fin cfg0.N) :
    (dats m hH 0 c).flushed 6 t = (cfg0.win 6).cut (grid0.coords t) ((outsAt0 m hH c t.val t.isLt).2.2.1) := by
  show (cfg0.win 6).cut (grid0.coords t) ((dats m hH 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (hH : Hyps m) (c : Dev nD) (t : Fin cfg0.N) (h0 : t.val % 14 = 0) (h1 : cond0_1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos)))) :
    (dats m hH 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (V m c main_arg1) (V m c main_arg2) (V m c main_arg3) (V m c main_arg4) h1) := by
  simp only [flushed6, outsAt0_A m hH c t h0 h1]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (hH : Hyps m) (c : Dev nD) (t : Fin cfg0.N) (h0 : t.val % 14 = 0) (h1 : ¬cond0_1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos)))) :
    (dats m hH 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (V m c main_arg1) (V m c main_arg2) (V m c main_arg3) (V m c main_arg4) h1 ((Hyps.c0 hH c t) ((hcond0_0 t).mpr h0) h1)) := by
  simp only [flushed6, outsAt0_B m hH c t h0 h1]

/-- … so at a point where case C runs, what its write-back would write is that case's NAMED TERM for the window (`Gen.out0_C_6`: the pieces
    its run found, read back) at the point's memrefs and input blocks, and for an output the case reads back what the point before left (`Gen.outsAt0` at `t - 1`) — by the frame's rewriting lemma for the case. -/
theorem flushed6_C (hH : Hyps m) (c : Dev nD) (t : Fin cfg0.N) (h0 : ¬t.val % 14 = 0) :
    (dats m hH 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (outsAt0 m hH c (t.val - 1) (Nat.lt_of_le_of_lt (Nat.sub_le _ _) t.isLt)).2.1 (outsAt0 m hH c (t.val - 1) (Nat.lt_of_le_of_lt (Nat.sub_le _ _) t.isLt)).2.2.2.2 (V m c main_arg1) (V m c main_arg2) (V m c main_arg3) (V m c main_arg4)) := by
  simp only [flushed6, outsAt0_C m hH c t h0]

/-- The index map sends distinct grid points to distinct block indices (decided over the 112 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (hH : Hyps m) (c : Dev nD) (t : Fin cfg0.N) (hf : (cfg0.win 6).flush t = true) :
    ((cfg0.win 6).blk t).view.read (Elt F) ((dats m hH 0 c).arrAt 6 cfg0.N) = (dats m hH 0 c).flushed 6 t :=
  (dats m hH 0 c).read_blk_arrAt_eq_flushed 6 disjoint6 cfg0.N t t.isLt hf

/-- An index that no flushing point's block covers keeps output window 6's array contents at region entry. -/
theorem entry6 (hH : Hyps m) (c : Dev nD) (i : S8192x3584.Idx) (h : ∀ t : Fin cfg0.N, (cfg0.win 6).flush t = true → i ∉ ((cfg0.win 6).blk t).view.set) :
    (dats m hH 0 c).arrAt 6 cfg0.N i = V m c (Pipeline.arrRef spec0 6) i := by
  rw [(dats m hH 0 c).arrAt_apply_of_forall_not_mem 6 cfg0.N i (fun t _ hf => h t hf), A_eq]

/-- WHAT POINT `t` WRITES BACK to output window 7's array: the run's contents for that window after the body (`Gen.outsAt0`: its component 3), read through the window's block. -/
theorem flushed7 (hH : Hyps m) (c : Dev nD) (t : Fin cfg0.N) :
    (dats m hH 0 c).flushed 7 t = (cfg0.win 7).cut (grid0.coords t) ((outsAt0 m hH c t.val t.isLt).2.2.2.1) := by
  show (cfg0.win 7).cut (grid0.coords t) ((dats m hH 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (hH : Hyps m) (c : Dev nD) (t : Fin cfg0.N) (h0 : t.val % 14 = 0) (h1 : cond0_1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos)))) :
    (dats m hH 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (V m c main_arg1) (V m c main_arg2) (V m c main_arg3) (V m c main_arg4) h1) := by
  simp only [flushed7, outsAt0_A m hH c t h0 h1]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (hH : Hyps m) (c : Dev nD) (t : Fin cfg0.N) (h0 : t.val % 14 = 0) (h1 : ¬cond0_1 (grid0.coords t) ((ms0_0 t).view.readAt (Elt F) (Rect.unit (s := S1) ![0] S1.size inb_S1_S1_0).toLoadRect ((hs0_0 t).unread (iblk m c 0 t)) (Shape.Idx.first (numel1_S1.symm ▸ Nat.one_pos)))) :
    (dats m hH 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (V m c main_arg1) (V m c main_arg2) (V m c main_arg3) (V m c main_arg4) h1 ((Hyps.c0 hH c t) ((hcond0_0 t).mpr h0) h1)) := by
  simp only [flushed7, outsAt0_B m hH c t h0 h1]

/-- … so at a point where case C runs, what its write-back would write is that case's NAMED TERM for the window (`Gen.out0_C_7`: the pieces
    its run found, read back) at the point's memrefs and input blocks, and for an output the case reads back what the point before left (`Gen.outsAt0` at `t - 1`) — by the frame's rewriting lemma for the case. -/
theorem flushed7_C (hH : Hyps m) (c : Dev nD) (t : Fin cfg0.N) (h0 : ¬t.val % 14 = 0) :
    (dats m hH 0 c).flushed 7 t = (cfg0.win 7).cut (grid0.coords t) (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (outsAt0 m hH c (t.val - 1) (Nat.lt_of_le_of_lt (Nat.sub_le _ _) t.isLt)).2.1 (outsAt0 m hH c (t.val - 1) (Nat.lt_of_le_of_lt (Nat.sub_le _ _) t.isLt)).2.2.2.2 (V m c main_arg1) (V m c main_arg2) (V m c main_arg3) (V m c main_arg4)) := by
  simp only [flushed7, outsAt0_C m hH c t h0]

/-- The index map sends distinct grid points to distinct block indices (decided over the 112 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (hH : Hyps m) (c : Dev nD) (t : Fin cfg0.N) (hf : (cfg0.win 7).flush t = true) :
    ((cfg0.win 7).blk t).view.read (Elt F) ((dats m hH 0 c).arrAt 7 cfg0.N) = (dats m hH 0 c).flushed 7 t :=
  (dats m hH 0 c).read_blk_arrAt_eq_flushed 7 disjoint7 cfg0.N t t.isLt hf

/-- An index that no flushing point's block covers keeps output window 7's array contents at region entry. -/
theorem entry7 (hH : Hyps m) (c : Dev nD) (i : S8x8x3584.Idx) (h : ∀ t : Fin cfg0.N, (cfg0.win 7).flush t = true → i ∉ ((cfg0.win 7).blk t).view.set) :
    (dats m hH 0 c).arrAt 7 cfg0.N i = V m c (Pipeline.arrRef spec0 7) i := by
  rw [(dats m hH 0 c).arrAt_apply_of_forall_not_mem 7 cfg0.N i (fun t _ hf => h t hf), A_eq]

/-- After the frame run, output window 4's array is `(dats m hH 0 c).arrAt 4 N`. -/
theorem post4 (hH : Hyps m) (r : PUnit × MemSt nD τ sig (Elt F)) (h : Pipeline.FramePost cfgs (dats m hH) 0 (V m) r) (c : Dev nD) :
    r.2.mem ((c : Thread nD τ).loc main_v0_0) = (dats m hH 0 c).arrAt 4 cfg0.N :=
  (h c).1 4

/-- After the frame run, output window 5's array is `(dats m hH 0 c).arrAt 5 N`. -/
theorem post5 (hH : Hyps m) (r : PUnit × MemSt nD τ sig (Elt F)) (h : Pipeline.FramePost cfgs (dats m hH) 0 (V m) r) (c : Dev nD) :
    r.2.mem ((c : Thread nD τ).loc main_v0_1) = (dats m hH 0 c).arrAt 5 cfg0.N :=
  (h c).1 5

/-- After the frame run, output window 6's array is `(dats m hH 0 c).arrAt 6 N`. -/
theorem post6 (hH : Hyps m) (r : PUnit × MemSt nD τ sig (Elt F)) (h : Pipeline.FramePost cfgs (dats m hH) 0 (V m) r) (c : Dev nD) :
    r.2.mem ((c : Thread nD τ).loc main_v0_2) = (dats m hH 0 c).arrAt 6 cfg0.N :=
  (h c).1 6

/-- After the frame run, output window 7's array is `(dats m hH 0 c).arrAt 7 N`. -/
theorem post7 (hH : Hyps m) (r : PUnit × MemSt nD τ sig (Elt F)) (h : Pipeline.FramePost cfgs (dats m hH) 0 (V m) r) (c : Dev nD) :
    r.2.mem ((c : Thread nD τ).loc main_v0_3) = (dats m hH 0 c).arrAt 7 cfg0.N :=
  (h c).1 7

/-- After the frame run, argument `main_arg0` is as launched: input window 0 stages it and never writes it back. -/
theorem kept_main_arg0 (hH : Hyps m) (r : PUnit × MemSt nD τ sig (Elt F)) (h : Pipeline.FramePost cfgs (dats m hH) 0 (V m) r) (c : Dev nD) :
    r.2.mem ((c : Thread nD τ).loc main_arg0) = m ((c : Thread nD τ).loc main_arg0) :=
  ((h c).1 0).trans (((dats m hH 0 c).arrAt_in 0 rfl _).trans ((A_eq m hH c 0).trans (V_main_arg0 m c)))

/-- After the frame run, argument `main_arg1` is as launched: no window stages it, and the run leaves the region's other buffers as they were. -/
theorem kept_main_arg1 (hH : Hyps m) (r : PUnit × MemSt nD τ sig (Elt F)) (h : Pipeline.FramePost cfgs (dats m hH) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (hH : Hyps m) (r : PUnit × MemSt nD τ sig (Elt F)) (h : Pipeline.FramePost cfgs (dats m hH) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (hH : Hyps m) (r : PUnit × MemSt nD τ sig (Elt F)) (h : Pipeline.FramePost cfgs (dats m hH) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (hH : Hyps m) (r : PUnit × MemSt nD τ sig (Elt F)) (h : Pipeline.FramePost cfgs (dats m hH) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 2 stages it and never writes it back. -/
theorem kept_main_arg5 (hH : Hyps m) (r : PUnit × MemSt nD τ sig (Elt F)) (h : Pipeline.FramePost cfgs (dats m hH) 0 (V m) r) (c : Dev nD) :
    r.2.mem ((c : Thread nD τ).loc main_arg5) = m ((c : Thread nD τ).loc main_arg5) :=
  ((h c).1 2).trans (((dats m hH 0 c).arrAt_in 2 rfl _).trans ((A_eq m hH c 2).trans (V_main_arg5 m c)))

/-- After the frame run, argument `main_arg6` is as launched: input window 3 stages it and never writes it back. -/
theorem kept_main_arg6 (hH : Hyps m) (r : PUnit × MemSt nD τ sig (Elt F)) (h : Pipeline.FramePost cfgs (dats m hH) 0 (V m) r) (c : Dev nD) :
    r.2.mem ((c : Thread nD τ).loc main_arg6) = m ((c : Thread nD τ).loc main_arg6) :=
  ((h c).1 3).trans (((dats m hH 0 c).arrAt_in 3 rfl _).trans ((A_eq m hH c 3).trans (V_main_arg6 m c)))

/-- The frame run with each output array after the run NAMED — `(dats m hH 0 c).arrAt w N`, which `blocks_w` / `entry_w` read —,
    the arguments unchanged. -/
theorem run_blocks (hH : Hyps m) : θ_run defs (onTc (τ := τ) (main (F := F))) ⟨m, fun _ => 0, ρ⟩ fun r => ∀ c : Dev nD,
      r.2.mem ((c : Thread nD τ).loc main_v0_0) = (dats m hH 0 c).arrAt 4 cfg0.N
      ∧ r.2.mem ((c : Thread nD τ).loc main_v0_1) = (dats m hH 0 c).arrAt 5 cfg0.N
      ∧ r.2.mem ((c : Thread nD τ).loc main_v0_2) = (dats m hH 0 c).arrAt 6 cfg0.N
      ∧ r.2.mem ((c : Thread nD τ).loc main_v0_3) = (dats m hH 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post4 m hH r h c,
      post5 m hH r h c,
      post6 m hH r h c,
      post7 m hH r h c,
      kept_main_arg0 m hH r h c,
      kept_main_arg1 m hH r h c,
      kept_main_arg2 m hH r h c,
      kept_main_arg3 m hH r h c,
      kept_main_arg4 m hH r h c,
      kept_main_arg5 m hH r h c,
      kept_main_arg6 m hH r h c⟩)
    (run_main m ρ hH)

end Cert.UpIdeal.Value

end
-- ==== Proof.UpHyps.lean ====
/-
The ranks the kernel is given lie in 0..7, so the segment it copies from lies inside its operand.
-/
module

public import proofs.«01_k».proof.Proof.Pieces
public import proofs.«01_k».proof.Proof.UpRuns
public import proofs.«01_k».proof.Proof.UpIdealRuns
public import proofs.«01_k».proof.Proof.UpIdealValue
public import proofs.«01_k».proof.Defs

@[expose] public section

set_option maxRecDepth 16384

noncomputable section

open Idealize.ShloMosaic Idealize.ShloMosaic.TcCoe Idealize.SL.Sem

namespace Cert.UpRank

/-- A word that passes both comparisons is one of eight. -/
theorem rank_word (a : BitVec 32) (h : IntOp.andi (IntOp.cmpi .sge a 0#32) (IntOp.cmpi .slt a 8#32) = 1#1) :
    ∃ k : Fin 8, a = BitVec.ofNat 32 k.val := by
  have h1 : (BitVec.slt a 0#32 = false) ∧ (BitVec.slt a 8#32 = true) := by
    unfold IntOp.andi IntOp.cmpi at h
    dsimp only at h
    rw [BitVec.sle_eq_not_slt] at h
    revert h
    cases BitVec.slt a 0#32 <;> cases BitVec.slt a 8#32 <;> decide
  have hn : a.toNat < 8 := by
    obtain ⟨p, q⟩ := h1
    rw [BitVec.slt, decide_eq_false_iff_not] at p
    rw [BitVec.slt, decide_eq_true_iff] at q
    rw [BitVec.toInt_eq_toNat_cond] at p q
    have := a.isLt
    simp at p q
    split at q <;> split at p <;> omega
  exact ⟨⟨a.toNat, hn⟩, by simp⟩

end Cert.UpRank

namespace Cert.UpIdeal.Block

open Cert.UpIdeal Cert.UpIdeal.Gen

/-- The rank. -/
abbrev RK (m : (ℓ : Loc nD τ sig) → Buf (Elt Ideal) ℓ) (c : Dev nD) : BitVec 32 :=
  (show S1.Idx → BitVec 32 from m ((c : Thread nD τ).loc main_arg0)) (ix1 0)

theorem idx0 : ∀ t : Fin cfg0.N, win0_0.index t = ![0] := (by decide +kernel : ∀ t : Fin grid0.N, _)

theorem word (m : (ℓ : Loc nD τ sig) → Buf (Elt Ideal) ℓ) (c : Dev nD) (t : Fin cfg0.N) (y : S1.Idx) : iblk m c 0 t y = RK m c := by
  have e0 : y = ix1 0 := by
    funext a; fin_cases a; exact Subsingleton.elim (α := Fin 1) _ _
  rw [e0]
  blk_point [iblk, V, idx0 t]

theorem chk : ∀ (k : Fin 8) (t : Fin grid0.N), k0_chk1 (grid0.coords t) (BitVec.ofNat 32 k.val) (BitVec.ofNat 32 k.val) := by
  decide +kernel

theorem rank_of_pre [Cert.Pre_rank_in_range.Facts] (m : (ℓ : Loc nD τ sig) → Buf (Elt Ideal) ℓ) (h : Cert.Pre_UpIdeal m) (c : Dev nD) :
    ∃ k : Fin 8, RK m c = BitVec.ofNat 32 k.val :=
  Cert.UpRank.rank_word _ (congrFun (h c) (ix1 0))

theorem hyps_of_pre [Cert.Pre_rank_in_range.Facts] (m : (ℓ : Loc nD τ sig) → Buf (Elt Ideal) ℓ) (h : Cert.Pre_UpIdeal m) : Hyps m := by
  refine Hyps.of fun c t _ _ => ?_
  obtain ⟨k, hk⟩ := rank_of_pre m h c
  rw [View.readAt_apply, (hs0_0 t).read_unread, word, hk]
  exact chk k t

end Cert.UpIdeal.Block

namespace Cert.Up.Block

open Cert.Up Cert.Up.Gen

/-- The rank. -/
abbrev RK (m : (ℓ : Loc nD τ sig) → Buf (Elt Bits) ℓ) (c : Dev nD) : BitVec 32 :=
  (show S1.Idx → BitVec 32 from m ((c : Thread nD τ).loc main_arg0)) (ix1 0)

theorem idx0 : ∀ t : Fin cfg0.N, win0_0.index t = ![0] := (by decide +kernel : ∀ t : Fin grid0.N, _)

theorem word (m : (ℓ : Loc nD τ sig) → Buf (Elt Bits) ℓ) (c : Dev nD) (t : Fin cfg0.N) (y : S1.Idx) : iblk m c 0 t y = RK m c := by
  have e0 : y = ix1 0 := by
    funext a; fin_cases a; exact Subsingleton.elim (α := Fin 1) _ _
  rw [e0]
  blk_point [iblk, V, idx0 t]

theorem chk : ∀ (k : Fin 8) (t : Fin grid0.N), k0_chk1 (grid0.coords t) (BitVec.ofNat 32 k.val) (BitVec.ofNat 32 k.val) := by
  decide +kernel

theorem hyps_of_pre [Cert.Pre_rank_in_range.Facts] (m : (ℓ : Loc nD τ sig) → Buf (Elt Bits) ℓ) (h : Cert.Pre_Up m) : Hyps m := by
  refine Hyps.of fun c t _ _ => ?_
  obtain ⟨k, hk⟩ : ∃ k : Fin 8, RK m c = BitVec.ofNat 32 k.val := Cert.UpRank.rank_word _ (congrFun (h c) (ix1 0))
  rw [View.readAt_apply, (hs0_0 t).read_unread, word, hk]
  exact chk k t

end Cert.Up.Block

end

end
-- ==== Proof.UpSpec.lean ====
/-
The mathematics of the gated up projection, as functions on extended reals, independent of any program:
gather the segments of all ranks, dequantise the activations (one scale per row and 128 columns) and the
weights (one scale per block of 128 by 128), multiply, gate the two halves of the product, and quantise
the result twice: every row 128 columns at a time, and every column 128 rows at a time.
-/
module

public import proofs.«01_k».proof.Proof.Quant

@[expose] public section

noncomputable section

namespace Cert.UpSpec

open Idealize.ShloMosaic Cert.Quant

/-- Of rank `s`'s segment: the own value at the own rank, else what the segments of the others hold, the own rank left out. -/
def pick {α : Type} (rank : BitVec 32) (s : Fin 8) (own : α) (oth : Fin 7 → α) : α :=
  if BitVec.ofNat 32 s.val = rank then own
  else if (BitVec.ofNat 32 s.val).slt rank then oth ⟨min s.val 6, by omega⟩ else oth ⟨s.val - 1, by omega⟩

variable (rank : BitVec 32) (nc : (⟨2, ![1024, 8192]⟩ : Shape).Idx → EReal) (ns : (⟨2, ![1024, 64]⟩ : Shape).Idx → EReal)
  (oc : (⟨3, ![7, 1024, 8192]⟩ : Shape).Idx → EReal) (os : (⟨3, ![7, 1024, 64]⟩ : Shape).Idx → EReal)
  (wc : (⟨2, ![8192, 7168]⟩ : Shape).Idx → EReal) (ws : (⟨2, ![64, 56]⟩ : Shape).Idx → EReal)

/-- One gathered code of segment `s`. -/
def segCode (s : Fin 8) (r : Fin 1024) (k : Fin 8192) : EReal := pick rank s (nc (ix2 r k)) fun o => oc (ix3 o r k)
/-- One gathered scale of segment `s`. -/
def segScale (s : Fin 8) (r : Fin 1024) (b : Fin 64) : EReal := pick rank s (ns (ix2 r b)) fun o => os (ix3 o r b)
/-- One dequantised activation of segment `s`. -/
def seg (s : Fin 8) (r : Fin 1024) (k : Fin 8192) : EReal :=
  segCode rank nc oc s r k * segScale rank ns os s r ⟨k.val / 128, by omega⟩

/-- One dequantised activation. -/
def act (q : Fin 8192) (k : Fin 8192) : EReal := seg rank nc ns oc os ⟨q.val / 1024, by omega⟩ ⟨q.val % 1024, by omega⟩ k

/-- One entry of the product of the dequantised activations and weights. -/
def y (q : Fin 8192) (c : Fin 7168) : EReal :=
  ∑ k : Fin 8192, act rank nc ns oc os q k * (wc (ix2 k c) * ws (ix2 ⟨k.val / 128, by omega⟩ ⟨c.val / 128, by omega⟩))

/-- Gate and up half combined. -/
def gated (g u : EReal) : EReal := (g * Ideal.logistic g) * u

/-- One entry of the gated product. -/
def h (q : Fin 8192) (f : Fin 3584) : EReal :=
  gated (y rank nc ns oc os wc ws q ⟨f.val, by omega⟩) (y rank nc ns oc os wc ws q ⟨3584 + f.val, by omega⟩)

/-- The row quantiser's `t` of block `b` of row `q`. -/
def rowTop (q : Fin 8192) (b : Fin 28) : EReal :=
  tRow fun l : Fin 128 => h rank nc ns oc os wc ws q ⟨128 * b.val + l.val, by omega⟩
/-- The column quantiser's `t` of block `b` of column `f`. -/
def colTop (b : Fin 64) (f : Fin 3584) : EReal :=
  tRow fun l : Fin 128 => h rank nc ns oc os wc ws ⟨128 * b.val + l.val, by omega⟩ f

/-- The row codes. -/
def rowCodes : (⟨2, ![8192, 3584]⟩ : Shape).Idx → EReal := fun i =>
  code (h rank nc ns oc os wc ws (i 0) (i 1))
    (kInv (rowTop rank nc ns oc os wc ws (i 0) ⟨(i 1).val / 128, by have : (i 1).val < 3584 := (i 1).isLt; show _ < 28; omega⟩))
/-- The row scales. -/
def rowScales : (⟨2, ![8192, 28]⟩ : Shape).Idx → EReal := fun i => kScale (rowTop rank nc ns oc os wc ws (i 0) (i 1))
/-- The column codes. -/
def colCodes : (⟨2, ![8192, 3584]⟩ : Shape).Idx → EReal := fun i =>
  code (h rank nc ns oc os wc ws (i 0) (i 1))
    (kInv (colTop rank nc ns oc os wc ws ⟨(i 0).val / 128, by have : (i 0).val < 8192 := (i 0).isLt; show _ < 64; omega⟩ (i 1)))
/-- The column scales. -/
def colScales : (⟨3, ![8, 8, 3584]⟩ : Shape).Idx → EReal := fun i =>
  kScale (colTop rank nc ns oc os wc ws ⟨8 * (i 0).val + (i 1).val, by
    have : (i 0).val < 8 := (i 0).isLt; have : (i 1).val < 8 := (i 1).isLt; show _ < 64; omega⟩ (i 2))

end Cert.UpSpec

end

end
-- ==== Proof.UpPay.lean ====
/-
What one grid point of the up kernel stores, as the quantiser of `Quant.lean` applied to the two
128-column slabs and the eight 128-row slabs of the gated product.

The printed body repeats the quantiser ten times over differently cut values; the first lemmas say
that each copy is `rCodesV`, `rStoreV`, `cCodesV` or `cScaleV` of its slab (by unfolding), the last
ones what an entry of those is.
-/
module

public import proofs.«01_k».proof.Proof.Gen.UpIdeal.Skeleton
public import proofs.«01_k».proof.Proof.UpSpec
public import Idealize.ShloMosaic.Lib.Pointwise
public import Idealize.ShloMosaic.Lib.Pipeline.ValueKit

@[expose] public section

set_option maxRecDepth 16384

noncomputable section

namespace Cert.UpIdeal.Block

open Idealize.ShloMosaic Idealize.SL.Sem Cert.UpIdeal Cert.UpIdeal.Gen Cert.Quant

section Vectors
variable {F : FTy → Type} [FloatOps F]

/-- Every row's greatest magnitude times 1/448. -/
def rMaxV (x : FVec F S1024x128 .f32) : FVec F S1024x1 .f32 :=
  mulf (shapeCast S1024x1 (multiReduction .maximumf [1] S1024 (absf x) 0xFF800000#32
    reduces_S1024x128_S1024 (.inl rfl) rfl) shapeCasts_S1024_S1024x1)
    (broadcast S1024x1 (Scalar.ofBits .f32 0x3B124925#32))

/-- The row codes of a slab. -/
def rCodesV (x : FVec F S1024x128 .f32) : FVec F S1024x128 .fp8e4m3 :=
  truncf .fp8e4m3 (minimumf (broadcast S1024x128 (Scalar.ofBits .f32 0x43E00000#32))
    (maximumf (broadcast S1024x128 (Scalar.ofBits .f32 0xC3E00000#32))
      (mulf x (broadcastTo S1024x128 (invV (rMaxV x)) broadcasts_S1024x1_S1024x128)))) bitsLt_fp8e4m3_f32

/-- The row scales' buffer after the scales of a slab were put into column `w`. -/
def rStoreV (w : BitVec 32) (x : FVec F S1024x128 .f32) (old : Vec F S1024x28 .f32) : FVec F S1024x28 .f32 :=
  select (cmpi .eq (iota .tc S1024x28 32 [1] iota_S1024x28_d1_w32) (broadcast S1024x28 w))
    (broadcastTo S1024x28 (shapeCast S1024x1 (scaleV (rMaxV x)) shapeCasts_S1024x1_S1024x1) broadcasts_S1024x1_S1024x28)
    (shapeCast S1024x28 old shapeCasts_S1024x28_S1024x28)

/-- Every column's greatest magnitude times 1/448. -/
def cMaxV (x : FVec F S128x256 .f32) : FVec F S1x256 .f32 :=
  mulf (shapeCast S1x256 (multiReduction .maximumf [0] S256 (absf x) 0xFF800000#32
    reduces_S128x256_S256 (.inl rfl) rfl) shapeCasts_S256_S1x256)
    (broadcast S1x256 (Scalar.ofBits .f32 0x3B124925#32))

/-- The column codes of a slab. -/
def cCodesV (x : FVec F S128x256 .f32) : FVec F S128x256 .fp8e4m3 :=
  truncf .fp8e4m3 (minimumf (broadcast S128x256 (Scalar.ofBits .f32 0x43E00000#32))
    (maximumf (broadcast S128x256 (Scalar.ofBits .f32 0xC3E00000#32))
      (mulf x (broadcastTo S128x256 (invV (cMaxV x)) broadcasts_S1x256_S128x256)))) bitsLt_fp8e4m3_f32

/-- The column scales of a slab. -/
def cScaleV (x : FVec F S128x256 .f32) : FVec F S1x1x256 .f32 :=
  shapeCast S1x1x256 (scaleV (cMaxV x)) shapeCasts_S1x256_S1x1x256

end Vectors

theorem rMaxV_apply (x : FVec Ideal S1024x128 .f32) (r : Fin 1024) :
    rMaxV x (ix2 r 0) = tRow fun l => x (ix2 r l) := by
  pointwise [rMaxV]
  rfl

theorem rCodesV_apply (x : FVec Ideal S1024x128 .f32) (r : Fin 1024) (l : Fin 128) :
    rCodesV x (ix2 r l) = code (x (ix2 r l)) (kInv (tRow fun l => x (ix2 r l))) := by
  have h := invV_apply (rMaxV x) (ix2 r 0)
  rw [rMaxV_apply] at h
  rw [← h]
  pointwise [rCodesV]
  rfl

theorem rStoreV_apply (w : BitVec 32) (x : FVec Ideal S1024x128 .f32) (old : Vec Ideal S1024x28 .f32) (r : Fin 1024) (b : Fin 28) :
    rStoreV w x old (ix2 r b) = if BitVec.ofNat 32 b.val = w then kScale (tRow fun l => x (ix2 r l)) else old (ix2 r b) := by
  have h := scaleV_apply (rMaxV x) (ix2 r 0)
  rw [rMaxV_apply] at h
  rw [← h]
  pointwise [rStoreV]
  exact select_eq _ _ _ _

theorem cMaxV_apply (x : FVec Ideal S128x256 .f32) (f : Fin 256) :
    cMaxV x (ix2 0 f) = tRow fun l => x (ix2 l f) := by
  pointwise [cMaxV]
  rfl

theorem cCodesV_apply (x : FVec Ideal S128x256 .f32) (r : Fin 128) (f : Fin 256) :
    cCodesV x (ix2 r f) = code (x (ix2 r f)) (kInv (tRow fun l => x (ix2 l f))) := by
  have h := invV_apply (cMaxV x) (ix2 0 f)
  rw [cMaxV_apply] at h
  rw [← h]
  pointwise [cCodesV]
  rfl

theorem cScaleV_apply (x : FVec Ideal S128x256 .f32) (f : Fin 256) :
    cScaleV x (ix3 0 0 f) = kScale (tRow fun l => x (ix2 l f)) := by
  have h := scaleV_apply (cMaxV x) (ix2 0 f)
  rw [cMaxV_apply] at h
  rw [← h]
  pointwise [cScaleV]

/-- The gated product of a point. -/
def hb (a : Vec Ideal S1024x8192 .bf16) (g u : Vec Ideal S8192x256 .bf16) (r : Fin 1024) (l : Fin 256) : EReal :=
  Cert.UpSpec.gated (∑ k : Fin 8192, a (ix2 r k) * g (ix2 k l)) (∑ k : Fin 8192, a (ix2 r k) * u (ix2 k l))

theorem pay10_apply (a : Vec Ideal S1024x8192 .bf16) (g u : Vec Ideal S8192x256 .bf16) (r : Fin 1024) (l : Fin 256) :
    k0_pay10 a g a u (ix2 r l) = hb a g u r l := by
  pointwise [k0_pay10, hb, Cert.UpSpec.gated]

theorem slab0 (v : FVec Ideal S1024x256 .f32) (r : Fin 1024) (l : Fin 128) :
    extractStridedSlice S1024x128 ![0, 0] v slices_S1024x256_o0_0_S1024x128 (ix2 r l) = v (ix2 r ⟨l.val, by omega⟩) := by
  pointwise []
theorem slab1 (v : FVec Ideal S1024x256 .f32) (r : Fin 1024) (l : Fin 128) :
    extractStridedSlice S1024x128 ![0, 128] v slices_S1024x256_o0_128_S1024x128 (ix2 r l) = v (ix2 r ⟨128 + l.val, by omega⟩) := by
  pointwise []

theorem zeros_apply (r : Fin 1024) (b : Fin 28) : (k0_pay7 (F := Ideal)) (ix2 r b) = Ideal.ofBits .f32 0#32 := rfl

/-- One trip of the activations' loop stores codes times the row scales of its block. -/
theorem widen_apply (k : Fin k0_t1_loop.trips) (s : Vec Ideal S1024x64 .f32) (x : Vec Ideal S1024x128 .fp8e4m3)
    (r : Fin 1024) (l : Fin 128) (k' : Fin 64) (hk : k'.val = k.val) :
    k0_pay6 k s x (ix2 r l) = x (ix2 r l) * s (ix2 r k') := by
  pointwise [k0_pay6]
  rw [sum_pick (by decide) (fun x => s (ix2 r x)) k.val k' hk]

theorem w3 (s : Elt Ideal .f32) (x : Vec Ideal S128x128 .fp8e4m3) (i j : Fin 128) : k0_pay3 s x (ix2 i j) = x (ix2 i j) * s := by
  pointwise [k0_pay3]
theorem w4 (s : Elt Ideal .f32) (x : Vec Ideal S128x128 .fp8e4m3) (i j : Fin 128) : k0_pay4 s x (ix2 i j) = x (ix2 i j) * s := by
  pointwise [k0_pay4]
theorem w5 (s : Elt Ideal .f32) (x : Vec Ideal S128x128 .fp8e4m3) (i j : Fin 128) : k0_pay8 (k0_pay5 s) x (ix2 i j) = x (ix2 i j) * s := by
  pointwise [k0_pay8, k0_pay5]
theorem w9 (s : Elt Ideal .f32) (x : Vec Ideal S128x128 .fp8e4m3) (i j : Fin 128) : k0_pay9 s x (ix2 i j) = x (ix2 i j) * s := by
  pointwise [k0_pay9]

end Cert.UpIdeal.Block

end

end
-- ==== Proof.UpTrips.lean ====
/-
What the two loops of the up kernel leave in the buffers they fill: the activations' buffer holds
codes times row-block scales, the weights' buffer codes times block scales, the gate columns first.
-/
module

public import proofs.«01_k».proof.Proof.UpIdealLoops
public import proofs.«01_k».proof.Proof.UpPay
public import proofs.«01_k».proof.Proof.Pieces

@[expose] public section

set_option maxRecDepth 16384

noncomputable section

namespace Cert.UpIdeal.Block

open Idealize.ShloMosaic Idealize.ShloMosaic.TcCoe Idealize.SL.Sem Cert.UpIdeal Cert.UpIdeal.Gen Cert.Quant Cert.Pieces

section Loops
variable (c : Dev nD) (i : grid0.Coords)
  (arg2 : Memref sig .tc .smem S1 .i32) (harg2 : arg2.IsWhole)
  (arg3 : Memref sig .tc .hbm S1024x8192 .fp8e4m3) (harg3 : arg3.IsWhole)
  (arg4 : Memref sig .tc .hbm S1024x64 .f32) (harg4 : arg4.IsWhole)
  (arg5 : Memref sig .tc .hbm S7x1024x8192 .fp8e4m3) (harg5 : arg5.IsWhole)
  (arg6 : Memref sig .tc .hbm S7x1024x64 .f32) (harg6 : arg6.IsWhole)
  (arg7 : Memref sig .tc .vmem S8192x256 .fp8e4m3) (harg7 : arg7.IsWhole)
  (arg8 : Memref sig .tc .vmem S8192x256 .fp8e4m3) (harg8 : arg8.IsWhole)
  (arg9 : Memref sig .tc .smem S64x56 .f32) (harg9 : arg9.IsWhole)
  (arg10 : Memref sig .tc .vmem S1024x256 .fp8e4m3) (harg10 : arg10.IsWhole)
  (arg11 : Memref sig .tc .vmem S1024x28 .f32) (harg11 : arg11.IsWhole)
  (arg12 : Memref sig .tc .vmem S1024x256 .fp8e4m3) (harg12 : arg12.IsWhole)
  (arg13 : Memref sig .tc .vmem S1x8x256 .f32) (harg13 : arg13.IsWhole)
  (arg14 : Memref sig .tc .vmem S1024x8192 .fp8e4m3) (harg14 : arg14.IsWhole)
  (arg15 : Memref sig .tc .vmem S1024x64 .f32) (harg15 : arg15.IsWhole)
  (arg16 : Memref sig .tc .vmem S1024x8192 .bf16) (harg16 : arg16.IsWhole)
  (arg17 : Memref sig .tc .vmem S8192x512 .bf16) (harg17 : arg17.IsWhole)
  (arg18 : DmaSems sig S2)

/-- Codes times the row's scale of the block of 128 columns. -/
def act (x : Vec Ideal S1024x8192 .fp8e4m3) (s : Vec Ideal S1024x64 .f32) : Vec Ideal S1024x8192 .bf16 :=
  fun y => x y * s (ix2 (y 0) ⟨(y 1).val / 128, by have : (y 1).val < 8192 := (y 1).isLt; show _ < 64; omega⟩)

/-- Half of the weights: codes times the scale of the block of 128 rows and 128 columns, the first block being `b`. -/
def half (b : ℕ) (hb : b + 2 ≤ 56) (w : Vec Ideal S8192x256 .fp8e4m3) (s : Vec Ideal S64x56 .f32) : Vec Ideal S8192x256 .bf16 :=
  fun y => w y * s (ix2 ⟨(y 0).val / 128, by have : (y 0).val < 8192 := (y 0).isLt; show _ < 64; omega⟩
    ⟨b + (y 1).val / 128, by have : (y 1).val < 256 := (y 1).isLt; show _ < 56; omega⟩)

/-- Gate columns, then up columns. -/
def both (g u : Vec Ideal S8192x256 .bf16) : Vec Ideal S8192x512 .bf16 := fun y =>
  if h : (y 1).val < 256 then g (ix2 (y 0) ⟨(y 1).val, h⟩)
  else u (ix2 (y 0) ⟨(y 1).val - 256, by have : (y 1).val < 512 := (y 1).isLt; omega⟩)

theorem both_lo (g u : Vec Ideal S8192x256 .bf16) (r : Fin 8192) (l : Fin 512) (h : l.val < 256) : both g u (ix2 r l) = g (ix2 r ⟨l.val, h⟩) :=
  dif_pos (c := l.val < 256) h

theorem both_hi (g u : Vec Ideal S8192x256 .bf16) (r : Fin 8192) (l : Fin 512) (h : ¬ l.val < 256) :
    both g u (ix2 r l) = u (ix2 r ⟨l.val - 256, by omega⟩) :=
  dif_neg (c := l.val < 256) h

/-- The gate and the up weights of column group `n`. -/
def wgt (n : Fin 14) (w v : Vec Ideal S8192x256 .fp8e4m3) (s : Vec Ideal S64x56 .f32) : Vec Ideal S8192x512 .bf16 :=
  both (half (2 * n.val) (by omega) w s) (half (28 + 2 * n.val) (by omega) v s)

theorem act_canon (h1 : k0_cond1 i = 1#1) (x0 : BufTy.Contents (Elt Ideal) arg14.view.ty) (x1 : BufTy.Contents (Elt Ideal) arg15.view.ty) :
    View.canon (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h1 x0 x1
      (Scf.trips (0#32) (Scalar.addi 0#32 64#32) 1#32)) = act (arg14.view.read (Elt Ideal) x0) (arg15.view.read (Elt Ideal) x1) := by
  have hlt : ∀ k : Fin k0_t1_loop.trips, k.val < 64 := fun k => Nat.lt_of_lt_of_le k.isLt k0_t1_abs.2.1
  refine canon_of_trips k0_t1_loop.trips _ (fun k => tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h1 x0 x1 k)
    rfl (fun k => pb_k0_t1_succ ..) _ ?_ ?_
  · intro k p hp
    unfold tripL_k0_t1 trip_k0_t1 at hp
    dsimp only at hp
    rw [List.mem_singleton] at hp
    subst hp
    intro x
    obtain ⟨r, l, rfl⟩ := pair2 (n0 := 1024) (n1 := 128) x
    dsimp only
    have hk := hlt k
    refine (widen_apply k _ _ r l ⟨k.val, hk⟩ rfl).trans ?_
    have e := emb2 (n0 := 1024) (n1 := 8192) (inb := k0_off3_inb i k h1) 0 (128 * k.val) (k0_off3_eq k) r l r ⟨128 * k.val + l.val, by omega⟩ (by omega) rfl
    have e2 : (⟨(128 * k.val + l.val) / 128, by omega⟩ : Fin 64) = ⟨k.val, hk⟩ := Fin.ext (by show (128 * k.val + l.val) / 128 = k.val; omega)
    have e3 := emb2 (n0 := 1024) (n1 := 64) (inb := inb_S1024x64_S1024x64_0_0) 0 0 rfl r (⟨k.val, hk⟩ : Fin 64) r ⟨k.val, hk⟩ (by omega) (by simp)
    refine Eq.trans ?_ (congrArg (act (arg14.view.read (Elt Ideal) x0) (arg15.view.read (Elt Ideal) x1)) e).symm
    exact congrArg₂ (fun a b : EReal => a * b) (congrArg (arg14.view.read (Elt Ideal) x0) e)
      (congrArg (arg15.view.read (Elt Ideal) x1) (e3.trans (congrArg (ix2 r) e2.symm)))
  · intro y
    obtain ⟨r, l, rfl⟩ := pair2 (n0 := 1024) (n1 := 8192) y
    have ht : k0_t1_loop.trips = 64 := by decide +kernel
    refine ⟨⟨l.val / 128, by omega⟩, ?_⟩
    unfold tripL_k0_t1 trip_k0_t1
    dsimp only
    refine ⟨_, List.mem_singleton.mpr rfl, ?_⟩
    refine mem2 (n0 := 1024) (n1 := 8192) (s0 := 1024) (s1 := 128) (inb := k0_off3_inb i ⟨l.val / 128, by omega⟩ h1) 0 (128 * (l.val / 128)) (k0_off3_eq ⟨l.val / 128, by omega⟩) r l ⟨by omega, by omega⟩ ⟨by omega, by omega⟩

/-- The scale word that trip `k` loads for block `a` of the gate (`b = 0`) or the up columns (`b = 1`). -/
theorem word_eq (n : Fin 14) (hn : (i 1).val = n.val) (x3 : BufTy.Contents (Elt Ideal) arg9.view.ty) (k : Fin k0_t2_loop.trips)
    (a b : Fin 2) (hk : k.val < 64) (inb)
    (h0 : 0 < (Rect.unit (s := S64x56) (k0_off4 i k (BitVec.ofNat 32 a.val) (BitVec.ofNat 32 (28 * b.val))) S1x1.size inb).shape.numel) :
    arg9.view.readAt (Elt Ideal) (Rect.unit (s := S64x56) (k0_off4 i k (BitVec.ofNat 32 a.val) (BitVec.ofNat 32 (28 * b.val))) S1x1.size inb).toLoadRect x3 (Shape.Idx.first h0)
      = arg9.view.read (Elt Ideal) x3 (ix2 ⟨k.val, hk⟩ ⟨2 * n.val + a.val + 28 * b.val, by omega⟩) := by
  have e := emb2 (n0 := 64) (n1 := 56) (s0 := 1) (s1 := 1) (inb := inb) k.val (2 * n.val + a.val + 28 * b.val) ((k0_off4_eq i k a b).trans (by rw [hn]))
    0 0 ⟨k.val, hk⟩ ⟨2 * n.val + a.val + 28 * b.val, by omega⟩ (by simp) (by simp)
  refine Eq.trans ?_ (congrArg (arg9.view.read (Elt Ideal) x3) e)
  have e0 : (Shape.Idx.first h0 : S1x1.Idx) = ix2 0 0 := by
    obtain ⟨a, b, h⟩ := pair2 (n0 := 1) (n1 := 1) (Shape.Idx.first h0 : S1x1.Idx)
    rw [h]; congr 1 <;> exact Subsingleton.elim _ _
  exact congrArg (fun y => arg9.view.readAt (Elt Ideal) (Rect.unit (s := S64x56) (k0_off4 i k (BitVec.ofNat 32 a.val) (BitVec.ofNat 32 (28 * b.val))) S1x1.size inb).toLoadRect x3 y) e0

/-- A stored block that holds codes times its scale word is a block of one half of the weights. -/
theorem half_eq (b : ℕ) (hb : b + 2 ≤ 56) (X : Vec Ideal S8192x256 .fp8e4m3) (S : Vec Ideal S64x56 .f32)
    (k : ℕ) (hk : k < 64) (j : Fin 2) (off : Fin 2 → ℕ) (hoff : off = ![128 * k, 128 * j.val]) (inb)
    (s : EReal) (hs : s = S (ix2 ⟨k, hk⟩ ⟨b + j.val, by omega⟩))
    (pay : Vec Ideal S128x128 .bf16)
    (hp : ∀ a l : Fin 128, pay (ix2 a l) = X ((Rect.unit (s := S8192x256) off ![128, 128] inb).emb (ix2 a l)) * s)
    (r l : Fin 128) :
    pay (ix2 r l) = half b hb X S (ix2 ⟨128 * k + r.val, by omega⟩ ⟨128 * j.val + l.val, by omega⟩) := by
  rw [hp, hs]
  have e := emb2 (n0 := 8192) (n1 := 256) (inb := inb) (128 * k) (128 * j.val) hoff r l ⟨128 * k + r.val, by omega⟩ ⟨128 * j.val + l.val, by omega⟩ rfl rfl
  have e2 : (⟨(128 * k + r.val) / 128, by omega⟩ : Fin 64) = ⟨k, hk⟩ := Fin.ext (by show (128 * k + r.val) / 128 = k; omega)
  have e3 : (⟨b + (128 * j.val + l.val) / 128, by omega⟩ : Fin 56) = ⟨b + j.val, by omega⟩ :=
    Fin.ext (by show b + (128 * j.val + l.val) / 128 = b + j.val; omega)
  exact congrArg₂ (fun a b : EReal => a * b) (congrArg X e) (congrArg S (congrArg₂ ix2 e2.symm e3.symm))

/-- A block of the gate half, where it is stored. -/
theorem gate_eq (g u : Vec Ideal S8192x256 .bf16) (k : ℕ) (hk : k < 64) (j : Fin 2) (off : Fin 2 → ℕ) (hoff : off = ![128 * k, 128 * j.val]) (inb)
    (pay : Vec Ideal S128x128 .bf16)
    (hp : ∀ r l : Fin 128, pay (ix2 r l) = g (ix2 ⟨128 * k + r.val, by omega⟩ ⟨128 * j.val + l.val, by omega⟩)) (x : S128x128.Idx) :
    pay x = both g u ((Rect.unit (s := S8192x512) off ![128, 128] inb).emb x) := by
  obtain ⟨r, l, rfl⟩ := pair2 (n0 := 128) (n1 := 128) x
  have e := emb2 (n0 := 8192) (n1 := 512) (inb := inb) (128 * k) (128 * j.val) hoff r l ⟨128 * k + r.val, by omega⟩ ⟨128 * j.val + l.val, by omega⟩ rfl rfl
  refine Eq.trans ?_ (congrArg (both g u) e).symm
  rw [hp, both_lo _ _ _ _ (by show 128 * j.val + l.val < 256; omega)]

/-- A block of the up half, where it is stored. -/
theorem up_eq (g u : Vec Ideal S8192x256 .bf16) (k : ℕ) (hk : k < 64) (j : Fin 2) (off : Fin 2 → ℕ) (hoff : off = ![128 * k, 256 + 128 * j.val]) (inb)
    (pay : Vec Ideal S128x128 .bf16)
    (hp : ∀ r l : Fin 128, pay (ix2 r l) = u (ix2 ⟨128 * k + r.val, by omega⟩ ⟨128 * j.val + l.val, by omega⟩)) (x : S128x128.Idx) :
    pay x = both g u ((Rect.unit (s := S8192x512) off ![128, 128] inb).emb x) := by
  obtain ⟨r, l, rfl⟩ := pair2 (n0 := 128) (n1 := 128) x
  have e := emb2 (n0 := 8192) (n1 := 512) (inb := inb) (128 * k) (256 + 128 * j.val) hoff r l ⟨128 * k + r.val, by omega⟩ ⟨256 + 128 * j.val + l.val, by omega⟩ rfl rfl
  refine Eq.trans ?_ (congrArg (both g u) e).symm
  rw [hp, both_hi _ _ _ _ (by show ¬ 256 + 128 * j.val + l.val < 256; omega)]
  exact congrArg (fun q => u (ix2 _ q)) (Fin.ext (by show 128 * j.val + l.val = 256 + 128 * j.val + l.val - 256; omega))

theorem wgt_canon (n : Fin 14) (hn : (i 1).val = n.val) (x7 : BufTy.Contents (Elt Ideal) arg7.view.ty) (x8 : BufTy.Contents (Elt Ideal) arg8.view.ty) (x9 : BufTy.Contents (Elt Ideal) arg9.view.ty) :
    View.canon (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 (BitVec.ofNat 32 (i 1).val) x7 x8 x9
      (Scf.trips (0#32) (Scalar.addi 0#32 64#32) 1#32)) = wgt n (arg7.view.read (Elt Ideal) x7) (arg8.view.read (Elt Ideal) x8) (arg9.view.read (Elt Ideal) x9) := by
  have hlt : ∀ k : Fin k0_t2_loop.trips, k.val < 64 := fun k => Nat.lt_of_lt_of_le k.isLt k0_t2_abs.2.1
  refine canon_of_trips k0_t2_loop.trips _ (fun k => tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 (BitVec.ofNat 32 (i 1).val) x7 x8 x9 k)
    rfl (fun k => pb_k0_t2_succ ..) _ ?_ ?_
  · intro k p hp
    have hk := hlt k
    unfold tripL_k0_t2 trip_k0_t2 at hp
    dsimp only at hp
    unfold trip_k0_t2.sl.r_4 trip_k0_t2.sl.r_3 trip_k0_t2.sl.r_1 trip_k0_t2.sl.r trip_k0_t2.sl.r_2 at hp
    simp only [List.mem_cons, List.not_mem_nil, or_false] at hp
    unfold wgt
    rcases hp with rfl | rfl | rfl | rfl
    · exact up_eq _ _ k.val hk 1 _ (k0_off10_eq k) (k0_off10_inb k) _ (half_eq (28 + 2 * n.val) (by omega) _ _ k.val hk 1 _ (k0_off7_eq k) (k0_off7_inb k) _
        ((word_eq i arg9 n hn x9 k 1 1 hk _ _).trans (congrArg (fun q => arg9.view.read (Elt Ideal) x9 (ix2 _ q)) (Fin.ext (by show 2 * n.val + 1 + 28 * 1 = 28 + 2 * n.val + 1; omega)))) _ (fun a l => w9 _ _ a l))
    · exact up_eq _ _ k.val hk 0 _ (k0_off9_eq k) (k0_off9_inb k) _ (half_eq (28 + 2 * n.val) (by omega) _ _ k.val hk 0 _ (k0_off5_eq k) (k0_off5_inb k) _
        ((word_eq i arg9 n hn x9 k 0 1 hk _ _).trans (congrArg (fun q => arg9.view.read (Elt Ideal) x9 (ix2 _ q)) (Fin.ext (by show 2 * n.val + 0 + 28 * 1 = 28 + 2 * n.val + 0; omega)))) _ (fun a l => w5 _ _ a l))
    · exact gate_eq _ _ k.val hk 1 _ (k0_off8_eq k) (k0_off8_inb k) _ (half_eq (2 * n.val) (by omega) _ _ k.val hk 1 _ (k0_off7_eq k) (k0_off7_inb k) _
        (word_eq i arg9 n hn x9 k 1 0 hk _ _) _ (fun a l => w4 _ _ a l))
    · exact gate_eq _ _ k.val hk 0 _ (k0_off6_eq k) (k0_off6_inb k) _ (half_eq (2 * n.val) (by omega) _ _ k.val hk 0 _ (k0_off5_eq k) (k0_off5_inb k) _
        (word_eq i arg9 n hn x9 k 0 0 hk _ _) _ (fun a l => w3 _ _ a l))
  · intro y
    obtain ⟨r, l, rfl⟩ := pair2 (n0 := 8192) (n1 := 512) y
    have ht : k0_t2_loop.trips = 64 := by decide +kernel
    refine ⟨⟨r.val / 128, by omega⟩, ?_⟩
    unfold tripL_k0_t2 trip_k0_t2
    dsimp only
    by_cases c3 : 384 ≤ l.val
    · exact ⟨_, List.mem_cons_self, mem2 (n0 := 8192) (n1 := 512) (s0 := 128) (s1 := 128) (inb := k0_off10_inb ⟨r.val / 128, by omega⟩) _ _ (k0_off10_eq ⟨r.val / 128, by omega⟩) r l ⟨by dsimp only; omega, by dsimp only; omega⟩ ⟨by omega, by omega⟩⟩
    by_cases c2 : 256 ≤ l.val
    · exact ⟨_, List.mem_cons_of_mem _ List.mem_cons_self, mem2 (n0 := 8192) (n1 := 512) (s0 := 128) (s1 := 128) (inb := k0_off9_inb ⟨r.val / 128, by omega⟩) _ _ (k0_off9_eq ⟨r.val / 128, by omega⟩) r l ⟨by dsimp only; omega, by dsimp only; omega⟩ ⟨by omega, by omega⟩⟩
    by_cases c1 : 128 ≤ l.val
    · exact ⟨_, List.mem_cons_of_mem _ (List.mem_cons_of_mem _ List.mem_cons_self), mem2 (n0 := 8192) (n1 := 512) (s0 := 128) (s1 := 128) (inb := k0_off8_inb ⟨r.val / 128, by omega⟩) _ _ (k0_off8_eq ⟨r.val / 128, by omega⟩) r l ⟨by dsimp only; omega, by dsimp only; omega⟩ ⟨by omega, by omega⟩⟩
    · exact ⟨_, List.mem_cons_of_mem _ (List.mem_cons_of_mem _ (List.mem_cons_of_mem _ List.mem_cons_self)), mem2 (n0 := 8192) (n1 := 512) (s0 := 128) (s1 := 128) (inb := k0_off6_inb ⟨r.val / 128, by omega⟩) _ _ (k0_off6_eq ⟨r.val / 128, by omega⟩) r l ⟨by dsimp only; omega, by dsimp only; omega⟩ ⟨by omega, by omega⟩⟩

end Loops

end Cert.UpIdeal.Block

end

end
-- ==== Proof.UpBlocks.lean ====
/-
What each grid point of the up kernel finds in the two buffers it fills: the gathered segment of
activations and the two halves of the weights.
-/
module

public import proofs.«01_k».proof.Proof.UpTrips
public import proofs.«01_k».proof.Proof.UpHyps

@[expose] public section

set_option maxRecDepth 16384

noncomputable section

namespace Cert.UpIdeal.Block

open Idealize.ShloMosaic Idealize.ShloMosaic.TcCoe Idealize.SL.Sem Cert.UpIdeal Cert.UpIdeal.Gen Cert.Quant Cert.Pieces

variable (m : (ℓ : Loc nD τ sig) → Buf (Elt Ideal) ℓ) (hH : Hyps m) (c : Dev nD)

theorem idx : ∀ t : Fin cfg0.N, win0_1.index t = ![0, t.val % 14] ∧ win0_2.index t = ![0, 14 + t.val % 14]
    ∧ win0_3.index t = ![0, 0] ∧ win0_4.index t = ![t.val / 14, t.val % 14] ∧ win0_5.index t = ![t.val / 14, 0]
    ∧ win0_6.index t = ![t.val / 14, t.val % 14] ∧ win0_7.index t = ![t.val / 14, 0, t.val % 14] :=
  (by decide +kernel : ∀ t : Fin grid0.N, _)

theorem coords1 : ∀ t : Fin cfg0.N, (grid0.coords t 1).val = t.val % 14 := (by decide +kernel : ∀ t : Fin grid0.N, _)

/-- The arguments. -/
abbrev NC : Vec Ideal S1024x8192 .fp8e4m3 := m ((c : Thread nD τ).loc main_arg1)
abbrev NS : Vec Ideal S1024x64 .f32 := m ((c : Thread nD τ).loc main_arg2)
abbrev OC : Vec Ideal S7x1024x8192 .fp8e4m3 := m ((c : Thread nD τ).loc main_arg3)
abbrev OS : Vec Ideal S7x1024x64 .f32 := m ((c : Thread nD τ).loc main_arg4)
abbrev WC : Vec Ideal S8192x7168 .fp8e4m3 := m ((c : Thread nD τ).loc main_arg5)
abbrev WS : Vec Ideal S64x56 .f32 := m ((c : Thread nD τ).loc main_arg6)

theorem lt112 (t : Fin cfg0.N) : t.val < 112 := lt_of_lt_of_eq t.isLt N_0

/-- The activations' buffer at a point. -/
def A16 (t : Fin cfg0.N) : Vec Ideal S1024x8192 .bf16 := fun y =>
  Cert.UpSpec.seg (RK m c) (NC m c) (NS m c) (OC m c) (OS m c) ⟨t.val / 14, by have := lt112 t; omega⟩ (y 0) (y 1)
/-- The gate weights at a point. -/
def G (t : Fin cfg0.N) : Vec Ideal S8192x256 .bf16 := half (2 * (t.val % 14)) (by omega) (iblk m c 1 t) (iblk m c 3 t)
/-- The up weights at a point. -/
def U (t : Fin cfg0.N) : Vec Ideal S8192x256 .bf16 := half (28 + 2 * (t.val % 14)) (by omega) (iblk m c 2 t) (iblk m c 3 t)

theorem G_apply (t : Fin cfg0.N) (k : Fin 8192) (l : Fin 256) (q : Fin 7168) (hq : q.val = 256 * (t.val % 14) + l.val) :
    G m c t (ix2 k l) = WC m c (ix2 k q) * WS m c (ix2 ⟨k.val / 128, by omega⟩ ⟨q.val / 128, by omega⟩) := by
  unfold G half
  blk_point [iblk, V, idx t]

theorem U_apply (t : Fin cfg0.N) (k : Fin 8192) (l : Fin 256) (q : Fin 7168) (hq : q.val = 3584 + (256 * (t.val % 14) + l.val)) :
    U m c t (ix2 k l) = WC m c (ix2 k q) * WS m c (ix2 ⟨k.val / 128, by omega⟩ ⟨q.val / 128, by omega⟩) := by
  unfold U half
  blk_point [iblk, V, idx t]

/-- The activations' buffer does not change inside a row of fourteen points. -/
theorem A16_prev (t : Fin cfg0.N) (h0 : ¬ t.val % 14 = 0) (hl : t.val - 1 < cfg0.N) : A16 m c ⟨t.val - 1, hl⟩ = A16 m c t := by
  funext y
  unfold A16
  exact congrArg (fun s => Cert.UpSpec.seg (RK m c) (NC m c) (NS m c) (OC m c) (OS m c) s (y 0) (y 1))
    (Fin.ext (by show (t.val - 1) / 14 = t.val / 14; omega))

/-! The segment that is copied. -/

theorem off1_eq : ∀ (k : Fin 8) (t : Fin grid0.N), t.val / 14 ≠ k.val →
    k0_off1 (grid0.coords t) (BitVec.ofNat 32 k.val) = ![if t.val / 14 < k.val then t.val / 14 else t.val / 14 - 1, 0, 0] := by decide +kernel

theorem off2_eq : ∀ (k : Fin 8) (t : Fin grid0.N), t.val / 14 ≠ k.val →
    k0_off2 (grid0.coords t) (BitVec.ofNat 32 k.val) = ![if t.val / 14 < k.val then t.val / 14 else t.val / 14 - 1, 0, 0] := by decide +kernel

theorem cond_iff : ∀ (k : Fin 8) (t : Fin grid0.N), cond0_1 (grid0.coords t) (BitVec.ofNat 32 k.val) ↔ t.val / 14 = k.val := by decide +kernel

theorem pick_own {α : Type} (k s : Fin 8) (own : α) (oth : Fin 7 → α) (h : s.val = k.val) :
    Cert.UpSpec.pick (BitVec.ofNat 32 k.val) s own oth = own := by
  unfold Cert.UpSpec.pick
  rw [if_pos (by rw [h])]

theorem slt_iff : ∀ k s : Fin 8, (BitVec.ofNat 32 s.val).slt (BitVec.ofNat 32 k.val) = decide (s.val < k.val) := by decide +kernel

theorem pick_oth {α : Type} (k s : Fin 8) (own : α) (oth : Fin 7 → α) (h : s.val ≠ k.val) (o : Fin 7)
    (ho : o.val = if s.val < k.val then s.val else s.val - 1) :
    Cert.UpSpec.pick (BitVec.ofNat 32 k.val) s own oth = oth o := by
  unfold Cert.UpSpec.pick
  rw [if_neg (fun e => h ((ofNat_eq_iff _ _ (by omega) (by omega)).mp e)), slt_iff]
  by_cases hl : s.val < k.val
  · rw [if_pos hl] at ho
    rw [if_pos (decide_eq_true hl)]
    exact congrArg oth (Fin.ext (by show min s.val 6 = o.val; omega))
  · rw [if_neg hl] at ho
    rw [if_neg (by simpa using hl)]
    exact congrArg oth (Fin.ext (by show s.val - 1 = o.val; omega))

/-- What a view reads after all of it was written. -/
theorem filled {sp : Space} {s : Shape} {e : EltTy} (v : View sig .tc sp s e) (f : v.ty.Contents (Elt Ideal)) (x : s.Idx → Elt Ideal e) :
    v.read (Elt Ideal) (v.writes (Elt Ideal) f [⟨Rect.whole s, x⟩]) = x := by
  funext y
  have hm : y ∈ (Rect.whole s).set := Rect.mem_set_unit.mpr fun d => ⟨Nat.zero_le _, by rw [Nat.zero_add]; exact (y d).isLt⟩
  rw [View.read_writes_apply_eq_canon v f y _ ⟨_, List.mem_singleton.mpr rfl, hm⟩]
  refine View.canon_apply_of_pieces x _ ?_ y ⟨_, List.mem_singleton.mpr rfl, hm⟩
  intro p hp z
  rw [List.mem_singleton] at hp
  subst hp
  exact congrArg x (Rect.emb_whole_apply s z).symm

/-- Where entry `(r, k)` of one segment sits. -/
theorem seg_emb {n1 n2 : ℕ} {off : Fin 3 → ℕ} (o : Fin 7) (hoff : off = ![o.val, 0, 0]) (inb)
    (h : (⟨2, ![n1, n2]⟩ : Shape).numel = (⟨3, ![1, n1, n2]⟩ : Shape).numel) (r : Fin n1) (k : Fin n2) :
    (Rect.unit (s := (⟨3, ![7, n1, n2]⟩ : Shape)) off ![1, n1, n2] inb).emb (Shape.reshapeEquiv h (ix2 r k)) = ix3 o r k := by
  subst hoff
  rw [show Shape.reshapeEquiv h (ix2 r k) = _ from Shape.reshapeEquiv_cons_one h (ix2 r k)]
  funext d
  refine Fin.ext ?_
  match d with
  | 0 => show o.val + 1 * 0 = o.val; omega
  | 1 => show 0 + 1 * r.val = r.val; omega
  | 2 => show 0 + 1 * k.val = k.val; omega

/-- The own segment, widened. -/
theorem segA (hk : ∃ k : Fin 8, RK m c = BitVec.ofNat 32 k.val) (t : Fin cfg0.N) (h1 : cond0_1 (grid0.coords t) (RK m c)) :
    act (scM0_0.view.read (Elt Ideal) ((View.whole cc0_scratch0).writes (Elt Ideal) (View.whole cc0_scratch0).junk [⟨Rect.whole S1024x8192, ReadAs.same.apply (View.read (Elt Ideal) (View.whole main_arg1) (V m c main_arg1))⟩])) (scM0_1.view.read (Elt Ideal) ((View.whole cc0_scratch1).writes (Elt Ideal) (View.whole cc0_scratch1).junk [⟨Rect.whole S1024x64, ReadAs.same.apply (View.read (Elt Ideal) (View.whole main_arg2) (V m c main_arg2))⟩])) = A16 m c t := by
  have e0 : scM0_0.view.read (Elt Ideal) ((View.whole cc0_scratch0).writes (Elt Ideal) (View.whole cc0_scratch0).junk [⟨Rect.whole S1024x8192, ReadAs.same.apply (View.read (Elt Ideal) (View.whole main_arg1) (V m c main_arg1))⟩]) = NC m c := filled (View.whole cc0_scratch0) _ _
  have e1 : scM0_1.view.read (Elt Ideal) ((View.whole cc0_scratch1).writes (Elt Ideal) (View.whole cc0_scratch1).junk [⟨Rect.whole S1024x64, ReadAs.same.apply (View.read (Elt Ideal) (View.whole main_arg2) (V m c main_arg2))⟩]) = NS m c := filled (View.whole cc0_scratch1) _ _
  rw [e0, e1]
  obtain ⟨k, hk⟩ := hk
  rw [hk] at h1
  have hs := (cond_iff k t).mp h1
  funext y
  obtain ⟨r, q, rfl⟩ := pair2 (n0 := 1024) (n1 := 8192) y
  unfold A16 act Cert.UpSpec.seg Cert.UpSpec.segCode Cert.UpSpec.segScale
  rw [hk, pick_own k _ _ _ hs, pick_own k _ _ _ hs]
  rfl

/-- The segment of another rank, widened. -/
theorem segB (hk : ∃ k : Fin 8, RK m c = BitVec.ofNat 32 k.val) (t : Fin cfg0.N) (h1 : ¬ cond0_1 (grid0.coords t) (RK m c)) (w : BitVec 32) (hw : w = RK m c) (i1) (i2) (n1) (n2) :
    act (scM0_0.view.read (Elt Ideal) ((View.whole cc0_scratch0).writes (Elt Ideal) (View.whole cc0_scratch0).junk [⟨Rect.whole S1024x8192, ReadAs.same.apply (View.read (Elt Ideal) (((View.whole main_arg3).slice (Rect.unit (s := S7x1024x8192) (k0_off1 (grid0.coords t) w) ![1, 1024, 8192] i1)).reshape S1024x8192 n1) (V m c main_arg3))⟩]))
      (scM0_1.view.read (Elt Ideal) ((View.whole cc0_scratch1).writes (Elt Ideal) (View.whole cc0_scratch1).junk [⟨Rect.whole S1024x64, ReadAs.same.apply (View.read (Elt Ideal) (((View.whole main_arg4).slice (Rect.unit (s := S7x1024x64) (k0_off2 (grid0.coords t) w) ![1, 1024, 64] i2)).reshape S1024x64 n2) (V m c main_arg4))⟩])) = A16 m c t := by
  obtain ⟨k, hk⟩ := hk
  rw [hk] at h1 hw
  subst hw
  have hs : t.val / 14 ≠ k.val := fun h => h1 ((cond_iff k t).mpr h)
  have hN := lt112 t
  obtain ⟨o, ho⟩ : ∃ o : Fin 7, o.val = if t.val / 14 < k.val then t.val / 14 else t.val / 14 - 1 :=
    ⟨⟨if t.val / 14 < k.val then t.val / 14 else t.val / 14 - 1, by split <;> omega⟩, rfl⟩
  have f1 := (off1_eq k t hs).trans (congrArg (fun z : ℕ => ![z, 0, 0]) ho.symm)
  have f2 := (off2_eq k t hs).trans (congrArg (fun z : ℕ => ![z, 0, 0]) ho.symm)
  refine (congrArg₂ act (filled (View.whole cc0_scratch0) _ _) (filled (View.whole cc0_scratch1) _ _)).trans ?_
  funext y
  obtain ⟨r, q, rfl⟩ := pair2 (n0 := 1024) (n1 := 8192) y
  unfold A16 act Cert.UpSpec.seg Cert.UpSpec.segCode Cert.UpSpec.segScale
  rw [hk, pick_oth k _ _ _ hs o ho, pick_oth k _ _ _ hs o ho]
  exact congrArg₂ (fun a b : EReal => a * b) (congrArg (OC m c) (seg_emb (n1 := 1024) (n2 := 8192) o f1 i1 n1 r q))
    (congrArg (OS m c) (seg_emb (n1 := 1024) (n2 := 64) o f2 i2 n2 r _))

/-- Loading a whole buffer reads its contents. -/
theorem load_whole {n0 n1 : ℕ} {e : EltTy} (X : (⟨2, ![n0, n1]⟩ : Shape).Idx → Elt Ideal e) (inb) :
    (fun j => X ((Rect.unit (s := (⟨2, ![n0, n1]⟩ : Shape)) ![0, 0] ![n0, n1] inb).toLoadRect.idx j)) = X := by
  funext j
  obtain ⟨a, b, rfl⟩ := pair2 (n0 := n0) (n1 := n1) j
  exact congrArg X (emb2 (inb := inb) 0 0 rfl a b a b (by omega) (by omega))

theorem load_act (t : Fin cfg0.N) (h) (x14) (x15) (inb) (e : act (scM0_0.view.read (Elt Ideal) x14) (scM0_1.view.read (Elt Ideal) x15) = A16 m c t) :
    (View.whole cc0_scratch2).readCov (Val := Elt Ideal) (pb_k0_t1 (F := Ideal) Variants.none c none (grid0.coords t) (ms0_0 t) (hs0_0 t) (Memref.whole main_arg1) (Memref.isWhole_whole _) (Memref.whole main_arg2) (Memref.isWhole_whole _) (Memref.whole main_arg3) (Memref.isWhole_whole _) (Memref.whole main_arg4) (Memref.isWhole_whole _) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) cc0_scratch4 h x14 x15 (Scf.trips (0#32) (Scalar.addi 0#32 64#32) 1#32))
      (Rect.unit (s := S1024x8192) ![0, 0] ![1024, 8192] inb).toLoadRect = A16 m c t := by
  refine (View.readCov_eq_canon' _ _ _).trans ?_
  rw [act_canon, e]
  exact load_whole (A16 m c t) inb

theorem wgt_buf (t : Fin cfg0.N) : View.canon (pb_k0_t2 (F := Ideal) Variants.none c none (grid0.coords t) (ms0_0 t) (hs0_0 t) (Memref.whole main_arg1) (Memref.isWhole_whole _) (Memref.whole main_arg2) (Memref.isWhole_whole _) (Memref.whole main_arg3) (Memref.isWhole_whole _) (Memref.whole main_arg4) (Memref.isWhole_whole _) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) cc0_scratch4 (BitVec.ofNat 32 (grid0.coords t 1).val) ((hs0_1 t).unread (iblk m c 1 t)) ((hs0_2 t).unread (iblk m c 2 t)) ((hs0_3 t).unread (iblk m c 3 t)) (Scf.trips (0#32) (Scalar.addi 0#32 64#32) 1#32)) = both (G m c t) (U m c t) := by
  rw [wgt_canon _ _ _ _ _ _ _ _ _ _ _ _ _ _ _ _ _ _ _ _ _ _ _ _ _ _ _ _ _ _ _ _ _ _ _ ⟨t.val % 14, by omega⟩ (coords1 t)]
  simp only [(hs0_1 t).read_unread, (hs0_2 t).read_unread, (hs0_3 t).read_unread]
  rfl

theorem load_G (t : Fin cfg0.N) (inb) :
    (View.whole cc0_scratch3).readCov (Val := Elt Ideal) (pb_k0_t2 (F := Ideal) Variants.none c none (grid0.coords t) (ms0_0 t) (hs0_0 t) (Memref.whole main_arg1) (Memref.isWhole_whole _) (Memref.whole main_arg2) (Memref.isWhole_whole _) (Memref.whole main_arg3) (Memref.isWhole_whole _) (Memref.whole main_arg4) (Memref.isWhole_whole _) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) cc0_scratch4 (BitVec.ofNat 32 (grid0.coords t 1).val) ((hs0_1 t).unread (iblk m c 1 t)) ((hs0_2 t).unread (iblk m c 2 t)) ((hs0_3 t).unread (iblk m c 3 t)) (Scf.trips (0#32) (Scalar.addi 0#32 64#32) 1#32))
      (Rect.unit (s := S8192x512) ![0, 0] ![8192, 256] inb).toLoadRect = G m c t := by
  refine (View.readCov_eq_canon' _ _ _).trans ?_
  rw [wgt_buf]
  funext j
  obtain ⟨k, l, rfl⟩ := pair2 (n0 := 8192) (n1 := 256) j
  refine (congrArg (both (G m c t) (U m c t)) (emb2 (n0 := 8192) (n1 := 512) (inb := inb) 0 0 rfl k l k ⟨l.val, by omega⟩ (by omega) (by simp))).trans ?_
  exact both_lo _ _ _ _ l.isLt

theorem load_U (t : Fin cfg0.N) (inb) :
    (View.whole cc0_scratch3).readCov (Val := Elt Ideal) (pb_k0_t2 (F := Ideal) Variants.none c none (grid0.coords t) (ms0_0 t) (hs0_0 t) (Memref.whole main_arg1) (Memref.isWhole_whole _) (Memref.whole main_arg2) (Memref.isWhole_whole _) (Memref.whole main_arg3) (Memref.isWhole_whole _) (Memref.whole main_arg4) (Memref.isWhole_whole _) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) cc0_scratch4 (BitVec.ofNat 32 (grid0.coords t 1).val) ((hs0_1 t).unread (iblk m c 1 t)) ((hs0_2 t).unread (iblk m c 2 t)) ((hs0_3 t).unread (iblk m c 3 t)) (Scf.trips (0#32) (Scalar.addi 0#32 64#32) 1#32))
      (Rect.unit (s := S8192x512) ![0, 256] ![8192, 256] inb).toLoadRect = U m c t := by
  refine (View.readCov_eq_canon' _ _ _).trans ?_
  rw [wgt_buf]
  funext j
  obtain ⟨k, l, rfl⟩ := pair2 (n0 := 8192) (n1 := 256) j
  refine (congrArg (both (G m c t) (U m c t)) (emb2 (n0 := 8192) (n1 := 512) (inb := inb) 0 256 rfl k l k ⟨256 + l.val, by omega⟩ (by omega) rfl)).trans ?_
  refine (both_hi _ _ _ _ (by show ¬ 256 + l.val < 256; omega)).trans ?_
  exact congrArg (fun q => U m c t (ix2 k q)) (Fin.ext (by show 256 + l.val - 256 = l.val; omega))

/-- The word a point reads is the rank. -/
theorem read_word (t : Fin cfg0.N) : ((ms0_0 t).view.readAt (Elt Ideal) (Rect.unit (s := S1) ![0] S1.size inb_S1_S1_0).toLoadRect ((hs0_0 t).unread (iblk m c 0 t)) (Shape.Idx.first (numel1_S1.symm ▸ Nat.one_pos))) = RK m c := by
  rw [View.readAt_apply, (hs0_0 t).read_unread, word]

theorem ld_word (t : Fin cfg0.N) (inb) (x) : View.ld (View.read (Elt Ideal) (ms0_0 t).view ((hs0_0 t).unread (iblk m c 0 t))) (Rect.unit (s := S1) ![0] ![1] inb) x = RK m c := by
  rw [(hs0_0 t).read_unread]
  exact word m c t _

theorem scratch (hk : ∃ k : Fin 8, RK m c = BitVec.ofNat 32 k.val) (n : ℕ) : ∀ (hn : n < cfg0.N), (outsAt0 m hH c n hn).2.2.2.2 = A16 m c ⟨n, hn⟩ := by
  have start : ∀ t : Fin cfg0.N, t.val % 14 = 0 → (outsAt0 m hH c t.val t.isLt).2.2.2.2 = A16 m c t := by
    intro t h0
    by_cases h1 : cond0_1 (grid0.coords t) ((ms0_0 t).view.readAt (Elt Ideal) (Rect.unit (s := S1) ![0] S1.size inb_S1_S1_0).toLoadRect ((hs0_0 t).unread (iblk m c 0 t)) (Shape.Idx.first (numel1_S1.symm ▸ Nat.one_pos)))
    · rw [outsAt0_A m hH c t h0 h1]
      dsimp only
      frame_out
      rw [read_word] at h1
      rw [act_canon]
      exact segA m c hk t h1
    · rw [outsAt0_B m hH c t h0 h1]
      dsimp only
      frame_out
      rw [read_word] at h1
      rw [act_canon]
      exact segB m c hk t h1 _ (ld_word m c t _ _) _ _ _ _
  induction n with
  | zero => exact fun hn => start ⟨0, hn⟩ rfl
  | succ n ih =>
    intro hn
    by_cases h0 : (n + 1) % 14 = 0
    · exact start ⟨n + 1, hn⟩ h0
    · rw [outsAt0_C m hH c ⟨n + 1, hn⟩ h0]
      dsimp only
      exact (ih _).trans (A16_prev m c ⟨n + 1, hn⟩ h0 (by omega))

/-- A point's product is a block of the whole gated product. -/
theorem hb_eq (t : Fin cfg0.N) (r : Fin 1024) (l : Fin 256) (q : Fin 8192) (f : Fin 3584) (hq : q.val = 1024 * (t.val / 14) + r.val)
    (hf : f.val = 256 * (t.val % 14) + l.val) :
    hb (A16 m c t) (G m c t) (U m c t) r l = Cert.UpSpec.h (RK m c) (NC m c) (NS m c) (OC m c) (OS m c) (WC m c) (WS m c) q f := by
  have hN := lt112 t
  have ha : ∀ k : Fin 8192, A16 m c t (ix2 r k) = Cert.UpSpec.act (RK m c) (NC m c) (NS m c) (OC m c) (OS m c) q k := by
    intro k
    unfold A16 Cert.UpSpec.act
    refine congrArg₂ (fun s r => Cert.UpSpec.seg (RK m c) (NC m c) (NS m c) (OC m c) (OS m c) s r k) (Fin.ext ?_) (Fin.ext ?_)
    · show t.val / 14 = q.val / 1024; omega
    · show r.val = q.val % 1024; omega
  unfold hb Cert.UpSpec.h Cert.UpSpec.y
  refine congrArg₂ Cert.UpSpec.gated (Finset.sum_congr rfl fun k _ => ?_) (Finset.sum_congr rfl fun k _ => ?_)
  · rw [ha, G_apply m c t k l ⟨f.val, by omega⟩ hf]
  · rw [ha, U_apply m c t k l ⟨3584 + f.val, by omega⟩ (by show 3584 + f.val = _; omega)]

end Cert.UpIdeal.Block

end

end
-- ==== Proof.UpOuts.lean ====
/-
What each grid point of the up kernel leaves in its four output blocks.
-/
module

public import proofs.«01_k».proof.Proof.UpBlocks

@[expose] public section

set_option maxRecDepth 16384

noncomputable section

namespace Cert.UpIdeal.Block

open Idealize.ShloMosaic Idealize.ShloMosaic.TcCoe Idealize.SL.Sem Cert.UpIdeal Cert.UpIdeal.Gen Cert.Quant Cert.Pieces

variable (m : (ℓ : Loc nD τ sig) → Buf (Elt Ideal) ℓ) (hH : Hyps m) (c : Dev nD)

/-- An index of a three-dimensional shape is a triple. -/
theorem triple3 {n0 n1 n2 : ℕ} (y : (⟨3, ![n0, n1, n2]⟩ : Shape).Idx) : ∃ (a : Fin n0) (b : Fin n1) (d : Fin n2), y = ix3 a b d :=
  ⟨y 0, y 1, y 2, by funext d; match d with | 0 => rfl | 1 => rfl | 2 => rfl⟩

/-- Two slabs stored side by side. -/
theorem canon2 (G : S1024x256.Idx → Elt Ideal .fp8e4m3) (x0 x1 : Vec Ideal S1024x128 .fp8e4m3) (i0) (i1)
    (h0 : ∀ (r : Fin 1024) (l : Fin 128), x0 (ix2 r l) = G (ix2 r ⟨l.val, by omega⟩))
    (h1 : ∀ (r : Fin 1024) (l : Fin 128), x1 (ix2 r l) = G (ix2 r ⟨128 + l.val, by omega⟩)) :
    View.canon (Val := Elt Ideal) (s := S1024x256) (e := .fp8e4m3) [⟨Rect.unit ![0, 128] ![1024, 128] i1, x1⟩, ⟨Rect.unit ![0, 0] ![1024, 128] i0, x0⟩] = G := by
  funext y
  refine View.canon_apply_of_pieces G _ ?_ y ?_
  · intro p hp x
    simp only [List.mem_cons, List.not_mem_nil, or_false] at hp
    rcases hp with rfl | rfl <;> obtain ⟨r, l, rfl⟩ := pair2 (n0 := 1024) (n1 := 128) x
    · exact (h1 r l).trans (congrArg G (emb2 (inb := i1) 0 128 rfl r l r ⟨128 + l.val, by omega⟩ (by omega) rfl).symm)
    · exact (h0 r l).trans (congrArg G (emb2 (inb := i0) 0 0 rfl r l r ⟨l.val, by omega⟩ (by omega) (by simp)).symm)
  · obtain ⟨r, l, rfl⟩ := pair2 (n0 := 1024) (n1 := 256) y
    by_cases c1 : 128 ≤ l.val
    · exact ⟨_, List.mem_cons_self, mem2 (n0 := 1024) (n1 := 256) (s0 := 1024) (s1 := 128) (inb := i1) 0 128 rfl r l ⟨by omega, by omega⟩ ⟨by omega, by omega⟩⟩
    · exact ⟨_, List.mem_cons_of_mem _ List.mem_cons_self, mem2 (n0 := 1024) (n1 := 256) (s0 := 1024) (s1 := 128) (inb := i0) 0 0 rfl r l ⟨by omega, by omega⟩ ⟨by omega, by omega⟩⟩

/-- Eight slabs stored one under the other. -/
theorem canon8 (G : S1024x256.Idx → Elt Ideal .fp8e4m3) (x0 x1 x2 x3 x4 x5 x6 x7 : Vec Ideal S128x256 .fp8e4m3) (i0) (i1) (i2) (i3) (i4) (i5) (i6) (i7)
    (h0 : ∀ (r : Fin 128) (f : Fin 256), x0 (ix2 r f) = G (ix2 ⟨0 + r.val, by omega⟩ f))
    (h1 : ∀ (r : Fin 128) (f : Fin 256), x1 (ix2 r f) = G (ix2 ⟨128 + r.val, by omega⟩ f))
    (h2 : ∀ (r : Fin 128) (f : Fin 256), x2 (ix2 r f) = G (ix2 ⟨256 + r.val, by omega⟩ f))
    (h3 : ∀ (r : Fin 128) (f : Fin 256), x3 (ix2 r f) = G (ix2 ⟨384 + r.val, by omega⟩ f))
    (h4 : ∀ (r : Fin 128) (f : Fin 256), x4 (ix2 r f) = G (ix2 ⟨512 + r.val, by omega⟩ f))
    (h5 : ∀ (r : Fin 128) (f : Fin 256), x5 (ix2 r f) = G (ix2 ⟨640 + r.val, by omega⟩ f))
    (h6 : ∀ (r : Fin 128) (f : Fin 256), x6 (ix2 r f) = G (ix2 ⟨768 + r.val, by omega⟩ f))
    (h7 : ∀ (r : Fin 128) (f : Fin 256), x7 (ix2 r f) = G (ix2 ⟨896 + r.val, by omega⟩ f)) :
    View.canon (Val := Elt Ideal) (s := S1024x256) (e := .fp8e4m3) [⟨Rect.unit ![896, 0] ![128, 256] i7, x7⟩, ⟨Rect.unit ![768, 0] ![128, 256] i6, x6⟩, ⟨Rect.unit ![640, 0] ![128, 256] i5, x5⟩, ⟨Rect.unit ![512, 0] ![128, 256] i4, x4⟩, ⟨Rect.unit ![384, 0] ![128, 256] i3, x3⟩, ⟨Rect.unit ![256, 0] ![128, 256] i2, x2⟩, ⟨Rect.unit ![128, 0] ![128, 256] i1, x1⟩, ⟨Rect.unit ![0, 0] ![128, 256] i0, x0⟩] = G := by
  funext y
  refine View.canon_apply_of_pieces G _ ?_ y ?_
  · intro p hp x
    simp only [List.mem_cons, List.not_mem_nil, or_false] at hp
    rcases hp with rfl | rfl | rfl | rfl | rfl | rfl | rfl | rfl <;> obtain ⟨r, f, rfl⟩ := pair2 (n0 := 128) (n1 := 256) x
    · exact (h7 r f).trans (congrArg G (emb2 (inb := i7) 896 0 rfl r f ⟨896 + r.val, by omega⟩ f rfl (by omega)).symm)
    · exact (h6 r f).trans (congrArg G (emb2 (inb := i6) 768 0 rfl r f ⟨768 + r.val, by omega⟩ f rfl (by omega)).symm)
    · exact (h5 r f).trans (congrArg G (emb2 (inb := i5) 640 0 rfl r f ⟨640 + r.val, by omega⟩ f rfl (by omega)).symm)
    · exact (h4 r f).trans (congrArg G (emb2 (inb := i4) 512 0 rfl r f ⟨512 + r.val, by omega⟩ f rfl (by omega)).symm)
    · exact (h3 r f).trans (congrArg G (emb2 (inb := i3) 384 0 rfl r f ⟨384 + r.val, by omega⟩ f rfl (by omega)).symm)
    · exact (h2 r f).trans (congrArg G (emb2 (inb := i2) 256 0 rfl r f ⟨256 + r.val, by omega⟩ f rfl (by omega)).symm)
    · exact (h1 r f).trans (congrArg G (emb2 (inb := i1) 128 0 rfl r f ⟨128 + r.val, by omega⟩ f rfl (by omega)).symm)
    · exact (h0 r f).trans (congrArg G (emb2 (inb := i0) 0 0 rfl r f ⟨0 + r.val, by omega⟩ f rfl (by omega)).symm)
  · obtain ⟨r, f, rfl⟩ := pair2 (n0 := 1024) (n1 := 256) y
    by_cases c7 : 896 ≤ r.val
    · exact ⟨_, List.mem_cons_self, mem2 (n0 := 1024) (n1 := 256) (s0 := 128) (s1 := 256) (inb := i7) 896 0 rfl r f ⟨by omega, by omega⟩ ⟨by omega, by omega⟩⟩
    by_cases c6 : 768 ≤ r.val
    · exact ⟨_, List.mem_cons_of_mem _ List.mem_cons_self, mem2 (n0 := 1024) (n1 := 256) (s0 := 128) (s1 := 256) (inb := i6) 768 0 rfl r f ⟨by omega, by omega⟩ ⟨by omega, by omega⟩⟩
    by_cases c5 : 640 ≤ r.val
    · exact ⟨_, List.mem_cons_of_mem _ (List.mem_cons_of_mem _ List.mem_cons_self), mem2 (n0 := 1024) (n1 := 256) (s0 := 128) (s1 := 256) (inb := i5) 640 0 rfl r f ⟨by omega, by omega⟩ ⟨by omega, by omega⟩⟩
    by_cases c4 : 512 ≤ r.val
    · exact ⟨_, List.mem_cons_of_mem _ (List.mem_cons_of_mem _ (List.mem_cons_of_mem _ List.mem_cons_self)), mem2 (n0 := 1024) (n1 := 256) (s0 := 128) (s1 := 256) (inb := i4) 512 0 rfl r f ⟨by omega, by omega⟩ ⟨by omega, by omega⟩⟩
    by_cases c3 : 384 ≤ r.val
    · exact ⟨_, List.mem_cons_of_mem _ (List.mem_cons_of_mem _ (List.mem_cons_of_mem _ (List.mem_cons_of_mem _ List.mem_cons_self))), mem2 (n0 := 1024) (n1 := 256) (s0 := 128) (s1 := 256) (inb := i3) 384 0 rfl r f ⟨by omega, by omega⟩ ⟨by omega, by omega⟩⟩
    by_cases c2 : 256 ≤ r.val
    · exact ⟨_, List.mem_cons_of_mem _ (List.mem_cons_of_mem _ (List.mem_cons_of_mem _ (List.mem_cons_of_mem _ (List.mem_cons_of_mem _ List.mem_cons_self)))), mem2 (n0 := 1024) (n1 := 256) (s0 := 128) (s1 := 256) (inb := i2) 256 0 rfl r f ⟨by omega, by omega⟩ ⟨by omega, by omega⟩⟩
    by_cases c1 : 128 ≤ r.val
    · exact ⟨_, List.mem_cons_of_mem _ (List.mem_cons_of_mem _ (List.mem_cons_of_mem _ (List.mem_cons_of_mem _ (List.mem_cons_of_mem _ (List.mem_cons_of_mem _ List.mem_cons_self))))), mem2 (n0 := 1024) (n1 := 256) (s0 := 128) (s1 := 256) (inb := i1) 128 0 rfl r f ⟨by omega, by omega⟩ ⟨by omega, by omega⟩⟩
    · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem2 (n0 := 1024) (n1 := 256) (s0 := 128) (s1 := 256) (inb := i0) 0 0 rfl r f ⟨by omega, by omega⟩ ⟨by omega, by omega⟩⟩

/-- Eight rows of scales stored one under the other. -/
theorem canonS (G : S1x8x256.Idx → Elt Ideal .f32) (x0 x1 x2 x3 x4 x5 x6 x7 : Vec Ideal S1x1x256 .f32) (i0) (i1) (i2) (i3) (i4) (i5) (i6) (i7)
    (h0 : ∀ f : Fin 256, x0 (ix3 0 0 f) = G (ix3 0 0 f))
    (h1 : ∀ f : Fin 256, x1 (ix3 0 0 f) = G (ix3 0 1 f))
    (h2 : ∀ f : Fin 256, x2 (ix3 0 0 f) = G (ix3 0 2 f))
    (h3 : ∀ f : Fin 256, x3 (ix3 0 0 f) = G (ix3 0 3 f))
    (h4 : ∀ f : Fin 256, x4 (ix3 0 0 f) = G (ix3 0 4 f))
    (h5 : ∀ f : Fin 256, x5 (ix3 0 0 f) = G (ix3 0 5 f))
    (h6 : ∀ f : Fin 256, x6 (ix3 0 0 f) = G (ix3 0 6 f))
    (h7 : ∀ f : Fin 256, x7 (ix3 0 0 f) = G (ix3 0 7 f)) :
    View.canon (Val := Elt Ideal) (s := S1x8x256) (e := .f32) [⟨Rect.unit ![0, 7, 0] ![1, 1, 256] i7, x7⟩, ⟨Rect.unit ![0, 6, 0] ![1, 1, 256] i6, x6⟩, ⟨Rect.unit ![0, 5, 0] ![1, 1, 256] i5, x5⟩, ⟨Rect.unit ![0, 4, 0] ![1, 1, 256] i4, x4⟩, ⟨Rect.unit ![0, 3, 0] ![1, 1, 256] i3, x3⟩, ⟨Rect.unit ![0, 2, 0] ![1, 1, 256] i2, x2⟩, ⟨Rect.unit ![0, 1, 0] ![1, 1, 256] i1, x1⟩, ⟨Rect.unit ![0, 0, 0] ![1, 1, 256] i0, x0⟩] = G := by
  have emb : ∀ (j : ℕ) (hj : j < 8) (i) (a b : Fin 1) (f : Fin 256),
      (Rect.unit (s := S1x8x256) ![0, j, 0] ![1, 1, 256] i).emb (ix3 a b f) = ix3 0 ⟨j, hj⟩ f := by
    intro j hj i a b f
    funext d
    refine Fin.ext ?_
    match d with
    | 0 => show 0 + 1 * a.val = 0; omega
    | 1 => show j + 1 * b.val = j; omega
    | 2 => show 0 + 1 * f.val = f.val; omega
  have ins : ∀ (j : ℕ) (hj : j < 8) (i) (a : Fin 1) (b : Fin 8) (f : Fin 256), b.val = j →
      (ix3 a b f : S1x8x256.Idx) ∈ (Rect.unit (s := S1x8x256) ![0, j, 0] ![1, 1, 256] i).set := by
    intro j hj i a b f hb
    refine Rect.mem_set_unit.mpr fun d => ?_
    match d with
    | 0 => exact ⟨Nat.zero_le _, by show a.val < 0 + 1; omega⟩
    | 1 => exact ⟨by show j ≤ b.val; omega, by show b.val < j + 1; omega⟩
    | 2 => exact ⟨Nat.zero_le _, by show f.val < 0 + 256; omega⟩
  funext y
  refine View.canon_apply_of_pieces G _ ?_ y ?_
  · intro p hp x
    simp only [List.mem_cons, List.not_mem_nil, or_false] at hp
    rcases hp with rfl | rfl | rfl | rfl | rfl | rfl | rfl | rfl <;>
      (obtain ⟨a, b, f, rfl⟩ := triple3 (n0 := 1) (n1 := 1) (n2 := 256) x
       obtain rfl : a = 0 := Subsingleton.elim _ _
       obtain rfl : b = 0 := Subsingleton.elim _ _)
    · exact (h7 f).trans (congrArg G (emb 7 (by decide) i7 0 0 f).symm)
    · exact (h6 f).trans (congrArg G (emb 6 (by decide) i6 0 0 f).symm)
    · exact (h5 f).trans (congrArg G (emb 5 (by decide) i5 0 0 f).symm)
    · exact (h4 f).trans (congrArg G (emb 4 (by decide) i4 0 0 f).symm)
    · exact (h3 f).trans (congrArg G (emb 3 (by decide) i3 0 0 f).symm)
    · exact (h2 f).trans (congrArg G (emb 2 (by decide) i2 0 0 f).symm)
    · exact (h1 f).trans (congrArg G (emb 1 (by decide) i1 0 0 f).symm)
    · exact (h0 f).trans (congrArg G (emb 0 (by decide) i0 0 0 f).symm)
  · obtain ⟨a, b, f, rfl⟩ := triple3 (n0 := 1) (n1 := 8) (n2 := 256) y
    by_cases c7 : b.val = 7
    · exact ⟨_, List.mem_cons_self, ins 7 (by decide) i7 a b f c7⟩
    by_cases c6 : b.val = 6
    · exact ⟨_, List.mem_cons_of_mem _ List.mem_cons_self, ins 6 (by decide) i6 a b f c6⟩
    by_cases c5 : b.val = 5
    · exact ⟨_, List.mem_cons_of_mem _ (List.mem_cons_of_mem _ List.mem_cons_self), ins 5 (by decide) i5 a b f c5⟩
    by_cases c4 : b.val = 4
    · exact ⟨_, List.mem_cons_of_mem _ (List.mem_cons_of_mem _ (List.mem_cons_of_mem _ List.mem_cons_self)), ins 4 (by decide) i4 a b f c4⟩
    by_cases c3 : b.val = 3
    · exact ⟨_, List.mem_cons_of_mem _ (List.mem_cons_of_mem _ (List.mem_cons_of_mem _ (List.mem_cons_of_mem _ List.mem_cons_self))), ins 3 (by decide) i3 a b f c3⟩
    by_cases c2 : b.val = 2
    · exact ⟨_, List.mem_cons_of_mem _ (List.mem_cons_of_mem _ (List.mem_cons_of_mem _ (List.mem_cons_of_mem _ (List.mem_cons_of_mem _ List.mem_cons_self)))), ins 2 (by decide) i2 a b f c2⟩
    by_cases c1 : b.val = 1
    · exact ⟨_, List.mem_cons_of_mem _ (List.mem_cons_of_mem _ (List.mem_cons_of_mem _ (List.mem_cons_of_mem _ (List.mem_cons_of_mem _ (List.mem_cons_of_mem _ List.mem_cons_self))))), ins 1 (by decide) i1 a b f c1⟩
    · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), ins 0 (by decide) i0 a b f (by omega)⟩

section Blocks
variable (a : Vec Ideal S1024x8192 .bf16) (g u : Vec Ideal S8192x256 .bf16)

/-- A point's block of row codes. -/
def rowBlk : S1024x256.Idx → EReal := fun y =>
  code (hb a g u (y 0) (y 1)) (kInv (tRow fun l : Fin 128 => hb a g u (y 0) ⟨128 * ((y 1).val / 128) + l.val, by
    have : (y 1).val < 256 := (y 1).isLt; show _ < 256; omega⟩))
/-- A point's block of column codes. -/
def colBlk : S1024x256.Idx → EReal := fun y =>
  code (hb a g u (y 0) (y 1)) (kInv (tRow fun l : Fin 128 => hb a g u ⟨128 * ((y 0).val / 128) + l.val, by
    have : (y 0).val < 1024 := (y 0).isLt; show _ < 1024; omega⟩ (y 1)))
/-- A point's block of column scales. -/
def colScaleBlk : S1x8x256.Idx → EReal := fun y =>
  kScale (tRow fun l : Fin 128 => hb a g u ⟨128 * (y 1).val + l.val, by have : (y 1).val < 8 := (y 1).isLt; show _ < 1024; omega⟩ (y 2))
/-- The row scale of one of the two slabs of a point. -/
def rowScale (r : Fin 1024) (j : Fin 2) : EReal := kScale (tRow fun l : Fin 128 => hb a g u r ⟨128 * j.val + l.val, by omega⟩)

theorem slab_row (b : Fin 2) (x : FVec Ideal S1024x128 .f32)
    (hx : ∀ (r : Fin 1024) (l : Fin 128), x (ix2 r l) = hb a g u r ⟨128 * b.val + l.val, by omega⟩) (r : Fin 1024) (l : Fin 128) (q : Fin 256)
    (hq : q.val = 128 * b.val + l.val) : rCodesV x (ix2 r l) = rowBlk a g u (ix2 r q) := by
  obtain ⟨q, hlt⟩ := q
  obtain rfl : q = 128 * b.val + l.val := hq
  rw [rCodesV_apply, hx]
  unfold rowBlk
  show code (hb a g u r _) (kInv (tRow fun l => x (ix2 r l))) = code (hb a g u r _) _
  congr 3
  funext l'
  rw [hx]
  congr 1
  exact Fin.ext (by show 128 * b.val + l'.val = 128 * ((128 * b.val + l.val) / 128) + l'.val; omega)

theorem slab_col (b : Fin 8) (x : FVec Ideal S128x256 .f32)
    (hx : ∀ (r : Fin 128) (f : Fin 256), x (ix2 r f) = hb a g u ⟨128 * b.val + r.val, by omega⟩ f) (r : Fin 128) (f : Fin 256) (q : Fin 1024)
    (hq : q.val = 128 * b.val + r.val) : cCodesV x (ix2 r f) = colBlk a g u (ix2 q f) := by
  obtain ⟨q, hlt⟩ := q
  obtain rfl : q = 128 * b.val + r.val := hq
  rw [cCodesV_apply, hx]
  unfold colBlk
  show code (hb a g u _ f) (kInv (tRow fun l => x (ix2 l f))) = code (hb a g u _ f) _
  congr 3
  funext l'
  rw [hx]
  exact congrArg (fun z => hb a g u z f) (Fin.ext (by show 128 * b.val + l'.val = 128 * ((128 * b.val + r.val) / 128) + l'.val; omega))

theorem slab_scale (b : Fin 8) (x : FVec Ideal S128x256 .f32)
    (hx : ∀ (r : Fin 128) (f : Fin 256), x (ix2 r f) = hb a g u ⟨128 * b.val + r.val, by omega⟩ f) (f : Fin 256) :
    cScaleV x (ix3 0 0 f) = colScaleBlk a g u (ix3 0 b f) := by
  rw [cScaleV_apply]
  unfold colScaleBlk
  exact congrArg kScale (congrArg tRow (funext fun l => hx l f))

theorem rows0 (r : Fin 1024) (l : Fin 128) : extractStridedSlice S1024x128 ![0, 0] (k0_pay10 a g a u) slices_S1024x256_o0_0_S1024x128 (ix2 r l)
    = hb a g u r ⟨128 * (0 : Fin 2).val + l.val, by show 128 * 0 + l.val < 256; omega⟩ :=
  (slab0 _ r l).trans ((pay10_apply a g u r _).trans (congrArg (hb a g u r) (Fin.ext (by show l.val = 128 * 0 + l.val; omega))))
theorem rows1 (r : Fin 1024) (l : Fin 128) : extractStridedSlice S1024x128 ![0, 128] (k0_pay10 a g a u) slices_S1024x256_o0_128_S1024x128 (ix2 r l)
    = hb a g u r ⟨128 * (1 : Fin 2).val + l.val, by show 128 * 1 + l.val < 256; omega⟩ :=
  (slab1 _ r l).trans (pay10_apply a g u r _)
theorem cols0 (r : Fin 128) (f : Fin 256) : extractStridedSlice S128x256 ![0, 0] (k0_pay10 a g a u) slices_S1024x256_o0_0_S128x256 (ix2 r f)
    = hb a g u ⟨128 * (0 : Fin 8).val + r.val, by show 128 * 0 + r.val < 1024; omega⟩ f := by
  have h : ∀ v : FVec Ideal S1024x256 .f32, extractStridedSlice S128x256 ![0, 0] v slices_S1024x256_o0_0_S128x256 (ix2 r f)
      = v (ix2 ⟨0 + r.val, by omega⟩ f) := by
    intro v
    pointwise []
  exact (h _).trans (pay10_apply a g u _ f)
theorem cols1 (r : Fin 128) (f : Fin 256) : extractStridedSlice S128x256 ![128, 0] (k0_pay10 a g a u) slices_S1024x256_o128_0_S128x256 (ix2 r f)
    = hb a g u ⟨128 * (1 : Fin 8).val + r.val, by show 128 * 1 + r.val < 1024; omega⟩ f := by
  have h : ∀ v : FVec Ideal S1024x256 .f32, extractStridedSlice S128x256 ![128, 0] v slices_S1024x256_o128_0_S128x256 (ix2 r f)
      = v (ix2 ⟨128 + r.val, by omega⟩ f) := by
    intro v
    pointwise []
  exact (h _).trans (pay10_apply a g u _ f)
theorem cols2 (r : Fin 128) (f : Fin 256) : extractStridedSlice S128x256 ![256, 0] (k0_pay10 a g a u) slices_S1024x256_o256_0_S128x256 (ix2 r f)
    = hb a g u ⟨128 * (2 : Fin 8).val + r.val, by show 128 * 2 + r.val < 1024; omega⟩ f := by
  have h : ∀ v : FVec Ideal S1024x256 .f32, extractStridedSlice S128x256 ![256, 0] v slices_S1024x256_o256_0_S128x256 (ix2 r f)
      = v (ix2 ⟨256 + r.val, by omega⟩ f) := by
    intro v
    pointwise []
  exact (h _).trans (pay10_apply a g u _ f)
theorem cols3 (r : Fin 128) (f : Fin 256) : extractStridedSlice S128x256 ![384, 0] (k0_pay10 a g a u) slices_S1024x256_o384_0_S128x256 (ix2 r f)
    = hb a g u ⟨128 * (3 : Fin 8).val + r.val, by show 128 * 3 + r.val < 1024; omega⟩ f := by
  have h : ∀ v : FVec Ideal S1024x256 .f32, extractStridedSlice S128x256 ![384, 0] v slices_S1024x256_o384_0_S128x256 (ix2 r f)
      = v (ix2 ⟨384 + r.val, by omega⟩ f) := by
    intro v
    pointwise []
  exact (h _).trans (pay10_apply a g u _ f)
theorem cols4 (r : Fin 128) (f : Fin 256) : extractStridedSlice S128x256 ![512, 0] (k0_pay10 a g a u) slices_S1024x256_o512_0_S128x256 (ix2 r f)
    = hb a g u ⟨128 * (4 : Fin 8).val + r.val, by show 128 * 4 + r.val < 1024; omega⟩ f := by
  have h : ∀ v : FVec Ideal S1024x256 .f32, extractStridedSlice S128x256 ![512, 0] v slices_S1024x256_o512_0_S128x256 (ix2 r f)
      = v (ix2 ⟨512 + r.val, by omega⟩ f) := by
    intro v
    pointwise []
  exact (h _).trans (pay10_apply a g u _ f)
theorem cols5 (r : Fin 128) (f : Fin 256) : extractStridedSlice S128x256 ![640, 0] (k0_pay10 a g a u) slices_S1024x256_o640_0_S128x256 (ix2 r f)
    = hb a g u ⟨128 * (5 : Fin 8).val + r.val, by show 128 * 5 + r.val < 1024; omega⟩ f := by
  have h : ∀ v : FVec Ideal S1024x256 .f32, extractStridedSlice S128x256 ![640, 0] v slices_S1024x256_o640_0_S128x256 (ix2 r f)
      = v (ix2 ⟨640 + r.val, by omega⟩ f) := by
    intro v
    pointwise []
  exact (h _).trans (pay10_apply a g u _ f)
theorem cols6 (r : Fin 128) (f : Fin 256) : extractStridedSlice S128x256 ![768, 0] (k0_pay10 a g a u) slices_S1024x256_o768_0_S128x256 (ix2 r f)
    = hb a g u ⟨128 * (6 : Fin 8).val + r.val, by show 128 * 6 + r.val < 1024; omega⟩ f := by
  have h : ∀ v : FVec Ideal S1024x256 .f32, extractStridedSlice S128x256 ![768, 0] v slices_S1024x256_o768_0_S128x256 (ix2 r f)
      = v (ix2 ⟨768 + r.val, by omega⟩ f) := by
    intro v
    pointwise []
  exact (h _).trans (pay10_apply a g u _ f)
theorem cols7 (r : Fin 128) (f : Fin 256) : extractStridedSlice S128x256 ![896, 0] (k0_pay10 a g a u) slices_S1024x256_o896_0_S128x256 (ix2 r f)
    = hb a g u ⟨128 * (7 : Fin 8).val + r.val, by show 128 * 7 + r.val < 1024; omega⟩ f := by
  have h : ∀ v : FVec Ideal S1024x256 .f32, extractStridedSlice S128x256 ![896, 0] v slices_S1024x256_o896_0_S128x256 (ix2 r f)
      = v (ix2 ⟨896 + r.val, by omega⟩ f) := by
    intro v
    pointwise []
  exact (h _).trans (pay10_apply a g u _ f)

theorem column (n j : ℕ) : Scalar.addi (Scalar.muli (BitVec.ofNat 32 n) 2#32) (BitVec.ofNat 32 j) = BitVec.ofNat 32 (2 * n + j) := by
  show BitVec.ofNat 32 n * BitVec.ofNat 32 2 + BitVec.ofNat 32 j = _
  rw [← BitVec.ofNat_mul, ← BitVec.ofNat_add, Nat.mul_comm]

theorem store_at (n j : ℕ) (hn : n < 14) (hj : j < 2) (x : FVec Ideal S1024x128 .f32) (old : Vec Ideal S1024x28 .f32) (r : Fin 1024) (b : Fin 28) :
    rStoreV (Scalar.addi (Scalar.muli (BitVec.ofNat 32 n) 2#32) (BitVec.ofNat 32 j)) x old (ix2 r b)
      = if b.val = 2 * n + j then kScale (tRow fun l => x (ix2 r l)) else old (ix2 r b) := by
  rw [rStoreV_apply, column]
  exact if_congr (ofNat_eq_iff _ _ (by omega) (by omega)) rfl rfl

/-- A point's two stores of row scales. -/
theorem stores (n : ℕ) (hn : n < 14) (old : Vec Ideal S1024x28 .f32) (r : Fin 1024) (b : Fin 28) :
    rStoreV (Scalar.addi (Scalar.muli (BitVec.ofNat 32 n) 2#32) 1#32) (extractStridedSlice S1024x128 ![0, 128] (k0_pay10 a g a u) slices_S1024x256_o0_128_S1024x128)
      (rStoreV (Scalar.addi (Scalar.muli (BitVec.ofNat 32 n) 2#32) 0#32) (extractStridedSlice S1024x128 ![0, 0] (k0_pay10 a g a u) slices_S1024x256_o0_0_S1024x128) old) (ix2 r b)
      = if b.val / 2 = n then rowScale a g u r ⟨b.val % 2, Nat.mod_lt _ (by decide)⟩ else old (ix2 r b) := by
  rw [store_at n 1 hn (by decide), store_at n 0 hn (by decide)]
  simp only [rows0, rows1]
  unfold rowScale
  by_cases hb : b.val / 2 = n
  · rw [if_pos hb]
    have hm : b.val % 2 = 0 ∨ b.val % 2 = 1 := by omega
    rcases hm with h | h
    · rw [if_neg (by omega), if_pos (by omega)]; simp only [h]; rfl
    · rw [if_pos (by omega)]; simp only [h]; rfl
  · rw [if_neg hb, if_neg (by omega), if_neg (by omega)]

end Blocks

theorem blk4 (hk : ∃ k : Fin 8, RK m c = BitVec.ofNat 32 k.val) (t : Fin cfg0.N) : (outsAt0 m hH c t.val t.isLt).1 = rowBlk (A16 m c t) (G m c t) (U m c t) := by
  by_cases h0 : t.val % 14 = 0
  · by_cases h1 : cond0_1 (grid0.coords t) ((ms0_0 t).view.readAt (Elt Ideal) (Rect.unit (s := S1) ![0] S1.size inb_S1_S1_0).toLoadRect ((hs0_0 t).unread (iblk m c 0 t)) (Shape.Idx.first (numel1_S1.symm ▸ Nat.one_pos)))
    · have h1' := h1
      rw [read_word] at h1'
      rw [outsAt0_A m hH c t h0 h1]
      dsimp only
      frame_out
      rw [load_act m c t, load_G, load_U]
      refine canon2 _ _ _ _ _ ?_ ?_
      · intro r l
        show rCodesV (extractStridedSlice S1024x128 ![0, 0] (k0_pay10 (A16 m c t) (G m c t) (A16 m c t) (U m c t)) slices_S1024x256_o0_0_S1024x128) (ix2 r l) = _
        exact slab_row _ _ _ 0 _ (rows0 _ _ _) r l _ (by simp)
      · intro r l
        show rCodesV (extractStridedSlice S1024x128 ![0, 128] (k0_pay10 (A16 m c t) (G m c t) (A16 m c t) (U m c t)) slices_S1024x256_o0_128_S1024x128) (ix2 r l) = _
        exact slab_row _ _ _ 1 _ (rows1 _ _ _) r l _ rfl
      · exact segA m c hk t h1'
    · have h1' := h1
      rw [read_word] at h1'
      rw [outsAt0_B m hH c t h0 h1]
      dsimp only
      frame_out
      rw [load_act m c t, load_G, load_U]
      refine canon2 _ _ _ _ _ ?_ ?_
      · intro r l
        show rCodesV (extractStridedSlice S1024x128 ![0, 0] (k0_pay10 (A16 m c t) (G m c t) (A16 m c t) (U m c t)) slices_S1024x256_o0_0_S1024x128) (ix2 r l) = _
        exact slab_row _ _ _ 0 _ (rows0 _ _ _) r l _ (by simp)
      · intro r l
        show rCodesV (extractStridedSlice S1024x128 ![0, 128] (k0_pay10 (A16 m c t) (G m c t) (A16 m c t) (U m c t)) slices_S1024x256_o0_128_S1024x128) (ix2 r l) = _
        exact slab_row _ _ _ 1 _ (rows1 _ _ _) r l _ rfl
      · exact segB m c hk t h1' _ (ld_word m c t _ _) _ _ _ _
  · rw [outsAt0_C m hH c t h0]
    dsimp only
    frame_out
    rw [(Memref.isWhole_whole cc0_scratch2).read_unread, scratch m hH c hk _ _, A16_prev m c t h0, load_G, load_U]
    refine canon2 _ _ _ _ _ ?_ ?_
    · intro r l
      show rCodesV (extractStridedSlice S1024x128 ![0, 0] (k0_pay10 (A16 m c t) (G m c t) (A16 m c t) (U m c t)) slices_S1024x256_o0_0_S1024x128) (ix2 r l) = _
      exact slab_row _ _ _ 0 _ (rows0 _ _ _) r l _ (by simp)
    · intro r l
      show rCodesV (extractStridedSlice S1024x128 ![0, 128] (k0_pay10 (A16 m c t) (G m c t) (A16 m c t) (U m c t)) slices_S1024x256_o0_128_S1024x128) (ix2 r l) = _
      exact slab_row _ _ _ 1 _ (rows1 _ _ _) r l _ rfl

theorem blk6 (hk : ∃ k : Fin 8, RK m c = BitVec.ofNat 32 k.val) (t : Fin cfg0.N) : (outsAt0 m hH c t.val t.isLt).2.2.1 = colBlk (A16 m c t) (G m c t) (U m c t) := by
  by_cases h0 : t.val % 14 = 0
  · by_cases h1 : cond0_1 (grid0.coords t) ((ms0_0 t).view.readAt (Elt Ideal) (Rect.unit (s := S1) ![0] S1.size inb_S1_S1_0).toLoadRect ((hs0_0 t).unread (iblk m c 0 t)) (Shape.Idx.first (numel1_S1.symm ▸ Nat.one_pos)))
    · have h1' := h1
      rw [read_word] at h1'
      rw [outsAt0_A m hH c t h0 h1]
      dsimp only
      frame_out
      rw [load_act m c t, load_G, load_U]
      refine canon8 _ _ _ _ _ _ _ _ _ _ _ _ _ _ _ _ _ ?_ ?_ ?_ ?_ ?_ ?_ ?_ ?_
      · intro r f
        show cCodesV (extractStridedSlice S128x256 ![0, 0] (k0_pay10 (A16 m c t) (G m c t) (A16 m c t) (U m c t)) slices_S1024x256_o0_0_S128x256) (ix2 r f) = _
        exact slab_col _ _ _ 0 _ (cols0 _ _ _) r f _ rfl
      · intro r f
        show cCodesV (extractStridedSlice S128x256 ![128, 0] (k0_pay10 (A16 m c t) (G m c t) (A16 m c t) (U m c t)) slices_S1024x256_o128_0_S128x256) (ix2 r f) = _
        exact slab_col _ _ _ 1 _ (cols1 _ _ _) r f _ rfl
      · intro r f
        show cCodesV (extractStridedSlice S128x256 ![256, 0] (k0_pay10 (A16 m c t) (G m c t) (A16 m c t) (U m c t)) slices_S1024x256_o256_0_S128x256) (ix2 r f) = _
        exact slab_col _ _ _ 2 _ (cols2 _ _ _) r f _ rfl
      · intro r f
        show cCodesV (extractStridedSlice S128x256 ![384, 0] (k0_pay10 (A16 m c t) (G m c t) (A16 m c t) (U m c t)) slices_S1024x256_o384_0_S128x256) (ix2 r f) = _
        exact slab_col _ _ _ 3 _ (cols3 _ _ _) r f _ rfl
      · intro r f
        show cCodesV (extractStridedSlice S128x256 ![512, 0] (k0_pay10 (A16 m c t) (G m c t) (A16 m c t) (U m c t)) slices_S1024x256_o512_0_S128x256) (ix2 r f) = _
        exact slab_col _ _ _ 4 _ (cols4 _ _ _) r f _ rfl
      · intro r f
        show cCodesV (extractStridedSlice S128x256 ![640, 0] (k0_pay10 (A16 m c t) (G m c t) (A16 m c t) (U m c t)) slices_S1024x256_o640_0_S128x256) (ix2 r f) = _
        exact slab_col _ _ _ 5 _ (cols5 _ _ _) r f _ rfl
      · intro r f
        show cCodesV (extractStridedSlice S128x256 ![768, 0] (k0_pay10 (A16 m c t) (G m c t) (A16 m c t) (U m c t)) slices_S1024x256_o768_0_S128x256) (ix2 r f) = _
        exact slab_col _ _ _ 6 _ (cols6 _ _ _) r f _ rfl
      · intro r f
        show cCodesV (extractStridedSlice S128x256 ![896, 0] (k0_pay10 (A16 m c t) (G m c t) (A16 m c t) (U m c t)) slices_S1024x256_o896_0_S128x256) (ix2 r f) = _
        exact slab_col _ _ _ 7 _ (cols7 _ _ _) r f _ rfl
      · exact segA m c hk t h1'
    · have h1' := h1
      rw [read_word] at h1'
      rw [outsAt0_B m hH c t h0 h1]
      dsimp only
      frame_out
      rw [load_act m c t, load_G, load_U]
      refine canon8 _ _ _ _ _ _ _ _ _ _ _ _ _ _ _ _ _ ?_ ?_ ?_ ?_ ?_ ?_ ?_ ?_
      · intro r f
        show cCodesV (extractStridedSlice S128x256 ![0, 0] (k0_pay10 (A16 m c t) (G m c t) (A16 m c t) (U m c t)) slices_S1024x256_o0_0_S128x256) (ix2 r f) = _
        exact slab_col _ _ _ 0 _ (cols0 _ _ _) r f _ rfl
      · intro r f
        show cCodesV (extractStridedSlice S128x256 ![128, 0] (k0_pay10 (A16 m c t) (G m c t) (A16 m c t) (U m c t)) slices_S1024x256_o128_0_S128x256) (ix2 r f) = _
        exact slab_col _ _ _ 1 _ (cols1 _ _ _) r f _ rfl
      · intro r f
        show cCodesV (extractStridedSlice S128x256 ![256, 0] (k0_pay10 (A16 m c t) (G m c t) (A16 m c t) (U m c t)) slices_S1024x256_o256_0_S128x256) (ix2 r f) = _
        exact slab_col _ _ _ 2 _ (cols2 _ _ _) r f _ rfl
      · intro r f
        show cCodesV (extractStridedSlice S128x256 ![384, 0] (k0_pay10 (A16 m c t) (G m c t) (A16 m c t) (U m c t)) slices_S1024x256_o384_0_S128x256) (ix2 r f) = _
        exact slab_col _ _ _ 3 _ (cols3 _ _ _) r f _ rfl
      · intro r f
        show cCodesV (extractStridedSlice S128x256 ![512, 0] (k0_pay10 (A16 m c t) (G m c t) (A16 m c t) (U m c t)) slices_S1024x256_o512_0_S128x256) (ix2 r f) = _
        exact slab_col _ _ _ 4 _ (cols4 _ _ _) r f _ rfl
      · intro r f
        show cCodesV (extractStridedSlice S128x256 ![640, 0] (k0_pay10 (A16 m c t) (G m c t) (A16 m c t) (U m c t)) slices_S1024x256_o640_0_S128x256) (ix2 r f) = _
        exact slab_col _ _ _ 5 _ (cols5 _ _ _) r f _ rfl
      · intro r f
        show cCodesV (extractStridedSlice S128x256 ![768, 0] (k0_pay10 (A16 m c t) (G m c t) (A16 m c t) (U m c t)) slices_S1024x256_o768_0_S128x256) (ix2 r f) = _
        exact slab_col _ _ _ 6 _ (cols6 _ _ _) r f _ rfl
      · intro r f
        show cCodesV (extractStridedSlice S128x256 ![896, 0] (k0_pay10 (A16 m c t) (G m c t) (A16 m c t) (U m c t)) slices_S1024x256_o896_0_S128x256) (ix2 r f) = _
        exact slab_col _ _ _ 7 _ (cols7 _ _ _) r f _ rfl
      · exact segB m c hk t h1' _ (ld_word m c t _ _) _ _ _ _
  · rw [outsAt0_C m hH c t h0]
    dsimp only
    frame_out
    rw [(Memref.isWhole_whole cc0_scratch2).read_unread, scratch m hH c hk _ _, A16_prev m c t h0, load_G, load_U]
    refine canon8 _ _ _ _ _ _ _ _ _ _ _ _ _ _ _ _ _ ?_ ?_ ?_ ?_ ?_ ?_ ?_ ?_
    · intro r f
      show cCodesV (extractStridedSlice S128x256 ![0, 0] (k0_pay10 (A16 m c t) (G m c t) (A16 m c t) (U m c t)) slices_S1024x256_o0_0_S128x256) (ix2 r f) = _
      exact slab_col _ _ _ 0 _ (cols0 _ _ _) r f _ rfl
    · intro r f
      show cCodesV (extractStridedSlice S128x256 ![128, 0] (k0_pay10 (A16 m c t) (G m c t) (A16 m c t) (U m c t)) slices_S1024x256_o128_0_S128x256) (ix2 r f) = _
      exact slab_col _ _ _ 1 _ (cols1 _ _ _) r f _ rfl
    · intro r f
      show cCodesV (extractStridedSlice S128x256 ![256, 0] (k0_pay10 (A16 m c t) (G m c t) (A16 m c t) (U m c t)) slices_S1024x256_o256_0_S128x256) (ix2 r f) = _
      exact slab_col _ _ _ 2 _ (cols2 _ _ _) r f _ rfl
    · intro r f
      show cCodesV (extractStridedSlice S128x256 ![384, 0] (k0_pay10 (A16 m c t) (G m c t) (A16 m c t) (U m c t)) slices_S1024x256_o384_0_S128x256) (ix2 r f) = _
      exact slab_col _ _ _ 3 _ (cols3 _ _ _) r f _ rfl
    · intro r f
      show cCodesV (extractStridedSlice S128x256 ![512, 0] (k0_pay10 (A16 m c t) (G m c t) (A16 m c t) (U m c t)) slices_S1024x256_o512_0_S128x256) (ix2 r f) = _
      exact slab_col _ _ _ 4 _ (cols4 _ _ _) r f _ rfl
    · intro r f
      show cCodesV (extractStridedSlice S128x256 ![640, 0] (k0_pay10 (A16 m c t) (G m c t) (A16 m c t) (U m c t)) slices_S1024x256_o640_0_S128x256) (ix2 r f) = _
      exact slab_col _ _ _ 5 _ (cols5 _ _ _) r f _ rfl
    · intro r f
      show cCodesV (extractStridedSlice S128x256 ![768, 0] (k0_pay10 (A16 m c t) (G m c t) (A16 m c t) (U m c t)) slices_S1024x256_o768_0_S128x256) (ix2 r f) = _
      exact slab_col _ _ _ 6 _ (cols6 _ _ _) r f _ rfl
    · intro r f
      show cCodesV (extractStridedSlice S128x256 ![896, 0] (k0_pay10 (A16 m c t) (G m c t) (A16 m c t) (U m c t)) slices_S1024x256_o896_0_S128x256) (ix2 r f) = _
      exact slab_col _ _ _ 7 _ (cols7 _ _ _) r f _ rfl

theorem blk7 (hk : ∃ k : Fin 8, RK m c = BitVec.ofNat 32 k.val) (t : Fin cfg0.N) : (outsAt0 m hH c t.val t.isLt).2.2.2.1 = colScaleBlk (A16 m c t) (G m c t) (U m c t) := by
  by_cases h0 : t.val % 14 = 0
  · by_cases h1 : cond0_1 (grid0.coords t) ((ms0_0 t).view.readAt (Elt Ideal) (Rect.unit (s := S1) ![0] S1.size inb_S1_S1_0).toLoadRect ((hs0_0 t).unread (iblk m c 0 t)) (Shape.Idx.first (numel1_S1.symm ▸ Nat.one_pos)))
    · have h1' := h1
      rw [read_word] at h1'
      rw [outsAt0_A m hH c t h0 h1]
      dsimp only
      frame_out
      rw [load_act m c t, load_G, load_U]
      refine canonS _ _ _ _ _ _ _ _ _ _ _ _ _ _ _ _ _ ?_ ?_ ?_ ?_ ?_ ?_ ?_ ?_
      · intro f
        show cScaleV (extractStridedSlice S128x256 ![0, 0] (k0_pay10 (A16 m c t) (G m c t) (A16 m c t) (U m c t)) slices_S1024x256_o0_0_S128x256) (ix3 0 0 f) = _
        exact slab_scale _ _ _ 0 _ (cols0 _ _ _) f
      · intro f
        show cScaleV (extractStridedSlice S128x256 ![128, 0] (k0_pay10 (A16 m c t) (G m c t) (A16 m c t) (U m c t)) slices_S1024x256_o128_0_S128x256) (ix3 0 0 f) = _
        exact slab_scale _ _ _ 1 _ (cols1 _ _ _) f
      · intro f
        show cScaleV (extractStridedSlice S128x256 ![256, 0] (k0_pay10 (A16 m c t) (G m c t) (A16 m c t) (U m c t)) slices_S1024x256_o256_0_S128x256) (ix3 0 0 f) = _
        exact slab_scale _ _ _ 2 _ (cols2 _ _ _) f
      · intro f
        show cScaleV (extractStridedSlice S128x256 ![384, 0] (k0_pay10 (A16 m c t) (G m c t) (A16 m c t) (U m c t)) slices_S1024x256_o384_0_S128x256) (ix3 0 0 f) = _
        exact slab_scale _ _ _ 3 _ (cols3 _ _ _) f
      · intro f
        show cScaleV (extractStridedSlice S128x256 ![512, 0] (k0_pay10 (A16 m c t) (G m c t) (A16 m c t) (U m c t)) slices_S1024x256_o512_0_S128x256) (ix3 0 0 f) = _
        exact slab_scale _ _ _ 4 _ (cols4 _ _ _) f
      · intro f
        show cScaleV (extractStridedSlice S128x256 ![640, 0] (k0_pay10 (A16 m c t) (G m c t) (A16 m c t) (U m c t)) slices_S1024x256_o640_0_S128x256) (ix3 0 0 f) = _
        exact slab_scale _ _ _ 5 _ (cols5 _ _ _) f
      · intro f
        show cScaleV (extractStridedSlice S128x256 ![768, 0] (k0_pay10 (A16 m c t) (G m c t) (A16 m c t) (U m c t)) slices_S1024x256_o768_0_S128x256) (ix3 0 0 f) = _
        exact slab_scale _ _ _ 6 _ (cols6 _ _ _) f
      · intro f
        show cScaleV (extractStridedSlice S128x256 ![896, 0] (k0_pay10 (A16 m c t) (G m c t) (A16 m c t) (U m c t)) slices_S1024x256_o896_0_S128x256) (ix3 0 0 f) = _
        exact slab_scale _ _ _ 7 _ (cols7 _ _ _) f
      · exact segA m c hk t h1'
    · have h1' := h1
      rw [read_word] at h1'
      rw [outsAt0_B m hH c t h0 h1]
      dsimp only
      frame_out
      rw [load_act m c t, load_G, load_U]
      refine canonS _ _ _ _ _ _ _ _ _ _ _ _ _ _ _ _ _ ?_ ?_ ?_ ?_ ?_ ?_ ?_ ?_
      · intro f
        show cScaleV (extractStridedSlice S128x256 ![0, 0] (k0_pay10 (A16 m c t) (G m c t) (A16 m c t) (U m c t)) slices_S1024x256_o0_0_S128x256) (ix3 0 0 f) = _
        exact slab_scale _ _ _ 0 _ (cols0 _ _ _) f
      · intro f
        show cScaleV (extractStridedSlice S128x256 ![128, 0] (k0_pay10 (A16 m c t) (G m c t) (A16 m c t) (U m c t)) slices_S1024x256_o128_0_S128x256) (ix3 0 0 f) = _
        exact slab_scale _ _ _ 1 _ (cols1 _ _ _) f
      · intro f
        show cScaleV (extractStridedSlice S128x256 ![256, 0] (k0_pay10 (A16 m c t) (G m c t) (A16 m c t) (U m c t)) slices_S1024x256_o256_0_S128x256) (ix3 0 0 f) = _
        exact slab_scale _ _ _ 2 _ (cols2 _ _ _) f
      · intro f
        show cScaleV (extractStridedSlice S128x256 ![384, 0] (k0_pay10 (A16 m c t) (G m c t) (A16 m c t) (U m c t)) slices_S1024x256_o384_0_S128x256) (ix3 0 0 f) = _
        exact slab_scale _ _ _ 3 _ (cols3 _ _ _) f
      · intro f
        show cScaleV (extractStridedSlice S128x256 ![512, 0] (k0_pay10 (A16 m c t) (G m c t) (A16 m c t) (U m c t)) slices_S1024x256_o512_0_S128x256) (ix3 0 0 f) = _
        exact slab_scale _ _ _ 4 _ (cols4 _ _ _) f
      · intro f
        show cScaleV (extractStridedSlice S128x256 ![640, 0] (k0_pay10 (A16 m c t) (G m c t) (A16 m c t) (U m c t)) slices_S1024x256_o640_0_S128x256) (ix3 0 0 f) = _
        exact slab_scale _ _ _ 5 _ (cols5 _ _ _) f
      · intro f
        show cScaleV (extractStridedSlice S128x256 ![768, 0] (k0_pay10 (A16 m c t) (G m c t) (A16 m c t) (U m c t)) slices_S1024x256_o768_0_S128x256) (ix3 0 0 f) = _
        exact slab_scale _ _ _ 6 _ (cols6 _ _ _) f
      · intro f
        show cScaleV (extractStridedSlice S128x256 ![896, 0] (k0_pay10 (A16 m c t) (G m c t) (A16 m c t) (U m c t)) slices_S1024x256_o896_0_S128x256) (ix3 0 0 f) = _
        exact slab_scale _ _ _ 7 _ (cols7 _ _ _) f
      · exact segB m c hk t h1' _ (ld_word m c t _ _) _ _ _ _
  · rw [outsAt0_C m hH c t h0]
    dsimp only
    frame_out
    rw [(Memref.isWhole_whole cc0_scratch2).read_unread, scratch m hH c hk _ _, A16_prev m c t h0, load_G, load_U]
    refine canonS _ _ _ _ _ _ _ _ _ _ _ _ _ _ _ _ _ ?_ ?_ ?_ ?_ ?_ ?_ ?_ ?_
    · intro f
      show cScaleV (extractStridedSlice S128x256 ![0, 0] (k0_pay10 (A16 m c t) (G m c t) (A16 m c t) (U m c t)) slices_S1024x256_o0_0_S128x256) (ix3 0 0 f) = _
      exact slab_scale _ _ _ 0 _ (cols0 _ _ _) f
    · intro f
      show cScaleV (extractStridedSlice S128x256 ![128, 0] (k0_pay10 (A16 m c t) (G m c t) (A16 m c t) (U m c t)) slices_S1024x256_o128_0_S128x256) (ix3 0 0 f) = _
      exact slab_scale _ _ _ 1 _ (cols1 _ _ _) f
    · intro f
      show cScaleV (extractStridedSlice S128x256 ![256, 0] (k0_pay10 (A16 m c t) (G m c t) (A16 m c t) (U m c t)) slices_S1024x256_o256_0_S128x256) (ix3 0 0 f) = _
      exact slab_scale _ _ _ 2 _ (cols2 _ _ _) f
    · intro f
      show cScaleV (extractStridedSlice S128x256 ![384, 0] (k0_pay10 (A16 m c t) (G m c t) (A16 m c t) (U m c t)) slices_S1024x256_o384_0_S128x256) (ix3 0 0 f) = _
      exact slab_scale _ _ _ 3 _ (cols3 _ _ _) f
    · intro f
      show cScaleV (extractStridedSlice S128x256 ![512, 0] (k0_pay10 (A16 m c t) (G m c t) (A16 m c t) (U m c t)) slices_S1024x256_o512_0_S128x256) (ix3 0 0 f) = _
      exact slab_scale _ _ _ 4 _ (cols4 _ _ _) f
    · intro f
      show cScaleV (extractStridedSlice S128x256 ![640, 0] (k0_pay10 (A16 m c t) (G m c t) (A16 m c t) (U m c t)) slices_S1024x256_o640_0_S128x256) (ix3 0 0 f) = _
      exact slab_scale _ _ _ 5 _ (cols5 _ _ _) f
    · intro f
      show cScaleV (extractStridedSlice S128x256 ![768, 0] (k0_pay10 (A16 m c t) (G m c t) (A16 m c t) (U m c t)) slices_S1024x256_o768_0_S128x256) (ix3 0 0 f) = _
      exact slab_scale _ _ _ 6 _ (cols6 _ _ _) f
    · intro f
      show cScaleV (extractStridedSlice S128x256 ![896, 0] (k0_pay10 (A16 m c t) (G m c t) (A16 m c t) (U m c t)) slices_S1024x256_o896_0_S128x256) (ix3 0 0 f) = _
      exact slab_scale _ _ _ 7 _ (cols7 _ _ _) f

/-- One point's effect on the block of row scales. -/
theorem scales (hk : ∃ k : Fin 8, RK m c = BitVec.ofNat 32 k.val) (t : Fin cfg0.N) (r : Fin 1024) (b : Fin 28) :
    (outsAt0 m hH c t.val t.isLt).2.1 (ix2 r b)
      = if b.val / 2 = t.val % 14 then rowScale (A16 m c t) (G m c t) (U m c t) r ⟨b.val % 2, Nat.mod_lt _ (by decide)⟩
        else if t.val % 14 = 0 then (k0_pay7 (F := Ideal)) (ix2 r b)
          else (outsAt0 m hH c (t.val - 1) (Nat.lt_of_le_of_lt (Nat.sub_le _ _) t.isLt)).2.1 (ix2 r b) := by
  by_cases h0 : t.val % 14 = 0
  · rw [if_pos h0]
    by_cases h1 : cond0_1 (grid0.coords t) ((ms0_0 t).view.readAt (Elt Ideal) (Rect.unit (s := S1) ![0] S1.size inb_S1_S1_0).toLoadRect ((hs0_0 t).unread (iblk m c 0 t)) (Shape.Idx.first (numel1_S1.symm ▸ Nat.one_pos)))
    · have h1' := h1
      rw [read_word] at h1'
      rw [outsAt0_A m hH c t h0 h1]
      dsimp only
      frame_out
      rw [load_act m c t, load_G, load_U, coords1]
      · exact stores _ _ _ _ (Nat.mod_lt _ (by decide)) _ r b
      · exact segA m c hk t h1'
    · have h1' := h1
      rw [read_word] at h1'
      rw [outsAt0_B m hH c t h0 h1]
      dsimp only
      frame_out
      rw [load_act m c t, load_G, load_U, coords1]
      · exact stores _ _ _ _ (Nat.mod_lt _ (by decide)) _ r b
      · exact segB m c hk t h1' _ (ld_word m c t _ _) _ _ _ _
  · rw [if_neg h0, outsAt0_C m hH c t h0]
    dsimp only
    frame_out
    rw [(Memref.isWhole_whole cc0_scratch2).read_unread, scratch m hH c hk _ _, A16_prev m c t h0, load_G, load_U, coords1]
    exact stores _ _ _ _ (Nat.mod_lt _ (by decide)) _ r b

end Cert.UpIdeal.Block

end

end
-- ==== Proof.UpArrays.lean ====
/-
The row scales the up kernel collects over the 14 points of a row of blocks, and the four result arrays.
-/
module

public import proofs.«01_k».proof.Proof.UpOuts

@[expose] public section

set_option maxRecDepth 16384

noncomputable section

namespace Cert.UpIdeal.Block

open Idealize.ShloMosaic Idealize.ShloMosaic.TcCoe Idealize.SL.Sem Cert.UpIdeal Cert.UpIdeal.Gen Cert.Quant Cert.Pieces

variable (m : (ℓ : Loc nD τ sig) → Buf (Elt Ideal) ℓ) (hH : Hyps m) (c : Dev nD)

theorem rowScale_eq (t : Fin cfg0.N) (r : Fin 1024) (j : Fin 2) (q : Fin 8192) (b : Fin 28) (hq : q.val = 1024 * (t.val / 14) + r.val)
    (hb : b.val = 2 * (t.val % 14) + j.val) :
    rowScale (A16 m c t) (G m c t) (U m c t) r j
      = kScale (Cert.UpSpec.rowTop (RK m c) (NC m c) (NS m c) (OC m c) (OS m c) (WC m c) (WS m c) q b) := by
  unfold rowScale Cert.UpSpec.rowTop
  congr 2
  funext l
  exact hb_eq m c t r _ q _ hq (by show 128 * b.val + l.val = 256 * (t.val % 14) + (128 * j.val + l.val); omega)

/-- The row scales collected so far. -/
theorem collected (hk : ∃ k : Fin 8, RK m c = BitVec.ofNat 32 k.val) (n : ℕ) : ∀ (hn : n < cfg0.N) (r : Fin 1024) (b : Fin 28) (q : Fin 8192)
    (_ : q.val = 1024 * (n / 14) + r.val) (_ : b.val / 2 ≤ n % 14), (outsAt0 m hH c n hn).2.1 (ix2 r b)
      = kScale (Cert.UpSpec.rowTop (RK m c) (NC m c) (NS m c) (OC m c) (OS m c) (WC m c) (WS m c) q b) := by
  induction n with
  | zero =>
    intro hn r b q hq hb
    refine (scales m hH c hk ⟨0, hn⟩ r b).trans ?_
    rw [if_pos (by show b.val / 2 = 0 % 14; omega)]
    exact rowScale_eq m c ⟨0, hn⟩ r _ q b hq (by show b.val = 2 * (0 % 14) + b.val % 2; omega)
  | succ n ih =>
    intro hn r b q hq hb
    refine (scales m hH c hk ⟨n + 1, hn⟩ r b).trans ?_
    by_cases hb' : b.val / 2 = (n + 1) % 14
    · rw [if_pos hb']
      exact rowScale_eq m c ⟨n + 1, hn⟩ r _ q b hq (by show b.val = 2 * ((n + 1) % 14) + b.val % 2; omega)
    · have h0 : ¬ (n + 1) % 14 = 0 := by omega
      rw [if_neg hb', if_neg h0]
      exact ih (by omega) r b q (by omega) (by omega)

theorem emb4 (t : Fin cfg0.N) (r : Fin 1024) (l : Fin 256) (h0 h1) :
    (win0_4.blk t).view.emb (ix2 r l) = ix2 ⟨1024 * (t.val / 14) + r.val, h0⟩ ⟨256 * (t.val % 14) + l.val, h1⟩ := by
  blk_ext! [idx t]

theorem emb5 (t : Fin cfg0.N) (r : Fin 1024) (b : Fin 28) (h0) :
    (win0_5.blk t).view.emb (ix2 r b) = ix2 ⟨1024 * (t.val / 14) + r.val, h0⟩ b := by
  blk_ext! [idx t]

theorem emb6 (t : Fin cfg0.N) (r : Fin 1024) (l : Fin 256) (h0 h1) :
    (win0_6.blk t).view.emb (ix2 r l) = ix2 ⟨1024 * (t.val / 14) + r.val, h0⟩ ⟨256 * (t.val % 14) + l.val, h1⟩ := by
  blk_ext! [idx t]

theorem emb7 (t : Fin cfg0.N) (j : Fin 8) (f : Fin 256) (h0 h1) :
    (win0_7.blk t).view.emb (ix3 0 j f) = ix3 ⟨t.val / 14, h0⟩ j ⟨256 * (t.val % 14) + f.val, h1⟩ := by
  blk_ext! [idx t]

/-- The array of row codes. -/
theorem arr4 (hk : ∃ k : Fin 8, RK m c = BitVec.ofNat 32 k.val) : (dats m hH 0 c).arrAt 4 cfg0.N
    = Cert.UpSpec.rowCodes (RK m c) (NC m c) (NS m c) (OC m c) (OS m c) (WC m c) (WS m c) := by
  refine Pipeline.Dat.arrAt_eq_of_covers (dats m hH 0 c) 4 _ (by decide +kernel) fun t hf y => ?_
  blk_simp
  rw [after0_4, blk4 m hH c hk]
  have hN := lt112 t
  obtain ⟨r, l, hy⟩ := pair2 (n0 := 1024) (n1 := 256) y
  rw [hy, emb4 t r l (by omega) (by omega)]
  unfold rowBlk Cert.UpSpec.rowCodes Cert.UpSpec.rowTop
  refine congrArg₂ code (hb_eq m c t r l _ _ rfl rfl) (congrArg kInv (congrArg tRow (funext fun x => hb_eq m c t r _ _ _ rfl ?_)))
  show 128 * ((256 * (t.val % 14) + l.val) / 128) + x.val = 256 * (t.val % 14) + (128 * (l.val / 128) + x.val)
  omega

/-- The array of row scales. -/
theorem arr5 (hk : ∃ k : Fin 8, RK m c = BitVec.ofNat 32 k.val) : (dats m hH 0 c).arrAt 5 cfg0.N
    = Cert.UpSpec.rowScales (RK m c) (NC m c) (NS m c) (OC m c) (OS m c) (WC m c) (WS m c) := by
  refine Pipeline.Dat.arrAt_eq_of_covers (dats m hH 0 c) 5 _ (by decide +kernel) fun t hf y => ?_
  blk_simp
  rw [after0_5]
  have hN := lt112 t
  have h13 : t.val % 14 = 13 := (by decide +kernel : ∀ t : Fin cfg0.N, (cfg0.win 5).flush t = true → t.val % 14 = 13) t hf
  obtain ⟨r, b, hy⟩ := pair2 (n0 := 1024) (n1 := 28) y
  rw [hy, emb5 t r b (by omega)]
  exact collected m hH c hk t.val t.isLt r b _ rfl (by omega)

/-- The array of column codes. -/
theorem arr6 (hk : ∃ k : Fin 8, RK m c = BitVec.ofNat 32 k.val) : (dats m hH 0 c).arrAt 6 cfg0.N
    = Cert.UpSpec.colCodes (RK m c) (NC m c) (NS m c) (OC m c) (OS m c) (WC m c) (WS m c) := by
  refine Pipeline.Dat.arrAt_eq_of_covers (dats m hH 0 c) 6 _ (by decide +kernel) fun t hf y => ?_
  blk_simp
  rw [after0_6, blk6 m hH c hk]
  have hN := lt112 t
  obtain ⟨r, l, hy⟩ := pair2 (n0 := 1024) (n1 := 256) y
  rw [hy, emb6 t r l (by omega) (by omega)]
  unfold colBlk Cert.UpSpec.colCodes Cert.UpSpec.colTop
  refine congrArg₂ code (hb_eq m c t r l _ _ rfl rfl) (congrArg kInv (congrArg tRow (funext fun x => hb_eq m c t _ l _ _ ?_ rfl)))
  show 128 * ((1024 * (t.val / 14) + r.val) / 128) + x.val = 1024 * (t.val / 14) + (128 * (r.val / 128) + x.val)
  omega

/-- The array of column scales. -/
theorem arr7 (hk : ∃ k : Fin 8, RK m c = BitVec.ofNat 32 k.val) : (dats m hH 0 c).arrAt 7 cfg0.N
    = Cert.UpSpec.colScales (RK m c) (NC m c) (NS m c) (OC m c) (OS m c) (WC m c) (WS m c) := by
  refine Pipeline.Dat.arrAt_eq_of_covers (dats m hH 0 c) 7 _ (by decide +kernel) fun t hf y => ?_
  blk_simp
  rw [after0_7, blk7 m hH c hk]
  have hN := lt112 t
  obtain ⟨a, j, f, hy⟩ := triple3 (n0 := 1) (n1 := 8) (n2 := 256) y
  obtain rfl : a = 0 := Subsingleton.elim _ _
  rw [hy, emb7 t j f (by omega) (by omega)]
  unfold colScaleBlk Cert.UpSpec.colScales Cert.UpSpec.colTop
  refine congrArg kScale (congrArg tRow (funext fun x => hb_eq m c t _ f _ _ ?_ rfl))
  show 128 * (8 * (t.val / 14) + j.val) + x.val = 1024 * (t.val / 14) + (128 * j.val + x.val)
  omega

end Cert.UpIdeal.Block

end

end
-- ==== Proof.UpRef.lean ====
/-
What the reference of the up projection computes: the codes and scales of `UpSpec`.
-/
module

public import proofs.«01_k».proof.Proof.Gen.UpRefIdeal.Value
public import proofs.«01_k».proof.Proof.UpSpec
public import proofs.«01_k».proof.Proof.Pieces
public import Idealize.ShloMosaic.Lib.Pointwise
public import Idealize.ShloMosaic.Lib.Pipeline.ValueKit

@[expose] public section

set_option maxRecDepth 16384

noncomputable section

namespace Cert.UpRefIdeal.Block

open Idealize.ShloMosaic Idealize.ShloMosaic.TcCoe Idealize.SL.Sem Cert.UpRefIdeal Cert.UpRefIdeal.Gen Cert.Quant Cert.Pieces

section
variable (rk : BitVec 32) (x1 : Vec Ideal S1024x8192 .fp8e4m3) (x3 : Vec Ideal S7x1024x8192 .fp8e4m3) (x2 : Vec Ideal S1024x64 .f32)
  (x4 : Vec Ideal S7x1024x64 .f32) (x5 : Vec Ideal S8192x7168 .fp8e4m3) (x6 : Vec Ideal S64x56 .f32)

/-- A choice between the three sources is `pick`. -/
theorem choice (s : ℕ) (hs : s < 8) (own : EReal) (oth : Fin 7 → EReal)
    (h1 : s < 7 → s < 7) (h2 : ¬ s < 7 → 6 + (s - 7) < 7) (h3 : s < 1 → s < 7) (h4 : ¬ s < 1 → s - 1 < 7) :
    Scalar.select (IntOp.cmpi CmpIPredicate.eq (BitVec.ofNat 32 s) rk) own
      (Scalar.select (IntOp.cmpi CmpIPredicate.slt (BitVec.ofNat 32 s) rk)
        (if h : s < 7 then oth ⟨s, h1 h⟩ else oth ⟨6 + (s - 7), h2 h⟩)
        (if h : s < 1 then oth ⟨s, h3 h⟩ else oth ⟨s - 1, h4 h⟩)) = Cert.UpSpec.pick rk ⟨s, hs⟩ own oth := by
  have hr : (if h : s < 7 then oth ⟨s, h1 h⟩ else oth ⟨6 + (s - 7), h2 h⟩) = oth ⟨min s 6, by omega⟩ := by
    split <;> exact congrArg oth (Fin.ext (by (try dsimp only) <;> omega))
  have hl : (if h : s < 1 then oth ⟨s, h3 h⟩ else oth ⟨s - 1, h4 h⟩) = oth ⟨s - 1, by omega⟩ := by
    split <;> exact congrArg oth (Fin.ext (by (try dsimp only) <;> omega))
  rw [hr, hl]
  have hslt : ∀ u v : EReal, Scalar.select (IntOp.cmpi CmpIPredicate.slt (BitVec.ofNat 32 s) rk) u v
      = if (BitVec.ofNat 32 s).slt rk then u else v := fun u v => by
    show Scalar.select (BitVec.ofBool ((BitVec.ofNat 32 s).slt rk)) u v = _
    cases (BitVec.ofNat 32 s).slt rk <;> rfl
  rw [hslt]
  exact select_eq _ _ _ _

/-- The gathered and dequantised activations. -/
theorem gathered (q : Fin 8192) (k : Fin 8192) :
    k0_pay5 (F := Ideal) rk x1 x3 rk x2 x4 (ix2 q k) = Cert.UpSpec.act rk x1 x2 x3 x4 q k := by
  pointwise [k0_pay5]
  unfold Cert.UpSpec.act Cert.UpSpec.seg Cert.UpSpec.segCode Cert.UpSpec.segScale
  refine congrArg₂ (fun a b : EReal => a * b) ?_ ?_
  · exact choice rk (q.val / 1024) (by omega) _ (fun o => x3 (ix3 o ⟨q.val % 1024, by omega⟩ k)) (by omega) (by omega) (by omega) (by omega)
  · exact choice rk (q.val / 1024) (by omega) _ (fun o => x4 (ix3 o ⟨q.val % 1024, by omega⟩ ⟨k.val / 128, by omega⟩)) (by omega) (by omega) (by omega) (by omega)

/-- The gated product, of any activations. -/
theorem gated_at (a : FVec Ideal S8192x8192 .bf16) (q : Fin 8192) (f : Fin 3584) :
    k0_pay6 a x5 x6 (ix2 q f) = Cert.UpSpec.gated
      (∑ k : Fin 8192, a (ix2 q k) * (x5 (ix2 k ⟨f.val, by omega⟩) * x6 (ix2 ⟨k.val / 128, by omega⟩ ⟨f.val / 128, by omega⟩)))
      (∑ k : Fin 8192, a (ix2 q k) * (x5 (ix2 k ⟨3584 + f.val, by omega⟩) * x6 (ix2 ⟨k.val / 128, by omega⟩ ⟨(3584 + f.val) / 128, by omega⟩))) := by
  pointwise [k0_pay6, Cert.UpSpec.gated]
  have e : ∀ n : ℕ, n / 128 * 128 + n % 128 = n := fun n => by omega
  simp only [e]

/-- The activations as the reference builds them. -/
abbrev Act : FVec Ideal S8192x8192 .bf16 := k0_pay5 (F := Ideal) rk x1 x3 rk x2 x4

theorem h_at (q : Fin 8192) (f : Fin 3584) : k0_pay6 (Act rk x1 x3 x2 x4) x5 x6 (ix2 q f) = (Cert.UpSpec.h rk x1 x2 x3 x4 x5 x6) q f := by
  rw [gated_at]
  unfold Cert.UpSpec.h Cert.UpSpec.y
  simp only [gathered]

theorem rows_at (q : Fin 8192) (b : Fin 28) (l : Fin 128) :
    k0_pay7 (Act rk x1 x3 x2 x4) x5 x6 (ix3 q b l) = (Cert.UpSpec.h rk x1 x2 x3 x4 x5 x6) q ⟨128 * b.val + l.val, by omega⟩ := by
  rw [← h_at]
  pointwise [k0_pay7]
  exact congrArg (fun z => k0_pay6 (Act rk x1 x3 x2 x4) x5 x6 (ix2 q z)) (Fin.ext (by show b.val * 128 + l.val = 128 * b.val + l.val; omega))

theorem cols_at (b : Fin 64) (l : Fin 128) (f : Fin 3584) :
    k0_pay12 (Act rk x1 x3 x2 x4) x5 x6 (ix3 b l f) = (Cert.UpSpec.h rk x1 x2 x3 x4 x5 x6) ⟨128 * b.val + l.val, by omega⟩ f := by
  rw [← h_at]
  pointwise [k0_pay12]
  exact congrArg (fun z => k0_pay6 (Act rk x1 x3 x2 x4) x5 x6 (ix2 z f)) (Fin.ext (by show b.val * 128 + l.val = 128 * b.val + l.val; omega))

/-- The greatest magnitude of every block of a row, over 448. -/
def rowTops (x : FVec Ideal S8192x28x128 .f32) : FVec Ideal S8192x28 .f32 :=
  mulf (multiReduction .maximumf [2] S8192x28 (absf x) 0xFF800000#32 reduces_S8192x28x128_S8192x28 (.inl rfl) rfl)
    (broadcast S8192x28 (Scalar.ofBits .f32 0x3B124925#32))
/-- The greatest magnitude of every block of a column, over 448; of magnitudes. -/
def colTops (x : FVec Ideal S64x128x3584 .f32) : FVec Ideal S64x3584 .f32 :=
  mulf (multiReduction .maximumf [1] S64x3584 x 0xFF800000#32 reduces_S64x128x3584_S64x3584 (.inl rfl) rfl)
    (broadcast S64x3584 (Scalar.ofBits .f32 0x3B124925#32))

theorem rowTops_apply (x : FVec Ideal S8192x28x128 .f32) (r : Fin 8192) (b : Fin 28) :
    rowTops x (ix2 r b) = tRow fun l => x (ix3 r b l) := by
  have hl : ∀ l : Fin 128, reduces_S8192x28x128_S8192x28.lift (ix2 r b) l = ix3 r b l := fun l => by
    funext a
    fin_cases a <;> rfl
  unfold rowTops
  have h : ∀ y : FVec Ideal S8192x28 .f32, mulf y (broadcast S8192x28 (Scalar.ofBits .f32 0x3B124925#32)) (ix2 r b)
      = FloatOps.mulf (F := Ideal) (φ := .f32) (y (ix2 r b)) (Scalar.ofBits .f32 0x3B124925#32) := fun y => rfl
  rw [h, Ideal.multiReduction_maximumf_single (φ := .f32) (absf x) 0xFF800000#32 reduces_S8192x28x128_S8192x28 (.inl rfl) rfl (ix2 r b)]
  have e : Finset.univ.fold max (Ideal.ofBits .f32 4286578688#32) (fun l : Fin 128 => absf x (reduces_S8192x28x128_S8192x28.lift (ix2 r b) l))
      = Finset.univ.fold max (Ideal.ofBits .f32 4286578688#32) (fun l : Fin 128 => FloatOps.absf (F := Ideal) (x (ix3 r b l))) :=
    Finset.fold_congr fun l _ => congrArg (absf x) (hl l)
  exact (congrArg (fun z => FloatOps.mulf (F := Ideal) (φ := .f32) z (Scalar.ofBits .f32 0x3B124925#32)) e).trans rfl

theorem colTops_apply (x : FVec Ideal S64x128x3584 .f32) (b : Fin 64) (f : Fin 3584) :
    colTops (absf x) (ix2 b f) = tRow fun l => x (ix3 b l f) := by
  have hl : ∀ l : Fin 128, reduces_S64x128x3584_S64x3584.lift (ix2 b f) l = ix3 b l f := fun l => by
    funext a
    fin_cases a <;> rfl
  unfold colTops
  have h : ∀ y : FVec Ideal S64x3584 .f32, mulf y (broadcast S64x3584 (Scalar.ofBits .f32 0x3B124925#32)) (ix2 b f)
      = FloatOps.mulf (F := Ideal) (φ := .f32) (y (ix2 b f)) (Scalar.ofBits .f32 0x3B124925#32) := fun y => rfl
  rw [h, Ideal.multiReduction_maximumf_single (φ := .f32) (absf x) 0xFF800000#32 reduces_S64x128x3584_S64x3584 (.inl rfl) rfl (ix2 b f)]
  have e : Finset.univ.fold max (Ideal.ofBits .f32 4286578688#32) (fun l : Fin 128 => absf x (reduces_S64x128x3584_S64x3584.lift (ix2 b f) l))
      = Finset.univ.fold max (Ideal.ofBits .f32 4286578688#32) (fun l : Fin 128 => FloatOps.absf (F := Ideal) (x (ix3 b l f))) :=
    Finset.fold_congr fun l _ => congrArg (absf x) (hl l)
  exact (congrArg (fun z => FloatOps.mulf (F := Ideal) (φ := .f32) z (Scalar.ofBits .f32 0x3B124925#32)) e).trans rfl

/-- One trip of the count. -/
theorem step_at {S : Shape} (t : FVec Ideal S .f32) (k : ℕ) (e : IVec S 32) (j : S.Idx) :
    select (cmpf .ole (exp2 (sitofp .f32 (broadcast S (Scf.iv 4294967170#32 1#32 k)))) t)
      (broadcast S (Scalar.addi (Scf.iv 4294967170#32 1#32 k) 1#32)) e j = rStep (t j) k (e j) := by
  show Scalar.select (BitVec.ofBool (decide (Ideal.exp2 (((Scf.iv 4294967170#32 1#32 k).toInt : ℝ) : EReal) ≤ t j))) _ _ = _
  unfold rStep
  by_cases h : Ideal.exp2 (((Scf.iv 4294967170#32 1#32 k).toInt : ℝ) : EReal) ≤ t j
  · rw [if_pos h, decide_eq_true h]; rfl
  · rw [if_neg h, decide_eq_false h]; rfl

/-- A fold whose every step is a step of the count is the count. -/
theorem fold_count {S : Shape} (t : EReal) (j : S.Idx) (n : ℕ) : ∀ (g : Fin n → IVec S 32 → IVec S 32)
    (_ : ∀ k e, g k e j = rStep t k.val (e j)) (e0 : IVec S 32) (_ : e0 j = 0#32),
    (List.finRange n).foldl (fun acc k => g k acc) e0 j = rCount t n := by
  induction n with
  | zero => intro g _ e0 h0; exact h0
  | succ n ih =>
    intro g hg e0 h0
    rw [List.finRange_succ_last, List.foldl_append, List.foldl_map]
    show g (Fin.last n) _ j = rStep t n (rCount t n)
    rw [hg, ← ih (fun k => g k.castSucc) (fun k e => hg k.castSucc e) e0 h0]
    rfl

theorem rowTrip_vec (a : FVec Ideal S8192x8192 .bf16) (k : Fin k0_t1_loop.trips) (e : IVec S8192x28 32) :
    k0_pay9 a x5 x6 k e = select (cmpf .ole (exp2 (sitofp .f32 (broadcast S8192x28 (Scf.iv 4294967170#32 1#32 k.val)))) (rowTops (k0_pay7 a x5 x6)))
      (broadcast S8192x28 (Scalar.addi (Scf.iv 4294967170#32 1#32 k.val) 1#32)) e := by
  unfold k0_pay9 rowTops
  rfl

theorem colTrip_vec (x : FVec Ideal S64x128x3584 .f32) (k : Fin k0_t2_loop.trips) (e : IVec S64x3584 32) :
    k0_pay2 x k e = select (cmpf .ole (exp2 (sitofp .f32 (broadcast S64x3584 (Scf.iv 4294967170#32 1#32 k.val)))) (colTops x))
      (broadcast S64x3584 (Scalar.addi (Scf.iv 4294967170#32 1#32 k.val) 1#32)) e := by
  unfold k0_pay2 colTops
  rfl

theorem rowTrip (k : Fin k0_t1_loop.trips) (e : IVec S8192x28 32) (r : Fin 8192) (b : Fin 28) :
    k0_pay9 (Act rk x1 x3 x2 x4) x5 x6 k e (ix2 r b) = rStep ((Cert.UpSpec.rowTop rk x1 x2 x3 x4 x5 x6) r b) k.val (e (ix2 r b)) := by
  have ht : rowTops (k0_pay7 (Act rk x1 x3 x2 x4) x5 x6) (ix2 r b) = (Cert.UpSpec.rowTop rk x1 x2 x3 x4 x5 x6) r b :=
    (rowTops_apply _ r b).trans (congrArg tRow (funext fun l => rows_at rk x1 x3 x2 x4 x5 x6 r b l))
  rw [← ht, rowTrip_vec]
  exact step_at _ _ _ _

theorem colTrip (k : Fin k0_t2_loop.trips) (e : IVec S64x3584 32) (b : Fin 64) (f : Fin 3584) :
    k0_pay2 (k0_pay13 (Act rk x1 x3 x2 x4) x5 x6) k e (ix2 b f) = rStep ((Cert.UpSpec.colTop rk x1 x2 x3 x4 x5 x6) b f) k.val (e (ix2 b f)) := by
  have ht : colTops (k0_pay13 (Act rk x1 x3 x2 x4) x5 x6) (ix2 b f) = (Cert.UpSpec.colTop rk x1 x2 x3 x4 x5 x6) b f :=
    (colTops_apply (k0_pay12 (Act rk x1 x3 x2 x4) x5 x6) b f).trans (congrArg tRow (funext fun l => cols_at rk x1 x3 x2 x4 x5 x6 b l f))
  rw [← ht, colTrip_vec]
  exact step_at _ _ _ _

theorem trips1 : k0_t1_loop.trips = 252 := by decide +kernel
theorem trips2 : k0_t2_loop.trips = 252 := by decide +kernel

/-- All trips of the rows' count. -/
theorem rowCount (r : Fin 8192) (b : Fin 28) :
    Scf.fold (fun (k : Fin k0_t1_loop.trips) e => k0_pay9 (Act rk x1 x3 x2 x4) x5 x6 k e) k0_pay8 (ix2 r b) = rCount ((Cert.UpSpec.rowTop rk x1 x2 x3 x4 x5 x6) r b) 252 := by
  rw [Scf.fold_eq, fold_count ((Cert.UpSpec.rowTop rk x1 x2 x3 x4 x5 x6) r b) (ix2 r b) _ _ (fun k e => rowTrip rk x1 x3 x2 x4 x5 x6 k e r b) _ rfl, trips1]

/-- All trips of the columns' count. -/
theorem colCount (b : Fin 64) (f : Fin 3584) :
    Scf.fold (fun (k : Fin k0_t2_loop.trips) e => k0_pay2 (k0_pay13 (Act rk x1 x3 x2 x4) x5 x6) k e) k0_pay1 (ix2 b f) = rCount ((Cert.UpSpec.colTop rk x1 x2 x3 x4 x5 x6) b f) 252 := by
  rw [Scf.fold_eq, fold_count ((Cert.UpSpec.colTop rk x1 x2 x3 x4 x5 x6) b f) (ix2 b f) _ _ (fun k e => colTrip rk x1 x3 x2 x4 x5 x6 k e b f) _ rfl, trips2]

/-- The row codes, given the count. -/
theorem rowCodes_of (e : IVec S8192x28 32) (h : ∀ (r : Fin 8192) (b : Fin 28), e (ix2 r b) = rCount ((Cert.UpSpec.rowTop rk x1 x2 x3 x4 x5 x6) r b) 252) :
    k0_pay11 (Act rk x1 x3 x2 x4) x5 x6 e = Cert.UpSpec.rowCodes rk x1 x2 x3 x4 x5 x6 := by
  funext y
  obtain ⟨r, q, rfl⟩ := pair2 (n0 := 8192) (n1 := 3584) y
  have hh' : ((Cert.UpSpec.h rk x1 x2 x3 x4 x5 x6) r ⟨128 * (q.val / 128) + q.val % 128, by omega⟩) = (Cert.UpSpec.h rk x1 x2 x3 x4 x5 x6) r q := congrArg ((Cert.UpSpec.h rk x1 x2 x3 x4 x5 x6) r) (Fin.ext (by show 128 * (q.val / 128) + q.val % 128 = q.val; omega))
  unfold Cert.UpSpec.rowCodes
  show _ = code ((Cert.UpSpec.h rk x1 x2 x3 x4 x5 x6) r q) (kInv ((Cert.UpSpec.rowTop rk x1 x2 x3 x4 x5 x6) r ⟨q.val / 128, by omega⟩))
  rw [kInv_eq, ← hh', ← rows_at rk x1 x3 x2 x4 x5 x6 r ⟨q.val / 128, by omega⟩ ⟨q.val % 128, by omega⟩]
  unfold rInv
  rw [← h]
  pointwise [k0_pay11]
  rfl

/-- The row scales, given the count. -/
theorem rowScales_of (e : IVec S8192x28 32) (h : ∀ (r : Fin 8192) (b : Fin 28), e (ix2 r b) = rCount ((Cert.UpSpec.rowTop rk x1 x2 x3 x4 x5 x6) r b) 252) :
    k0_pay10 (F := Ideal) e = Cert.UpSpec.rowScales rk x1 x2 x3 x4 x5 x6 := by
  funext y
  obtain ⟨r, b, rfl⟩ := pair2 (n0 := 8192) (n1 := 28) y
  unfold Cert.UpSpec.rowScales
  show _ = kScale ((Cert.UpSpec.rowTop rk x1 x2 x3 x4 x5 x6) r b)
  rw [kScale_eq]
  unfold rScale
  rw [← h]
  rfl

/-- The column codes, given the count. -/
theorem colCodes_of (e : IVec S64x3584 32) (h : ∀ (b : Fin 64) (f : Fin 3584), e (ix2 b f) = rCount ((Cert.UpSpec.colTop rk x1 x2 x3 x4 x5 x6) b f) 252) :
    k0_pay3 (k0_pay12 (Act rk x1 x3 x2 x4) x5 x6) e = Cert.UpSpec.colCodes rk x1 x2 x3 x4 x5 x6 := by
  funext y
  obtain ⟨r, q, rfl⟩ := pair2 (n0 := 8192) (n1 := 3584) y
  have hh' : ((Cert.UpSpec.h rk x1 x2 x3 x4 x5 x6) ⟨128 * (r.val / 128) + r.val % 128, by omega⟩ q) = (Cert.UpSpec.h rk x1 x2 x3 x4 x5 x6) r q :=
    congrArg (fun z => (Cert.UpSpec.h rk x1 x2 x3 x4 x5 x6) z q) (Fin.ext (by show 128 * (r.val / 128) + r.val % 128 = r.val; omega))
  unfold Cert.UpSpec.colCodes
  show _ = code ((Cert.UpSpec.h rk x1 x2 x3 x4 x5 x6) r q) (kInv ((Cert.UpSpec.colTop rk x1 x2 x3 x4 x5 x6) ⟨r.val / 128, by omega⟩ q))
  rw [kInv_eq, ← hh', ← cols_at rk x1 x3 x2 x4 x5 x6 ⟨r.val / 128, by omega⟩ ⟨r.val % 128, by omega⟩ q]
  unfold rInv
  rw [← h]
  pointwise [k0_pay3]
  rfl

/-- The column scales, given the count. -/
theorem colScales_of (e : IVec S64x3584 32) (h : ∀ (b : Fin 64) (f : Fin 3584), e (ix2 b f) = rCount ((Cert.UpSpec.colTop rk x1 x2 x3 x4 x5 x6) b f) 252) :
    k0_pay4 (F := Ideal) e = Cert.UpSpec.colScales rk x1 x2 x3 x4 x5 x6 := by
  funext y
  obtain ⟨a, b, f, rfl⟩ : ∃ (a : Fin 8) (b : Fin 8) (f : Fin 3584), y = ix3 a b f := ⟨y 0, y 1, y 2, by funext z; fin_cases z <;> rfl⟩
  unfold Cert.UpSpec.colScales
  show _ = kScale ((Cert.UpSpec.colTop rk x1 x2 x3 x4 x5 x6) ⟨8 * a.val + b.val, by omega⟩ f)
  rw [kScale_eq]
  unfold rScale
  rw [← h]
  pointwise [k0_pay4]
  have e' : (⟨a.val * 8 + b.val, by omega⟩ : Fin 64) = ⟨8 * a.val + b.val, by omega⟩ := Fin.ext (by show a.val * 8 + b.val = 8 * a.val + b.val; omega)
  first | rfl | (rw [e']; rfl) | (simp only [e']; rfl)

end

variable (m : (ℓ : Loc nD τ sig) → Buf (Elt Ideal) ℓ) (c : Dev nD)

theorem idx : ∀ t : Fin cfg0.N, win0_1.index t = ![0, 0] ∧ win0_2.index t = ![0, 0]
    ∧ win0_3.index t = ![0, 0, 0] ∧ win0_4.index t = ![0, 0, 0] ∧ win0_5.index t = ![0, 0] ∧ win0_6.index t = ![0, 0] :=
  (by decide +kernel : ∀ t : Fin grid0.N, _)
theorem idx0 : ∀ t : Fin cfg0.N, win0_0.index t = ![0] := (by decide +kernel : ∀ t : Fin grid0.N, _)

abbrev RK : BitVec 32 := (m ((c : Thread nD τ).loc main_arg0) : S1.Idx → BitVec 32) (ix1 0)
abbrev NC : S1024x8192.Idx → EReal := m ((c : Thread nD τ).loc main_arg1)
abbrev NS : S1024x64.Idx → EReal := m ((c : Thread nD τ).loc main_arg2)
abbrev OC : S7x1024x8192.Idx → EReal := m ((c : Thread nD τ).loc main_arg3)
abbrev OS : S7x1024x64.Idx → EReal := m ((c : Thread nD τ).loc main_arg4)
abbrev WC : S8192x7168.Idx → EReal := m ((c : Thread nD τ).loc main_arg5)
abbrev WS : S64x56.Idx → EReal := m ((c : Thread nD τ).loc main_arg6)

theorem in0 (t : Fin cfg0.N) : iblk m c 0 t (ix1 0) = RK m c := by blk_point [iblk, V, idx0 t]
theorem in1 (t : Fin cfg0.N) : iblk m c 1 t = NC m c := by blk_ext! [iblk, V, idx t]
theorem in2 (t : Fin cfg0.N) : iblk m c 2 t = NS m c := by blk_ext! [iblk, V, idx t]
theorem in3 (t : Fin cfg0.N) : iblk m c 3 t = OC m c := by blk_ext! [iblk, V, idx t]
theorem in4 (t : Fin cfg0.N) : iblk m c 4 t = OS m c := by blk_ext! [iblk, V, idx t]
theorem in5 (t : Fin cfg0.N) : iblk m c 5 t = WC m c := by blk_ext! [iblk, V, idx t]
theorem in6 (t : Fin cfg0.N) : iblk m c 6 t = WS m c := by blk_ext! [iblk, V, idx t]

/-- The four results, of any spelling of the rank. -/
theorem outs_of (w : BitVec 32) (hw : w = RK m c) :
    ((k0_pay11 (Act w (NC m c) (OC m c) (NS m c) (OS m c)) (WC m c) (WS m c) (Scf.fold (fun (k : Fin k0_t1_loop.trips) e => k0_pay9 (Act w (NC m c) (OC m c) (NS m c) (OS m c)) (WC m c) (WS m c) k e) k0_pay8),
      k0_pay10 (F := Ideal) (Scf.fold (fun (k : Fin k0_t1_loop.trips) e => k0_pay9 (Act w (NC m c) (OC m c) (NS m c) (OS m c)) (WC m c) (WS m c) k e) k0_pay8),
      k0_pay3 (k0_pay12 (Act w (NC m c) (OC m c) (NS m c) (OS m c)) (WC m c) (WS m c)) (Scf.fold (fun (k : Fin k0_t2_loop.trips) e => k0_pay2 (k0_pay13 (Act w (NC m c) (OC m c) (NS m c) (OS m c)) (WC m c) (WS m c)) k e) k0_pay1),
      k0_pay4 (F := Ideal) (Scf.fold (fun (k : Fin k0_t2_loop.trips) e => k0_pay2 (k0_pay13 (Act w (NC m c) (OC m c) (NS m c) (OS m c)) (WC m c) (WS m c)) k e) k0_pay1))
      : Vec Ideal S8192x3584 .fp8e4m3 × Vec Ideal S8192x28 .f32 × Vec Ideal S8192x3584 .fp8e4m3 × Vec Ideal S8x8x3584 .f32)
    = (Cert.UpSpec.rowCodes (RK m c) (NC m c) (NS m c) (OC m c) (OS m c) (WC m c) (WS m c),
      Cert.UpSpec.rowScales (RK m c) (NC m c) (NS m c) (OC m c) (OS m c) (WC m c) (WS m c),
      Cert.UpSpec.colCodes (RK m c) (NC m c) (NS m c) (OC m c) (OS m c) (WC m c) (WS m c),
      Cert.UpSpec.colScales (RK m c) (NC m c) (NS m c) (OC m c) (OS m c) (WC m c) (WS m c)) := by
  subst hw
  rw [rowCodes_of _ _ _ _ _ _ _ _ fun r b => rowCount _ _ _ _ _ _ _ r b, rowScales_of _ _ _ _ _ _ _ _ fun r b => rowCount _ _ _ _ _ _ _ r b,
    colCodes_of _ _ _ _ _ _ _ _ fun b f => colCount _ _ _ _ _ _ _ b f, colScales_of _ _ _ _ _ _ _ _ fun b f => colCount _ _ _ _ _ _ _ b f]

/-- The rank word the body loads. -/
theorem word (h : 0 < S1.numel) : (ms0_0 t0_0).view.read (Elt Ideal) ((hs0_0 t0_0).unread (iblk m c 0 t0_0)) (Shape.Idx.first h) = RK m c := by
  rw [(hs0_0 t0_0).read_unread]
  have e0 : (Shape.Idx.first h : S1.Idx) = ix1 0 := by
    funext a; fin_cases a; exact Subsingleton.elim (α := Fin 1) _ _
  exact (congrArg (iblk m c 0 t0_0) e0).trans (in0 m c t0_0)

/-- What the one point leaves. -/
theorem outs : outsAt0 m c t0_0 = (Cert.UpSpec.rowCodes (RK m c) (NC m c) (NS m c) (OC m c) (OS m c) (WC m c) (WS m c),
    Cert.UpSpec.rowScales (RK m c) (NC m c) (NS m c) (OC m c) (OS m c) (WC m c) (WS m c),
    Cert.UpSpec.colCodes (RK m c) (NC m c) (NS m c) (OC m c) (OS m c) (WC m c) (WS m c),
    Cert.UpSpec.colScales (RK m c) (NC m c) (NS m c) (OC m c) (OS m c) (WC m c) (WS m c)) := by
  unfold outsAt0
  frame_out
  rw [(hs0_1 t0_0).read_unread, (hs0_2 t0_0).read_unread, (hs0_3 t0_0).read_unread, (hs0_4 t0_0).read_unread, (hs0_5 t0_0).read_unread, (hs0_6 t0_0).read_unread, in1, in2, in3, in4, in5, in6]
  exact outs_of m c _ (word m c _)

theorem arr7_of (G : S8192x3584.Idx → EReal) (H : (outsAt0 m c t0_0).1 = G) : (dats m 0 c).arrAt 7 cfg0.N = G := by
  refine Pipeline.Dat.arrAt_eq_of_after_last (dats m 0 c) 7 t0_0 (by decide +kernel) _ fun j => ?_
  rw [after0_7, H]
  rfl

/-- The codes of the rows. -/
theorem arr7 : (dats m 0 c).arrAt 7 cfg0.N = Cert.UpSpec.rowCodes (RK m c) (NC m c) (NS m c) (OC m c) (OS m c) (WC m c) (WS m c) :=
  arr7_of m c _ (congrArg (fun p => p.1) (outs m c))

theorem arr8_of (G : S8192x28.Idx → EReal) (H : (outsAt0 m c t0_0).2.1 = G) : (dats m 0 c).arrAt 8 cfg0.N = G := by
  refine Pipeline.Dat.arrAt_eq_of_after_last (dats m 0 c) 8 t0_0 (by decide +kernel) _ fun j => ?_
  rw [after0_8, H]
  rfl

/-- The scales of the rows. -/
theorem arr8 : (dats m 0 c).arrAt 8 cfg0.N = Cert.UpSpec.rowScales (RK m c) (NC m c) (NS m c) (OC m c) (OS m c) (WC m c) (WS m c) :=
  arr8_of m c _ (congrArg (fun p => p.2.1) (outs m c))

theorem arr9_of (G : S8192x3584.Idx → EReal) (H : (outsAt0 m c t0_0).2.2.1 = G) : (dats m 0 c).arrAt 9 cfg0.N = G := by
  refine Pipeline.Dat.arrAt_eq_of_after_last (dats m 0 c) 9 t0_0 (by decide +kernel) _ fun j => ?_
  rw [after0_9, H]
  rfl

/-- The codes of the columns. -/
theorem arr9 : (dats m 0 c).arrAt 9 cfg0.N = Cert.UpSpec.colCodes (RK m c) (NC m c) (NS m c) (OC m c) (OS m c) (WC m c) (WS m c) :=
  arr9_of m c _ (congrArg (fun p => p.2.2.1) (outs m c))

theorem arr10_of (G : S8x8x3584.Idx → EReal) (H : (outsAt0 m c t0_0).2.2.2 = G) : (dats m 0 c).arrAt 10 cfg0.N = G := by
  refine Pipeline.Dat.arrAt_eq_of_after_last (dats m 0 c) 10 t0_0 (by decide +kernel) _ fun j => ?_
  rw [after0_10, H]
  rfl

/-- The scales of the columns. -/
theorem arr10 : (dats m 0 c).arrAt 10 cfg0.N = Cert.UpSpec.colScales (RK m c) (NC m c) (NS m c) (OC m c) (OS m c) (WC m c) (WS m c) :=
  arr10_of m c _ (congrArg (fun p => p.2.2.2) (outs m c))

end Cert.UpRefIdeal.Block

end

end
-- ==== Proof.UpClaim.lean ====
/-
The up projection: the kernel and its reference leave equal results.
-/
module

public import proofs.«01_k».proof.Defs
public import proofs.«01_k».proof.Proof.UpArrays
public import proofs.«01_k».proof.Proof.UpRef

@[expose] public section

noncomputable section

namespace Cert.UpClaim

open Idealize.ShloMosaic Idealize.ShloMosaic.TcCoe Idealize.SL.Sem

attribute [local instance] Cert.UpIdeal.Gen.facts Cert.UpRefIdeal.Gen.facts

/-- Both leave the codes and scales that `UpSpec` states, of the same arguments. -/
theorem equal [Cert.Pre_rank_in_range.Facts] : Cert.algebraic_UpIdeal_UpRefIdeal := by
  intro m g m' g' hpre hargs
  have hH := Cert.UpIdeal.Block.hyps_of_pre m hpre
  refine ⟨fun c => Cert.UpSpec.rowCodes (Cert.UpIdeal.Block.RK m c) (Cert.UpIdeal.Block.NC m c) (Cert.UpIdeal.Block.NS m c)
      (Cert.UpIdeal.Block.OC m c) (Cert.UpIdeal.Block.OS m c) (Cert.UpIdeal.Block.WC m c) (Cert.UpIdeal.Block.WS m c),
    fun c => Cert.UpSpec.rowScales (Cert.UpIdeal.Block.RK m c) (Cert.UpIdeal.Block.NC m c) (Cert.UpIdeal.Block.NS m c)
      (Cert.UpIdeal.Block.OC m c) (Cert.UpIdeal.Block.OS m c) (Cert.UpIdeal.Block.WC m c) (Cert.UpIdeal.Block.WS m c),
    fun c => Cert.UpSpec.colCodes (Cert.UpIdeal.Block.RK m c) (Cert.UpIdeal.Block.NC m c) (Cert.UpIdeal.Block.NS m c)
      (Cert.UpIdeal.Block.OC m c) (Cert.UpIdeal.Block.OS m c) (Cert.UpIdeal.Block.WC m c) (Cert.UpIdeal.Block.WS m c),
    fun c => Cert.UpSpec.colScales (Cert.UpIdeal.Block.RK m c) (Cert.UpIdeal.Block.NC m c) (Cert.UpIdeal.Block.NS m c)
      (Cert.UpIdeal.Block.OC m c) (Cert.UpIdeal.Block.OS m c) (Cert.UpIdeal.Block.WC m c) (Cert.UpIdeal.Block.WS m c), ?_, ?_⟩
  · refine (θ_run _ _ _).mono (fun r h c => ?_) (Cert.UpIdeal.Value.run_blocks m g hH)
    have hk := Cert.UpIdeal.Block.rank_of_pre m hpre c
    obtain ⟨h0, h1, h2, h3, ha⟩ := h c
    exact ⟨h0.trans (Cert.UpIdeal.Block.arr4 m hH c hk), h1.trans (Cert.UpIdeal.Block.arr5 m hH c hk),
      h2.trans (Cert.UpIdeal.Block.arr6 m hH c hk), h3.trans (Cert.UpIdeal.Block.arr7 m hH c hk), ha⟩
  · refine (θ_run _ _ _).mono (fun r h c => ?_) (Cert.UpRefIdeal.Value.run_blocks m' g')
    obtain ⟨h0, h1, h2, h3, ha⟩ := h c
    obtain ⟨e0, e1, e2, e3, e4, e5, e6⟩ := hargs c
    have rk : Cert.UpRefIdeal.Block.RK m' c = Cert.UpIdeal.Block.RK m c := congrFun e0 _
    have nc : Cert.UpRefIdeal.Block.NC m' c = Cert.UpIdeal.Block.NC m c := e1
    have ns : Cert.UpRefIdeal.Block.NS m' c = Cert.UpIdeal.Block.NS m c := e2
    have oc : Cert.UpRefIdeal.Block.OC m' c = Cert.UpIdeal.Block.OC m c := e3
    have os : Cert.UpRefIdeal.Block.OS m' c = Cert.UpIdeal.Block.OS m c := e4
    have wc : Cert.UpRefIdeal.Block.WC m' c = Cert.UpIdeal.Block.WC m c := e5
    have ws : Cert.UpRefIdeal.Block.WS m' c = Cert.UpIdeal.Block.WS m c := e6
    refine ⟨h0.trans ((Cert.UpRefIdeal.Block.arr7 m' c).trans ?_), h1.trans ((Cert.UpRefIdeal.Block.arr8 m' c).trans ?_),
      h2.trans ((Cert.UpRefIdeal.Block.arr9 m' c).trans ?_), h3.trans ((Cert.UpRefIdeal.Block.arr10 m' c).trans ?_), ha⟩
    · rw [rk, nc, ns, oc, os, wc, ws]
    · rw [rk, nc, ns, oc, os, wc, ws]
    · rw [rk, nc, ns, oc, os, wc, ws]
    · rw [rk, nc, ns, oc, os, wc, ws]

end Cert.UpClaim

end

end
-- ==== Proof.lean ====
module

public import proofs.«01_k».proof.Defs
public import proofs.«01_k».proof.Proof.Gen.Down
public import proofs.«01_k».proof.Proof.Gen.Down.Skeleton
public import proofs.«01_k».proof.Proof.Gen.Down.Loops
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Loops
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal

public import proofs.«01_k».proof.Proof.Gen.DownRefIdeal.Skeleton

public import proofs.«01_k».proof.Proof.Gen.DownRefIdeal.Loops

public import proofs.«01_k».proof.Proof.Gen.DownRefIdeal.Launch

public import proofs.«01_k».proof.Proof.Gen.DownRefIdeal.Points

public import proofs.«01_k».proof.Proof.Gen.DownRefIdeal.Frame

public import proofs.«01_k».proof.Proof.Gen.DownIdeal.Value
public import proofs.«01_k».proof.Proof.Gen.DownRefIdeal.Value
public import proofs.«01_k».proof.Proof.DownClaim
public import proofs.«01_k».proof.Proof.Gen.UpRefIdeal
public import proofs.«01_k».proof.Proof.Gen.UpRefIdeal.Skeleton
public import proofs.«01_k».proof.Proof.Gen.UpRefIdeal.Loops
public import proofs.«01_k».proof.Proof.Gen.UpRefIdeal.Launch
public import proofs.«01_k».proof.Proof.Gen.UpRefIdeal.Points
public import proofs.«01_k».proof.Proof.Gen.UpRefIdeal.Frame
public import proofs.«01_k».proof.Proof.Gen.UpRefIdeal.Value
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.UpFrame
public import proofs.«01_k».proof.Proof.UpHyps
public import proofs.«01_k».proof.Proof.UpClaim
public import Idealize.ShloMosaic.Adequacy
public import Idealize.ShloMosaic.Init

@[expose] public section

noncomputable section

namespace Cert.Proof

open Idealize.ShloMosaic Idealize.SL.Sem Cert.Down

/-- The precondition's side condition: a scalar broadcasts to one entry. -/
def rankFacts : Cert.Pre_rank_in_range.Facts := ⟨by decide⟩

attribute [local instance] rankFacts Cert.Up.Gen.facts Cert.UpIdeal.Gen.facts

/-- Every program runs to the end and keeps its arguments, the ideal kernels are the kernels over the extended
    reals, and kernels and references compute the same codes and scales. -/
theorem claim : Cert.Claim := ⟨Cert.Down.Gen.facts, Cert.DownIdeal.Gen.facts, Cert.DownRefIdeal.Gen.facts,
  Cert.Up.Gen.facts, Cert.UpIdeal.Gen.facts, Cert.UpRefIdeal.Gen.facts, rankFacts,
  fun m ρ _ => Cert.Down.Gen.frame m ρ, fun m ρ _ => Cert.DownIdeal.Gen.frame m ρ, fun m ρ _ => Cert.DownRefIdeal.Gen.frame m ρ,
  fun m ρ h => Cert.Up.Gen.frame m ρ (Cert.Up.Block.hyps_of_pre m h),
  fun m ρ h => Cert.UpIdeal.Gen.frame m ρ (Cert.UpIdeal.Block.hyps_of_pre m h),
  fun m ρ _ => Cert.UpRefIdeal.Gen.frame m ρ, fun m ρ _ => Cert.UpRefIdeal.Gen.frame m ρ,
  trivial, Cert.DownClaim.equal, trivial, Cert.UpClaim.equal⟩

end Cert.Proof

end
